-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)) (v10 : (c : Dev Cert.KernelIdeal.nD) → Buf (Elt Ideal) ((c.tc : Thread Cert.KernelIdeal.nD Cert.KernelIdeal.τ).loc Cert.KernelIdeal.main_v2_10)) (v11 : (c : Dev Cert.KernelIdeal.nD) → Buf (Elt Ideal) ((c.tc : Thread Cert.KernelIdeal.nD Cert.KernelIdeal.τ).loc Cert.KernelIdeal.main_v2_11)) (v12 : (c : Dev Cert.KernelIdeal.nD) → Buf (Elt Ideal) ((c.tc : Thread Cert.KernelIdeal.nD Cert.KernelIdeal.τ).loc Cert.KernelIdeal.main_v2_12)) (v13 : (c : Dev Cert.KernelIdeal.nD) → Buf (Elt Ideal) ((c.tc : Thread Cert.KernelIdeal.nD Cert.KernelIdeal.τ).loc Cert.KernelIdeal.main_v2_13)) (v14 : (c : Dev Cert.KernelIdeal.nD) → Buf (Elt Ideal) ((c.tc : Thread Cert.KernelIdeal.nD Cert.KernelIdeal.τ).loc Cert.KernelIdeal.main_v2_14)) (v15 : (c : Dev Cert.KernelIdeal.nD) → Buf (Elt Ideal) ((c.tc : Thread Cert.KernelIdeal.nD Cert.KernelIdeal.τ).loc Cert.KernelIdeal.main_v2_15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_v2_10) = v10 c
          ∧ r.2.mem ((c.tc : Thread Cert.KernelIdeal.nD Cert.KernelIdeal.τ).loc Cert.KernelIdeal.main_v2_11) = v11 c
          ∧ r.2.mem ((c.tc : Thread Cert.KernelIdeal.nD Cert.KernelIdeal.τ).loc Cert.KernelIdeal.main_v2_12) = v12 c
          ∧ r.2.mem ((c.tc : Thread Cert.KernelIdeal.nD Cert.KernelIdeal.τ).loc Cert.KernelIdeal.main_v2_13) = v13 c
          ∧ r.2.mem ((c.tc : Thread Cert.KernelIdeal.nD Cert.KernelIdeal.τ).loc Cert.KernelIdeal.main_v2_14) = v14 c
          ∧ r.2.mem ((c.tc : Thread Cert.KernelIdeal.nD Cert.KernelIdeal.τ).loc Cert.KernelIdeal.main_v2_15) = v15 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_v2_10) = v10 c
          ∧ r.2.mem ((c.tc : Thread Cert.ReferenceIdeal.nD Cert.ReferenceIdeal.τ).loc Cert.ReferenceIdeal.main_v2_11) = v11 c
          ∧ r.2.mem ((c.tc : Thread Cert.ReferenceIdeal.nD Cert.ReferenceIdeal.τ).loc Cert.ReferenceIdeal.main_v2_12) = v12 c
          ∧ r.2.mem ((c.tc : Thread Cert.ReferenceIdeal.nD Cert.ReferenceIdeal.τ).loc Cert.ReferenceIdeal.main_v2_13) = v13 c
          ∧ r.2.mem ((c.tc : Thread Cert.ReferenceIdeal.nD Cert.ReferenceIdeal.τ).loc Cert.ReferenceIdeal.main_v2_14) = v14 c
          ∧ r.2.mem ((c.tc : Thread Cert.ReferenceIdeal.nD Cert.ReferenceIdeal.τ).loc Cert.ReferenceIdeal.main_v2_15) = v15 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3584 : Shape := ⟨3, ![1, 256, 3584]⟩
abbrev S4608x3584 : Shape := ⟨2, ![4608, 3584]⟩
abbrev S1x256x4608 : Shape := ⟨3, ![1, 256, 4608]⟩
abbrev S28x128x128 : Shape := ⟨3, ![28, 128, 128]⟩
abbrev S28x128 : Shape := ⟨2, ![28, 128]⟩
abbrev S28 : Shape := ⟨1, ![28]⟩
abbrev S256x3584 : Shape := ⟨2, ![256, 3584]⟩
abbrev S256x4608 : Shape := ⟨2, ![256, 4608]⟩
abbrev S1x1 : Shape := ⟨2, ![1, 1]⟩
abbrev S1x4608 : Shape := ⟨2, ![1, 4608]⟩
abbrev S1x256 : Shape := ⟨2, ![1, 256]⟩
abbrev S28x16384 : Shape := ⟨2, ![28, 16384]⟩
abbrev S256x256 : Shape := ⟨2, ![256, 256]⟩
abbrev S4x128x128 : Shape := ⟨3, ![4, 128, 128]⟩
abbrev S14x256x256 : Shape := ⟨3, ![14, 256, 256]⟩
abbrev S3584x256 : Shape := ⟨2, ![3584, 256]⟩
abbrev S256x128 : Shape := ⟨2, ![256, 128]⟩
abbrev S3584x128 : Shape := ⟨2, ![3584, 128]⟩
abbrev S8x256 : Shape := ⟨2, ![8, 256]⟩
abbrev S128x128 : Shape := ⟨2, ![128, 128]⟩
abbrev S1x128x128 : Shape := ⟨3, ![1, 128, 128]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S32x1 : Shape := ⟨2, ![32, 1]⟩
abbrev S32x128 : Shape := ⟨2, ![32, 128]⟩
abbrev S32 : Shape := ⟨1, ![32]⟩
abbrev S32x8x256 : Shape := ⟨3, ![32, 8, 256]⟩
abbrev S1x128 : Shape := ⟨2, ![1, 128]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S1x8x256 : Shape := ⟨3, ![1, 8, 256]⟩

abbrev nBuf : Space → Nat
  | .hbm => 25
  | .vmem => 41
  | .smem => 4
  | _ => 0

abbrev bufTy : (tb : Table) → Fin (tcTables nBuf tb) → BufTy
  | .hbm, ⟨0, _⟩ => ⟨S1x256x3584, .bf16⟩
  | .hbm, ⟨1, _⟩ => ⟨S4608x3584, .bf16⟩
  | .hbm, ⟨2, _⟩ => ⟨S1x256x4608, .bf16⟩
  | .hbm, ⟨3, _⟩ => ⟨S28x128x128, .f32⟩
  | .hbm, ⟨4, _⟩ => ⟨S28x128x128, .i8⟩
  | .hbm, ⟨5, _⟩ => ⟨S28x128, .f32⟩
  | .hbm, ⟨6, _⟩ => ⟨S28, .f32⟩
  | .hbm, ⟨7, _⟩ => ⟨S256x3584, .bf16⟩
  | .hbm, ⟨8, _⟩ => ⟨S256x4608, .bf16⟩
  | .hbm, ⟨9, _⟩ => ⟨S28x128x128, .f32⟩
  | .hbm, ⟨10, _⟩ => ⟨S28x128x128, .f32⟩
  | .hbm, ⟨11, _⟩ => ⟨S28x128x128, .f32⟩
  | .hbm, ⟨12, _⟩ => ⟨S28x128x128, .f32⟩
  | .hbm, ⟨13, _⟩ => ⟨S28, .f32⟩
  | .hbm, ⟨14, _⟩ => ⟨S28, .f32⟩
  | .hbm, ⟨15, _⟩ => ⟨S1x1, .f32⟩
  | .hbm, ⟨16, _⟩ => ⟨S1x4608, .f32⟩
  | .hbm, ⟨17, _⟩ => ⟨S256x4608, .f32⟩
  | .hbm, ⟨18, _⟩ => ⟨S28x128x128, .f32⟩
  | .hbm, ⟨19, _⟩ => ⟨S256x3584, .i8⟩
  | .hbm, ⟨20, _⟩ => ⟨S1x256, .f32⟩
  | .hbm, ⟨21, _⟩ => ⟨S4608x3584, .i8⟩
  | .hbm, ⟨22, _⟩ => ⟨S1x4608, .f32⟩
  | .hbm, ⟨23, _⟩ => ⟨S28x16384, .i8⟩
  | .hbm, ⟨24, _⟩ => ⟨S28x128, .f32⟩
  | .local _ .vmem, ⟨0, _⟩ => ⟨S256x3584, .bf16⟩
  | .local _ .vmem, ⟨1, _⟩ => ⟨S256x3584, .bf16⟩
  | .local _ .vmem, ⟨2, _⟩ => ⟨S256x3584, .bf16⟩
  | .local _ .vmem, ⟨3, _⟩ => ⟨S256x256, .bf16⟩
  | .local _ .vmem, ⟨4, _⟩ => ⟨S256x256, .bf16⟩
  | .local _ .vmem, ⟨5, _⟩ => ⟨S28x128x128, .f32⟩
  | .local _ .vmem, ⟨6, _⟩ => ⟨S4x128x128, .i8⟩
  | .local _ .vmem, ⟨7, _⟩ => ⟨S4x128x128, .i8⟩
  | .local _ .vmem, ⟨8, _⟩ => ⟨S28x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S4x128x128, .f32⟩
  | .local _ .vmem, ⟨17, _⟩ => ⟨S1x4608, .f32⟩
  | .local _ .vmem, ⟨18, _⟩ => ⟨S256x256, .f32⟩
  | .local _ .vmem, ⟨19, _⟩ => ⟨S256x256, .f32⟩
  | .local _ .vmem, ⟨20, _⟩ => ⟨S4x128x128, .f32⟩
  | .local _ .vmem, ⟨21, _⟩ => ⟨S4x128x128, .f32⟩
  | .local _ .vmem, ⟨22, _⟩ => ⟨S256x3584, .i8⟩
  | .local _ .vmem, ⟨23, _⟩ => ⟨S1x256, .f32⟩
  | .local _ .vmem, ⟨24, _⟩ => ⟨S256x3584, .i8⟩
  | .local _ .vmem, ⟨25, _⟩ => ⟨S256x3584, .i8⟩
  | .local _ .vmem, ⟨26, _⟩ => ⟨S1x4608, .f32⟩
  | .local _ .vmem, ⟨27, _⟩ => ⟨S28x16384, .i8⟩
  | .local _ .vmem, ⟨28, _⟩ => ⟨S28x128, .f32⟩
  | .local _ .vmem, ⟨29, _⟩ => ⟨S14x256x256, .bf16⟩
  | .local _ .vmem, ⟨30, _⟩ => ⟨S256x3584, .f32⟩
  | .local _ .vmem, ⟨31, _⟩ => ⟨S256x3584, .bf16⟩
  | .local _ .vmem, ⟨32, _⟩ => ⟨S3584x256, .bf16⟩
  | .local _ .vmem, ⟨33, _⟩ => ⟨S3584x256, .bf16⟩
  | .local _ .vmem, ⟨34, _⟩ => ⟨S256x128, .f32⟩
  | .local _ .vmem, ⟨35, _⟩ => ⟨S256x3584, .bf16⟩
  | .local _ .vmem, ⟨36, _⟩ => ⟨S3584x256, .bf16⟩
  | .local _ .vmem, ⟨37, _⟩ => ⟨S256x3584, .f32⟩
  | .local _ .vmem, ⟨38, _⟩ => ⟨S28x128x128, .f32⟩
  | .local _ .vmem, ⟨39, _⟩ => ⟨S3584x128, .f32⟩
  | .local _ .vmem, ⟨40, _⟩ => ⟨S8x256, .f32⟩
  | .local _ .smem, ⟨0, _⟩ => ⟨S28, .f32⟩
  | .local _ .smem, ⟨1, _⟩ => ⟨S28, .f32⟩
  | .local _ .smem, ⟨2, _⟩ => ⟨S28, .f32⟩
  | .local _ .smem, ⟨3, _⟩ => ⟨S1x1, .f32⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v2_9 : Ref sig .tc := ⟨.hbm, 18, rfl⟩
abbrev main_v2_10 : Ref sig .tc := ⟨.hbm, 19, rfl⟩
abbrev main_v2_11 : Ref sig .tc := ⟨.hbm, 20, rfl⟩
abbrev main_v2_12 : Ref sig .tc := ⟨.hbm, 21, rfl⟩
abbrev main_v2_13 : Ref sig .tc := ⟨.hbm, 22, rfl⟩
abbrev main_v2_14 : Ref sig .tc := ⟨.hbm, 23, rfl⟩
abbrev main_v2_15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_scratch11 : Ref sig .tc := ⟨.vmem, 40, rfl⟩
abbrev cc0_stg6_0 : Ref sig .tc := ⟨.smem, 0, rfl⟩
abbrev cc0_stg11_0 : Ref sig .tc := ⟨.smem, 1, rfl⟩
abbrev cc0_stg12_0 : Ref sig .tc := ⟨.smem, 2, rfl⟩
abbrev cc0_stg13_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c18_i32 : BitVec 32 := 18#32
  let v3 : BitVec 1 := Scalar.cmpi .slt arg0 c18_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c256_i32 : BitVec 32 := 256#32
  let v4045 : BitVec 32 := Scalar.muli arg0 c256_i32
  v4045
def k0_off1 (i : grid0.Coords) : Fin 2 → Nat :=
  let c0_1882 : Index := 0#32
  let arg0 : BitVec 32 := BitVec.ofNat 32 (i 0).val
  let c256_i32 : BitVec 32 := 256#32
  let v4045 : BitVec 32 := Scalar.muli arg0 c256_i32
  let v4046 : BitVec 32 := v4045
  let v4051 : Index := Scalar.indexCast v4046
  ![0, v4051.toNat]
def k0_cond3 (i : grid0.Coords) : BitVec 1 :=
  let arg0 : BitVec 32 := BitVec.ofNat 32 (i 0).val
  let c18_i32_2 : BitVec 32 := 18#32
  let v6 : BitVec 1 := Scalar.cmpi .sge arg0 c18_i32_2
  let v7 : BitVec 32 := Scalar.extui v6
  let c0_i32_3 : BitVec 32 := 0#32
  let v8 : BitVec 1 := Scalar.cmpi .ne v7 c0_i32_3
  v8

def k0_mult2 (i : grid0.Coords) : BitVec 32 :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let c0_i32_6 : BitVec 32 := 0#32
  let v14 : BitVec 32 := Scalar.addi v13 c0_i32_6
  let c128_i32 : BitVec 32 := 128#32
  let v15 : BitVec 32 := Scalar.muli v14 c128_i32
  v15
def k0_off2 (i : grid0.Coords) (c0_i32_6 : BitVec 32) : Fin 3 → Nat :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let v17 : Index := Scalar.indexCast v14
  let c0 : Index := 0#32
  let c0_7 : Index := 0#32
  ![v17.toNat, 0, 0]
def k0_off3 (i : grid0.Coords) (c0_i32_6 : BitVec 32) : Fin 2 → Nat :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let c128_i32 : BitVec 32 := 128#32
  let v15 : BitVec 32 := Scalar.muli v14 c128_i32
  let v16 : BitVec 32 := v15
  let v20 : Index := Scalar.indexCast v16
  let c0_8 : Index := 0#32
  ![v20.toNat, 0]
def k0_off4 (i : grid0.Coords) (c0_i32_6 : BitVec 32) : Fin 2 → Nat :=
  let c0_9 : Index := 0#32
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let c128_i32 : BitVec 32 := 128#32
  let v15 : BitVec 32 := Scalar.muli v14 c128_i32
  let v16 : BitVec 32 := v15
  let v22 : Index := Scalar.indexCast v16
  ![0, v22.toNat]
def k0_off5 (i : grid0.Coords) (c0_i32_6 : BitVec 32) : Fin 2 → Nat :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let v36 : Index := Scalar.indexCast v14
  let c0_16 : Index := 0#32
  ![v36.toNat, 0]
def k0_off6 (i : grid0.Coords) (c0_i32_6 : BitVec 32) : Fin 1 → Nat :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let v68 : Index := Scalar.indexCast v14
  ![v68.toNat]
def k0_off7 (i : grid0.Coords) (c0_i32_6 : BitVec 32) : Fin 2 → Nat :=
  let arg0 : BitVec 32 := BitVec.ofNat 32 (i 0).val
  let c18_i32_5 : BitVec 32 := 18#32
  let v12 : BitVec 32 := Scalar.subi arg0 c18_i32_5
  let c4_i32 : BitVec 32 := 4#32
  let v13 : BitVec 32 := Scalar.muli v12 c4_i32
  let v14 : BitVec 32 := Scalar.addi v13 c0_i32_6
  let c128_i32 : BitVec 32 := 128#32
  let v15 : BitVec 32 := Scalar.muli v14 c128_i32
  let v16 : BitVec 32 := v15
  let v134 : Index := Scalar.indexCast v16
  let c0_54 : Index := 0#32
  ![v134.toNat, 0]
def k0_mult3 (i : grid0.Coords) : BitVec 32 :=
  let arg0 : BitVec 32 := BitVec.ofNat 32 (i 0).val
  let c18_i32_55 : BitVec 32 := 18#32
  let v138 : BitVec 32 := Scalar.subi arg0 c18_i32_55
  let c4_i32_56 : BitVec 32 := 4#32
  let v139 : BitVec 32 := Scalar.muli v138 c4_i32_56
  let c1_i32 : BitVec 32 := 1#32
  let v140 : BitVec 32 := Scalar.addi v139 c1_i32
  let c128_i32_57 : BitVec 32 := 128#32
  let v141 : BitVec 32 := Scalar.muli v140 c128_i32_57
  v141
def k0_mult4 (i : grid0.Coords) : BitVec 32 :=
  let arg0 : BitVec 32 := BitVec.ofNat 32 (i 0).val
  let c18_i32_107 : BitVec 32 := 18#32
  let v264 : BitVec 32 := Scalar.subi arg0 c18_i32_107
  let c4_i32_108 : BitVec 32 := 4#32
  let v265 : BitVec 32 := Scalar.muli v264 c4_i32_108
  let c2_i32 : BitVec 32 := 2#32
  let v266 : BitVec 32 := Scalar.addi v265 c2_i32
  let c128_i32_109 : BitVec 32 := 128#32
  let v267 : BitVec 32 := Scalar.muli v266 c128_i32_109
  v267
def k0_mult5 (i : grid0.Coords) : BitVec 32 :=
  let arg0 : BitVec 32 := BitVec.ofNat 32 (i 0).val
  let c18_i32_159 : BitVec 32 := 18#32
  let v390 : BitVec 32 := Scalar.subi arg0 c18_i32_159
  let c4_i32_160 : BitVec 32 := 4#32
  let v391 : BitVec 32 := Scalar.muli v390 c4_i32_160
  let c3_i32 : BitVec 32 := 3#32
  let v392 : BitVec 32 := Scalar.addi v391 c3_i32
  let c128_i32_161 : BitVec 32 := 128#32
  let v393 : BitVec 32 := Scalar.muli v392 c128_i32_161
  v393
def k0_cond4 (i : grid0.Coords) : BitVec 1 :=
  let arg0 : BitVec 32 := BitVec.ofNat 32 (i 0).val
  let c24_i32 : BitVec 32 := 24#32
  let v9 : BitVec 1 := Scalar.cmpi .eq arg0 c24_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_16 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S28x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S28x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S28 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S28 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4608 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x3584 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x3584 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x4608 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S28x16384 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S28x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S1x256x3584 : Shape := ⟨3, ![1, 256, 3584]⟩
abbrev S4608x3584 : Shape := ⟨2, ![4608, 3584]⟩
abbrev S1x256x4608 : Shape := ⟨3, ![1, 256, 4608]⟩
abbrev S28x128x128 : Shape := ⟨3, ![28, 128, 128]⟩
abbrev S28x128 : Shape := ⟨2, ![28, 128]⟩
abbrev S28 : Shape := ⟨1, ![28]⟩
abbrev S256x3584 : Shape := ⟨2, ![256, 3584]⟩
abbrev S256x4608 : Shape := ⟨2, ![256, 4608]⟩
abbrev S1x1 : Shape := ⟨2, ![1, 1]⟩
abbrev S1x4608 : Shape := ⟨2, ![1, 4608]⟩
abbrev S1x256 : Shape := ⟨2, ![1, 256]⟩
abbrev S28x16384 : Shape := ⟨2, ![28, 16384]⟩
abbrev S256x28x128 : Shape := ⟨3, ![256, 28, 128]⟩
abbrev S4608x28x128 : Shape := ⟨3, ![4608, 28, 128]⟩
abbrev S28x256x128 : Shape := ⟨3, ![28, 256, 128]⟩
abbrev S28x4608x128 : Shape := ⟨3, ![28, 4608, 128]⟩
abbrev S256 : Shape := ⟨1, ![256]⟩
abbrev S256x1 : Shape := ⟨2, ![256, 1]⟩
abbrev S4608 : Shape := ⟨1, ![4608]⟩
abbrev S4608x1 : Shape := ⟨2, ![4608, 1]⟩
abbrev S1 : Shape := ⟨1, ![1]⟩
abbrev S1x1x1 : Shape := ⟨3, ![1, 1, 1]⟩
abbrev S28x128x1 : Shape := ⟨3, ![28, 128, 1]⟩
abbrev S28x1x1 : Shape := ⟨3, ![28, 1, 1]⟩

abbrev nBuf : Space → Nat
  | .hbm => 25
  | .vmem => 23
  | .smem => 0
  | _ => 0

abbrev bufTy : (tb : Table) → Fin (tcTables nBuf tb) → BufTy
  | .hbm, ⟨0, _⟩ => ⟨S1x256x3584, .bf16⟩
  | .hbm, ⟨1, _⟩ => ⟨S4608x3584, .bf16⟩
  | .hbm, ⟨2, _⟩ => ⟨S1x256x4608, .bf16⟩
  | .hbm, ⟨3, _⟩ => ⟨S28x128x128, .f32⟩
  | .hbm, ⟨4, _⟩ => ⟨S28x128x128, .i8⟩
  | .hbm, ⟨5, _⟩ => ⟨S28x128, .f32⟩
  | .hbm, ⟨6, _⟩ => ⟨S28, .f32⟩
  | .hbm, ⟨7, _⟩ => ⟨S256x3584, .bf16⟩
  | .hbm, ⟨8, _⟩ => ⟨S256x4608, .bf16⟩
  | .hbm, ⟨9, _⟩ => ⟨S28x128x128, .f32⟩
  | .hbm, ⟨10, _⟩ => ⟨S28x128x128, .f32⟩
  | .hbm, ⟨11, _⟩ => ⟨S28x128x128, .f32⟩
  | .hbm, ⟨12, _⟩ => ⟨S28x128x128, .f32⟩
  | .hbm, ⟨13, _⟩ => ⟨S28, .f32⟩
  | .hbm, ⟨14, _⟩ => ⟨S28, .f32⟩
  | .hbm, ⟨15, _⟩ => ⟨S1x1, .f32⟩
  | .hbm, ⟨16, _⟩ => ⟨S1x4608, .f32⟩
  | .hbm, ⟨17, _⟩ => ⟨S256x4608, .f32⟩
  | .hbm, ⟨18, _⟩ => ⟨S28x128x128, .f32⟩
  | .hbm, ⟨19, _⟩ => ⟨S256x3584, .i8⟩
  | .hbm, ⟨20, _⟩ => ⟨S1x256, .f32⟩
  | .hbm, ⟨21, _⟩ => ⟨S4608x3584, .i8⟩
  | .hbm, ⟨22, _⟩ => ⟨S1x4608, .f32⟩
  | .hbm, ⟨23, _⟩ => ⟨S28x16384, .i8⟩
  | .hbm, ⟨24, _⟩ => ⟨S28x128, .f32⟩
  | .local _ .vmem, ⟨0, _⟩ => ⟨S256x3584, .bf16⟩
  | .local _ .vmem, ⟨1, _⟩ => ⟨S4608x3584, .bf16⟩
  | .local _ .vmem, ⟨2, _⟩ => ⟨S256x4608, .bf16⟩
  | .local _ .vmem, ⟨3, _⟩ => ⟨S28x128x128, .f32⟩
  | .local _ .vmem, ⟨4, _⟩ => ⟨S28x128x128, .i8⟩
  | .local _ .vmem, ⟨5, _⟩ => ⟨S28x128, .f32⟩
  | .local _ .vmem, ⟨6, _⟩ => ⟨S28, .f32⟩
  | .local _ .vmem, ⟨7, _⟩ => ⟨S28x128x128, .f32⟩
  | .local _ .vmem, ⟨8, _⟩ => ⟨S28x128x128, .f32⟩
  | .local _ .vmem, ⟨9, _⟩ => ⟨S28x128x128, .f32⟩
  | .local _ .vmem, ⟨10, _⟩ => ⟨S28x128x128, .f32⟩
  | .local _ .vmem, ⟨11, _⟩ => ⟨S28, .f32⟩
  | .local _ .vmem, ⟨12, _⟩ => ⟨S28, .f32⟩
  | .local _ .vmem, ⟨13, _⟩ => ⟨S1x1, .f32⟩
  | .local _ .vmem, ⟨14, _⟩ => ⟨S1x4608, .f32⟩
  | .local _ .vmem, ⟨15, _⟩ => ⟨S256x4608, .f32⟩
  | .local _ .vmem, ⟨16, _⟩ => ⟨S28x128x128, .f32⟩
  | .local _ .vmem, ⟨17, _⟩ => ⟨S256x3584, .i8⟩
  | .local _ .vmem, ⟨18, _⟩ => ⟨S1x256, .f32⟩
  | .local _ .vmem, ⟨19, _⟩ => ⟨S4608x3584, .i8⟩
  | .local _ .vmem, ⟨20, _⟩ => ⟨S1x4608, .f32⟩
  | .local _ .vmem, ⟨21, _⟩ => ⟨S28x16384, .i8⟩
  | .local _ .vmem, ⟨22, _⟩ => ⟨S28x128, .f32⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v2_9 : Ref sig .tc := ⟨.hbm, 18, rfl⟩
abbrev main_v2_10 : Ref sig .tc := ⟨.hbm, 19, rfl⟩
abbrev main_v2_11 : Ref sig .tc := ⟨.hbm, 20, rfl⟩
abbrev main_v2_12 : Ref sig .tc := ⟨.hbm, 21, rfl⟩
abbrev main_v2_13 : Ref sig .tc := ⟨.hbm, 22, rfl⟩
abbrev main_v2_14 : Ref sig .tc := ⟨.hbm, 23, rfl⟩
abbrev main_v2_15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x128x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S28x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S28x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S28x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S28x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S28 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S28 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x4608 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x4608 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S28x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x3584 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4608x3584 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x4608 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S28x16384 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S28x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Proof.Run.lean ====
/-
  Programs that only load and store, read as functions of the memory.

  `Hd` says what a load and a store mean in some type of answers `R`; `fold` reads a program through
  one. The two readings used are `stH` (the answer is a property of the memory the program starts at:
  the postcondition holds of what it leaves) and `safeH` (the answer is the proposition that only listed
  buffers are touched). `wp_fold` turns the two into a weakest precondition under ownership of the
  buffers. A reading is generic in the handler, so that a printed program and a compact one with loops
  are compared once, by unfolding, for every reading.
-/
module

public import Idealize.ShloMosaic.Lib.Pipeline.Frame

@[expose] public section

noncomputable section

namespace Spin

open Idealize.ShloMosaic Idealize.SL Idealize.SL.Sem
open Idealize.SL.RA Idealize.SL.ProofMode
open Idealize.SL.BI (sProp bigSep bigSep_insert bigSep_mono bigSep_empty bigSep_congr bigSep_erase)
open scoped Idealize.SL.BI
open Idealize.SL.BI.BIBase Idealize.SL.BI.Laws

universe u

variable {nD : Nat} {τ : Topo} {sig : RefSig} {Val : EltTy → Type} {Λ : Labels}

/-- What a load and a store mean, in answers `R`. -/
structure Hd (sig : RefSig) (Val : EltTy → Type) (R : Type u) where
  /-- A load of `r` through `m`, continued at what it reads. -/
  LD : ∀ {cs : CoreSpace} {s : Shape} {e : EltTy}, Memref sig .tc cs s e → (r : LoadRect s) →
    ((r.shape.Idx → Val e) → R) → R
  /-- A store of `w` into `r` through `m`, then the rest. -/
  ST : ∀ {cs : CoreSpace} {s : Shape} {e : EltTy}, Memref sig .tc cs s e → (r : Rect s) →
    (r.shape.Idx → Val e) → Finset r.shape.Idx → R → R
  /-- Any other effect. -/
  bad : R

/-- One effect through a handler. -/
def step {R : Type u} (h : Hd sig Val R) {β : Type} (e : TpuEff nD τ sig Val Λ .tc β) : (β → R) → R :=
  match e with
  | .load m r _ => fun K => h.LD m r K
  | .store m r w M _ _ => fun K => h.ST m r w M (K ⟨⟩)
  | _ => fun _ => h.bad

/-- A program through a handler. -/
def fold {R : Type u} (h : Hd sig Val R) {α : Type} (p : Prog (TpuEff nD τ sig Val Λ .tc) α) : (α → R) → R :=
  Prog.rec (motive := fun _ => (α → R) → R) (fun a K => K a) (fun e _ ih K => step h e fun x => ih x K) p

/-- Through a handler, a program followed by another is the first with the second as its continuation. -/
theorem fold_bind {R : Type u} (h : Hd sig Val R) {α β : Type} (p : Prog (TpuEff nD τ sig Val Λ .tc) α)
    (k : α → Prog (TpuEff nD τ sig Val Λ .tc) β) (K : β → R) :
    fold h (p >>= k) K = fold h p fun a => fold h (k a) K := by
  induction p with
  | ret a => rfl
  | op e c ih => exact congrArg (step h e) (funext fun x => ih x)

/-- Through a handler, a choice of programs is the choice of the two. -/
theorem fold_ite {R : Type u} (h : Hd sig Val R) {α : Type} (c : Prop) [Decidable c]
    (p : c → Prog (TpuEff nD τ sig Val Λ .tc) α) (q : ¬ c → Prog (TpuEff nD τ sig Val Λ .tc) α) (K : α → R) :
    fold h (dite c p q) K = if hc : c then fold h (p hc) K else fold h (q hc) K := by
  split <;> rfl

/-- A memory of one core: contents of every buffer it names. -/
abbrev St (sig : RefSig) (Val : EltTy → Type) := (b : Ref sig .tc) → b.ty.Contents Val

/-- The memory after a store. -/
def put {cs : CoreSpace} {s : Shape} {e : EltTy} (m : Memref sig .tc cs s e) (r : Rect s) (w : r.shape.Idx → Val e)
    (M : Finset r.shape.Idx) (σ : St sig Val) : St sig Val :=
  Function.update σ m.view.ref ((m.access r).write Val (σ m.view.ref) w M)

/-- What a memref reads of a memory. -/
def get {cs : CoreSpace} {s : Shape} {e : EltTy} (m : Memref sig .tc cs s e) (σ : St sig Val) : s.Idx → Val e :=
  m.view.read Val (σ m.view.ref)

/-- The reading in properties of the memory. -/
def stH : Hd sig Val (St sig Val → Prop) where
  LD m r K σ := K (fun x => get m σ (r.idx x)) σ
  ST m r w M K σ := K (put m r w M σ)
  bad _ := True

/-- Only buffers of `okL` are read and of `okS` written. -/
def safeH (okL okS : Ref sig .tc → Prop) : Hd sig Val Prop where
  LD m _ K := okL m.view.ref ∧ ∀ x, K x
  ST m _ _ _ K := okS m.view.ref ∧ K
  bad := False

/-- Every reading ends where nothing is asked of the end. -/
theorem fold_true {α : Type} (p : Prog (TpuEff nD τ sig Val Λ .tc) α) (σ : St sig Val) : fold stH p (fun _ _ => True) σ := by
  induction p generalizing σ with
  | ret a => trivial
  | op e c ih =>
    cases e with
    | load m r h => exact ih _ _
    | store m r w M h h' => exact ih _ _
    | _ => trivial

section Get

variable {cs cs' : CoreSpace} {s s' : Shape} {e e' : EltTy}

/-- A store into one buffer leaves what is read of another. -/
theorem get_put_ne {m : Memref sig .tc cs s e} {m' : Memref sig .tc cs' s' e'} (h : m'.view.ref ≠ m.view.ref)
    (r : Rect s) (w : r.shape.Idx → Val e) (M : Finset r.shape.Idx) (σ : St sig Val) :
    get m' (put m r w M σ) = get m' σ := by
  unfold get put; rw [Function.update_of_ne h]

/-- A store is read back at the places it covers. -/
theorem get_put_emb (m : Memref sig .tc cs s e) (r : Rect s) (w : r.shape.Idx → Val e) (σ : St sig Val) (x : r.shape.Idx) :
    get m (put m r w Finset.univ σ) (r.emb x) = w x := by
  unfold get put; rw [Function.update_self]
  exact View.read_slice_write_emb _ _ _ (Finset.mem_univ _)

/-- A store leaves the places it does not cover. -/
theorem get_put_of_not_mem (m : Memref sig .tc cs s e) (r : Rect s) (w : r.shape.Idx → Val e) (σ : St sig Val) {y : s.Idx}
    (hy : y ∉ Finset.univ.map r.emb) :
    get m (put m r w Finset.univ σ) y = get m σ y := by
  unfold get put; rw [Function.update_self]
  exact View.read_slice_write_of_not_mem _ _ _ _ hy

end Get

section Wp

variable {Ix : Type} [DecidableEq Ix] {Name : Type} [DecidableEq Name] {U : Type} [URA U] {Lvl : Type} [Preorder Lvl]
local notation "𝕄" => MT nD τ sig Ix Val Name U Lvl

/-- The buffers `S` of core `c`, whole, at a memory's contents. -/
def own (c : Dev nD) (S : Finset (Ref sig .tc)) (σ : St sig Val) : sProp 𝕄 :=
  bigSep S fun b => (((c.tc : Thread nD τ).loc b) ↦{fullShare} σ b)

/-- Owning a set of buffers is owning one of them and the others. -/
theorem own_take (c : Dev nD) {S : Finset (Ref sig .tc)} (σ : St sig Val) {b : Ref sig .tc} (hb : b ∈ S) :
    (own c S σ : sProp 𝕄) = iprop((((c.tc : Thread nD τ).loc b) ↦{fullShare} σ b) ∗ own c (S.erase b) σ) :=
  bigSep_erase hb

/-- What is owned of the other buffers does not depend on the contents of one. -/
theorem own_erase_update (c : Dev nD) (S : Finset (Ref sig .tc)) (σ : St sig Val) (b : Ref sig .tc) (f : b.ty.Contents Val) :
    (own c (S.erase b) (Function.update σ b f) : sProp 𝕄) = own c (S.erase b) σ := by
  unfold own
  refine bigSep_congr fun x hx => ?_
  rw [Function.update_of_ne (Finset.ne_of_mem_erase hx)]

/-- A program that only touches owned buffers runs to the memory its reading says, and leaves what it does
    not write. -/
theorem wp_fold {defs : Defs nD τ sig Val Λ} (𝒱 : Variants) (c : Dev nD) (bd : Option 𝒱.V)
    {Γ : PendingWaitsCtx sig Ix} (E : Set Name) {S : Finset (Ref sig .tc)} {okL okS : Ref sig .tc → Prop}
    (hL : ∀ b, okL b → b ∈ S) (hS : ∀ b, okS b → b ∈ S) {α : Type}
    (p : Prog (TpuEff nD τ sig Val Λ .tc) α) (Q : α → St sig Val → Prop) (σ : St sig Val)
    (hsafe : fold (safeH okL okS) p fun _ => True) (hrun : fold stH p Q σ) :
    (own c S σ : sProp 𝕄) ⊢ wp frame (wpE' defs 𝒱 (c.tc : Thread nD τ) bd Γ) E p
      fun a => iprop(∃ σ' : St sig Val, ⌜Q a σ' ∧ ∀ b, ¬ okS b → σ' b = σ b⌝ ∗ own c S σ') := by
  induction p generalizing σ with
  | ret a =>
    rw [wp_ret]
    refine Entails.trans ?_ BI.fupd_intro
    iintro H
    iexists σ
    isplitr
    · ipureintro; exact ⟨hrun, fun _ _ => rfl⟩
    · iexact H
  | op e k ih =>
    cases e with
    | load m r hl =>
      obtain ⟨hok, hk⟩ := hsafe
      have hm := hL _ hok
      rw [own_take c σ hm]
      iintro ⟨H, R⟩
      iapply (wp_load (defs := defs) 𝒱 (c.tc : Thread nD τ) bd (Γ := Γ) E (m := m) (r := r) (hl := hl) (k := k)
        (S := Finset.univ) (f := σ m.view.ref) (Finset.subset_univ _)) $$ H
      iintro H
      have := ih (m.view.readAt Val r (σ m.view.ref)) σ (hk _) hrun
      iapply this
      rw [own_take c σ hm]
      isplitl [H]
      · iexact H
      · iexact R
    | store m r w M hx hm' =>
      obtain ⟨hok, hk⟩ := hsafe
      have hm := hS _ hok
      rw [own_take c σ hm]
      iintro ⟨H, R⟩
      iapply (wp_store (defs := defs) 𝒱 (c.tc : Thread nD τ) bd (Γ := Γ) E (m := m) (r := r) (w := w) (Mk := M) (hx := hx)
        (hm := hm') (k := k) (S := Finset.univ) (f := σ m.view.ref) (Finset.subset_univ _)) $$ H
      iintro H
      have h1 := ih ⟨⟩ (put m r w M σ) hk hrun
      have h2 : (own c S (put m r w M σ) : sProp 𝕄)
          = iprop((((c.tc : Thread nD τ).loc m.view.ref) ↦{fullShare} ((m.access r).write Val (σ m.view.ref) w M)) ∗ own c (S.erase m.view.ref) σ) := by
        rw [own_take c _ hm]; unfold put; rw [own_erase_update, Function.update_self]
      have h3 : iprop((((c.tc : Thread nD τ).loc m.view.ref) ↦{fullShare} ((m.access r).write Val (σ m.view.ref) w M)) ∗ own c (S.erase m.view.ref) σ)
          ⊢ (wp frame (wpE' defs 𝒱 (c.tc : Thread nD τ) bd Γ) E (k ⟨⟩)
              fun a => iprop(∃ σ' : St sig Val, ⌜Q a σ' ∧ ∀ b, ¬ okS b → σ' b = σ b⌝ ∗ own c S σ') : sProp 𝕄) := by
        rw [← h2]
        refine h1.trans (wp_mono _ _ _ fun a => ?_)
        iintro ⟨%σ', %h, H⟩
        iexists σ'
        isplitr
        · ipureintro
          refine ⟨h.1, fun b hb => (h.2 b hb).trans ?_⟩
          unfold put; exact Function.update_of_ne (fun hbb : b = m.view.ref => hb (by rw [hbb]; exact hok)) _ _
        · iexact H
      iapply h3
      isplitl [H]
      · iexact H
      · iexact R
    | _ => exact hsafe.elim

end Wp

/-- The last `n` of `N` rounds of a body that carries a value. -/
def loopR {R : Type u} {A : Type} (N : Nat) (body : Fin N → A → (A → R) → R) (n : Nat) : n ≤ N → A → (A → R) → R :=
  Nat.rec (motive := fun n => n ≤ N → A → (A → R) → R) (fun _ a K => K a)
    (fun n ih h a K => body ⟨N - (n + 1), Nat.sub_lt_of_pos_le (Nat.succ_pos n) h⟩ a
      fun a' => ih (Nat.le_of_succ_le h) a' K) n

/-- `N` rounds of a body that carries a value. -/
def loop {R : Type u} {A : Type} (N : Nat) (body : Fin N → A → (A → R) → R) (a : A) (K : A → R) : R :=
  loopR N body N (Nat.le_refl N) a K

/-- What each round carries one further holds after the last `n` rounds. -/
theorem loopR_spec {A : Type} {N : Nat} {body : Fin N → A → (A → St sig Val → Prop) → St sig Val → Prop}
    (I : Nat → A → St sig Val → Prop) {K : A → St sig Val → Prop}
    (hstep : ∀ (p : Fin N) a σ (K' : A → St sig Val → Prop), I p a σ → (∀ a' σ', I (p + 1) a' σ' → K' a' σ') → body p a K' σ)
    (hK : ∀ a σ, I N a σ → K a σ) :
    ∀ (n : Nat) (h : n ≤ N) (a : A) (σ : St sig Val), I (N - n) a σ → loopR N body n h a K σ
  | 0, _, a, σ, hI => hK a σ hI
  | n + 1, h, a, σ, hI => hstep ⟨N - (n + 1), _⟩ a σ _ hI fun a' σ' hI' =>
      loopR_spec I hstep hK n (Nat.le_of_succ_le h) a' σ' (by
        have e : N - (n + 1) + 1 = N - n := by omega
        exact e ▸ hI')

/-- A loop by an invariant. -/
theorem loop_spec {A : Type} {N : Nat} {body : Fin N → A → (A → St sig Val → Prop) → St sig Val → Prop}
    (I : Nat → A → St sig Val → Prop) {K : A → St sig Val → Prop} {a : A} {σ : St sig Val}
    (h0 : I 0 a σ)
    (hstep : ∀ (p : Fin N) a σ (K' : A → St sig Val → Prop), I p a σ → (∀ a' σ', I (p + 1) a' σ' → K' a' σ') → body p a K' σ)
    (hK : ∀ a σ, I N a σ → K a σ) : loop N body a K σ :=
  loopR_spec I hstep hK N (Nat.le_refl N) a σ (by rw [Nat.sub_self]; exact h0)

/-- Rounds that touch only what they may make a loop that does. -/
theorem loopR_safe {A : Type} {N : Nat} {body : Fin N → A → (A → Prop) → Prop} {K : A → Prop}
    (hstep : ∀ (p : Fin N) a (K' : A → Prop), (∀ a', K' a') → body p a K') (hK : ∀ a, K a) :
    ∀ (n : Nat) (h : n ≤ N) (a : A), loopR N body n h a K
  | 0, _, a => hK a
  | n + 1, h, a => hstep ⟨N - (n + 1), _⟩ a _ fun a' => loopR_safe hstep hK n (Nat.le_of_succ_le h) a'

/-- A loop touches only what its body does. -/
theorem loop_safe {A : Type} {N : Nat} {body : Fin N → A → (A → Prop) → Prop} {K : A → Prop} {a : A}
    (hstep : ∀ (p : Fin N) a (K' : A → Prop), (∀ a', K' a') → body p a K') (hK : ∀ a, K a) : loop N body a K :=
  loopR_safe hstep hK N (Nat.le_refl N) a

end Spin

end
-- ==== Proof.Own.lean ====
/-
  Ownership of a finite set of whole buffers at a memory's contents: joined from buffers held at unknown
  contents, and split again.
-/
module

public import proofs.«01_k».proof.Proof.Run

@[expose] public section

noncomputable section

namespace Spin

open Idealize.ShloMosaic Idealize.SL Idealize.SL.Sem
open Idealize.SL.RA Idealize.SL.ProofMode
open Idealize.SL.BI (sProp bigSep bigSep_insert bigSep_mono bigSep_empty bigSep_congr bigSep_erase)
open scoped Idealize.SL.BI
open Idealize.SL.BI.BIBase Idealize.SL.BI.Laws

variable {nD : Nat} {τ : Topo} {sig : RefSig} {Val : EltTy → Type}
variable {Ix : Type} [DecidableEq Ix] {Name : Type} [DecidableEq Name] {U : Type} [URA U] {Lvl : Type} [Preorder Lvl]
local notation "𝕄" => MT nD τ sig Ix Val Name U Lvl

/-- Owning is the same for memories that agree. -/
theorem own_congr (c : Dev nD) {S : Finset (Ref sig .tc)} {σ σ' : St sig Val} (h : ∀ b ∈ S, σ b = σ' b) :
    (own c S σ : sProp 𝕄) = own c S σ' :=
  bigSep_congr fun b hb => by rw [h b hb]

/-- Owning one buffer more is owning that buffer and the others. -/
theorem own_insert (c : Dev nD) {S : Finset (Ref sig .tc)} {b : Ref sig .tc} (hb : b ∉ S) (σ : St sig Val) :
    (own c (insert b S) σ : sProp 𝕄) = iprop((((c.tc : Thread nD τ).loc b) ↦{fullShare} σ b) ∗ own c S σ) :=
  bigSep_insert hb

/-- Buffers held at some contents each are held at a memory's. -/
theorem own_join {W : Type} [DecidableEq W] (c : Dev nD) (ref : W → Ref sig .tc) (hinj : Function.Injective ref)
    (Pw : (w : W) → (ref w).ty.Contents Val → Prop) (S : Finset (Ref sig .tc)) (σ : St sig Val) (T : Finset W)
    (hd : ∀ w ∈ T, ref w ∉ S) :
    iprop((bigSep T fun w => iprop(∃ f : (ref w).ty.Contents Val, ⌜Pw w f⌝ ∗ (((c.tc : Thread nD τ).loc (ref w)) ↦{fullShare} f)))
        ∗ own c S σ)
      ⊢ (iprop(∃ σ' : St sig Val, ⌜(∀ b ∈ S, σ' b = σ b) ∧ ∀ w ∈ T, Pw w (σ' (ref w))⌝ ∗ own c (S ∪ T.image ref) σ') : sProp 𝕄) := by
  induction T using Finset.induction_on with
  | empty =>
    rw [Finset.image_empty, Finset.union_empty]
    iintro ⟨-, H⟩
    iexists σ
    isplitr
    · ipureintro; exact ⟨fun _ _ => rfl, fun _ h => absurd h (Finset.notMem_empty _)⟩
    · iexact H
  | insert w T hw ih =>
    rw [show (bigSep (insert w T) fun w => iprop(∃ f : (ref w).ty.Contents Val, ⌜Pw w f⌝ ∗ (((c.tc : Thread nD τ).loc (ref w)) ↦{fullShare} f)) : sProp 𝕄)
      = iprop((∃ f : (ref w).ty.Contents Val, ⌜Pw w f⌝ ∗ (((c.tc : Thread nD τ).loc (ref w)) ↦{fullShare} f))
        ∗ bigSep T fun w => iprop(∃ f : (ref w).ty.Contents Val, ⌜Pw w f⌝ ∗ (((c.tc : Thread nD τ).loc (ref w)) ↦{fullShare} f)))
      from bigSep_insert hw]
    have hn : ref w ∉ S ∪ T.image ref := by
      rw [Finset.mem_union, Finset.mem_image]
      rintro (h | ⟨w', hw', e⟩)
      · exact hd w (Finset.mem_insert_self _ _) h
      · exact hw (hinj e ▸ hw')
    have ih' := ih fun w' h => hd w' (Finset.mem_insert_of_mem h)
    have e : S ∪ (insert w T).image ref = insert (ref w) (S ∪ T.image ref) := by
      rw [Finset.image_insert, Finset.union_insert]
    iintro ⟨⟨⟨%f, %hf, Hw⟩, HT⟩, HS⟩
    ihave H := ih' $$ [HT HS]
    · isplitl [HT]
      · iexact HT
      · iexact HS
    icases H with ⟨%σ1, %h1, H⟩
    iexists (Function.update σ1 (ref w) f)
    isplitr
    · ipureintro
      refine ⟨fun b hb => ?_, fun w' hw' => ?_⟩
      · rw [Function.update_of_ne (fun hbb : b = ref w => hd w (Finset.mem_insert_self _ _) (hbb ▸ hb))]; exact h1.1 b hb
      · by_cases hww : w' = w
        · subst hww; rw [Function.update_self]; exact hf
        · rw [Function.update_of_ne (fun h => hww (hinj h))]
          exact h1.2 w' ((Finset.mem_insert.mp hw').resolve_left hww)
    · have e2 : (own c (S ∪ (insert w T).image ref) (Function.update σ1 (ref w) f) : sProp 𝕄)
          = iprop((((c.tc : Thread nD τ).loc (ref w)) ↦{fullShare} f) ∗ own c (S ∪ T.image ref) σ1) := by
        rw [e, own_insert c hn, Function.update_self]
        rw [own_congr c (σ' := σ1) fun b hb => Function.update_of_ne (fun hbb : b = ref w => hn (hbb ▸ hb)) _ _]
      rw [e2]
      isplitl [Hw]
      · iexact Hw
      · iexact H

/-- And the other way. -/
theorem own_split {W : Type} [DecidableEq W] (c : Dev nD) (ref : W → Ref sig .tc) (hinj : Function.Injective ref)
    (S : Finset (Ref sig .tc)) (σ : St sig Val) (T : Finset W) (hd : ∀ w ∈ T, ref w ∉ S) :
    (own c (S ∪ T.image ref) σ : sProp 𝕄)
      = iprop((bigSep T fun w => (((c.tc : Thread nD τ).loc (ref w)) ↦{fullShare} σ (ref w))) ∗ own c S σ) := by
  have h1 : Disjoint S (T.image ref) := by
    rw [Finset.disjoint_left]; intro b hb hb'
    obtain ⟨w, hw, rfl⟩ := Finset.mem_image.mp hb'
    exact hd w hw hb
  have e : T.image ref = T.map ⟨ref, hinj⟩ := by rw [Finset.map_eq_image]; rfl
  unfold own
  rw [Idealize.SL.BI.bigSep_union h1, e, Idealize.SL.BI.bigSep_map]
  exact Idealize.SL.BI.equiv_iff.mp ⟨Idealize.SL.BI.sep_comm, Idealize.SL.BI.sep_comm⟩

end Spin

end
-- ==== Proof.Body.lean ====
/-
  The kernel's step as a compact program: the unrolled loops of the printed one written as loops, over
  named pure functions of what is loaded.
-/
module

public import proofs.«01_k».proof.Proof.Gen.KernelIdeal
public import proofs.«01_k».proof.Proof.Run

@[expose] public section

noncomputable section

namespace Cert.KernelIdeal.Spin

open Idealize.ShloMosaic Idealize.SL.Sem Cert.KernelIdeal.Gen _root_.Spin

universe u

variable {F : FTy → Type} [FloatOps F]

/-- In-bounds evidence of a rectangle of rank two. -/
theorem inb2 {A B a b x y : Nat} (h : x + a ≤ A) (h' : y + b ≤ B) :
    ∀ k : Fin 2, (![x, y] : Fin 2 → Nat) k + (⟨2, ![a, b]⟩ : Shape).size k ≤ (⟨2, ![A, B]⟩ : Shape).size k :=
  Fin.forall_fin_two.mpr ⟨h, h'⟩

/-- The same of rank three. -/
theorem inb3 {A B C a b c x y z : Nat} (h : x + a ≤ A) (h' : y + b ≤ B) (h'' : z + c ≤ C) :
    ∀ k : Fin 3, (![x, y, z] : Fin 3 → Nat) k + (⟨3, ![a, b, c]⟩ : Shape).size k ≤ (⟨3, ![A, B, C]⟩ : Shape).size k := by
  intro k; fin_cases k
  · exact h
  · exact h'
  · exact h''

/-- The memrefs of one step. -/
structure Args where
  arg1 : Memref sig .tc .vmem S256x3584 .bf16
  arg2 : Memref sig .tc .vmem S256x3584 .bf16
  arg3 : Memref sig .tc .vmem S256x256 .bf16
  arg4 : Memref sig .tc .vmem S28x128x128 .f32
  arg5 : Memref sig .tc .vmem S4x128x128 .i8
  arg6 : Memref sig .tc .vmem S28x128 .f32
  arg7 : Memref sig .tc .smem S28 .f32
  arg8 : Memref sig .tc .vmem S4x128x128 .f32
  arg9 : Memref sig .tc .vmem S4x128x128 .f32
  arg10 : Memref sig .tc .vmem S4x128x128 .f32
  arg11 : Memref sig .tc .vmem S4x128x128 .f32
  arg12 : Memref sig .tc .smem S28 .f32
  arg13 : Memref sig .tc .smem S28 .f32
  arg14 : Memref sig .tc .smem S1x1 .f32
  arg15 : Memref sig .tc .vmem S1x4608 .f32
  arg16 : Memref sig .tc .vmem S256x256 .f32
  arg17 : Memref sig .tc .vmem S4x128x128 .f32
  arg18 : Memref sig .tc .vmem S256x3584 .i8
  arg19 : Memref sig .tc .vmem S1x256 .f32
  arg20 : Memref sig .tc .vmem S256x3584 .i8
  arg21 : Memref sig .tc .vmem S1x4608 .f32
  arg22 : Memref sig .tc .vmem S28x16384 .i8
  arg23 : Memref sig .tc .vmem S28x128 .f32
  arg24 : Memref sig .tc .vmem S14x256x256 .bf16
  arg25 : Memref sig .tc .vmem S256x3584 .f32
  arg26 : Memref sig .tc .vmem S256x3584 .bf16
  arg27 : Memref sig .tc .vmem S3584x256 .bf16
  arg28 : Memref sig .tc .vmem S3584x256 .bf16
  arg29 : Memref sig .tc .vmem S256x128 .f32
  arg30 : Memref sig .tc .vmem S256x3584 .bf16
  arg31 : Memref sig .tc .vmem S3584x256 .bf16
  arg32 : Memref sig .tc .vmem S256x3584 .f32
  arg33 : Memref sig .tc .vmem S28x128x128 .f32
  arg34 : Memref sig .tc .vmem S3584x128 .f32
  arg35 : Memref sig .tc .vmem S8x256 .f32

/-- A rotated block pair of 256 rows. -/
def rot (x : Vec F S256x256 .bf16) (r : Vec F S1x256x256 .bf16) : FVec F S256x256 .f32 :=
  matmul dot_S256x256_S256x256_S256x256_1_0_0_1_n_n none (shapeCast S256x256 x shapeCasts_S256x256_S256x256)
    (shapeCast S256x256 r shapeCasts_S1x256x256_S256x256) (constant S256x256 .f32 0x00000000#32)

/-- The running largest magnitude. -/
def amaxStep (a : FVec F S256x128 .f32) (v : FVec F S256x256 .f32) : FVec F S256x128 .f32 :=
  maximumf a (maximumf (extractStridedSlice S256x128 ![0, 0] (absf v) slices_S256x256_o0_0_S256x128)
    (extractStridedSlice S256x128 ![0, 128] (absf v) slices_S256x256_o0_128_S256x128))

/-- A rotation block rounded. -/
def rdBlk (r : Vec F S1x128x128 .f32) : FVec F S1x128x128 .bf16 :=
  shapeCast S1x128x128 (truncf .bf16 (shapeCast S128x128 r shapeCasts_S1x128x128_S128x128) bitsLt_bf16_f32)
    shapeCasts_S128x128_S1x128x128

/-- A zero block. -/
def rdZero : FVec F S1x128x128 .bf16 :=
  shapeCast S1x128x128 (broadcast S128x128 (Scalar.ofBits .bf16 0x0000#16 : F .bf16)) shapeCasts_S128x128_S1x128x128

/-- The scale of each row, from the running largest magnitudes; `q` the bits of the largest code. -/
def scaleOf (q : BitVec 32) (a : FVec F S256x128 .f32) : FVec F S256x1 .f32 :=
  have m : FVec F S256x1 .f32 := shapeCast S256x1
    (multiReduction .maximumf [1] S256 a 0xFF800000#32 reduces_S256x128_S256 (.inl rfl) rfl) shapeCasts_S256_S256x1
  select (cmpf .oeq m (broadcast S256x1 (Scalar.ofBits .f32 0x00000000#32)))
    (broadcast S256x1 (Scalar.ofBits .f32 0x3F800000#32)) (divf m (broadcast S256x1 (Scalar.ofBits .f32 q)))

/-- A column spread over the lanes. -/
def spread (s : FVec F S256x1 .f32) : FVec F S256x128 .f32 :=
  broadcastTo S256x128 (shapeCast S256x1 s shapeCasts_S256x1_S256x1) broadcasts_S256x1_S256x128

/-- A column as a row. -/
def colRow (s : FVec F S256x1 .f32) : FVec F S1x256 .f32 :=
  extractStridedSlice S1x256 ![0, 0] (transpose S128x256 [1, 0] (spread s) transposes_S256x128_p1_0_S128x256)
    slices_S128x256_o0_0_S1x256

/-- A row block's codes before the conversion: divided by the scale, rounded, clipped. -/
def code256 (s : FVec F S256x1 .f32) (v : Vec F S256x256 .f32) : FVec F S256x256 .f32 :=
  minimumf (broadcast S256x256 (Scalar.ofBits .f32 0x42FE0000#32))
    (maximumf (broadcast S256x256 (Scalar.ofBits .f32 0xC2FE0000#32))
      (roundeven (divf v (broadcastTo S256x256 s broadcasts_S256x1_S256x256))))

/-- The same, rounded. -/
def code16 (s : FVec F S256x1 .f32) (v : Vec F S256x256 .f32) : FVec F S256x256 .bf16 :=
  truncf .bf16 (code256 s v) bitsLt_bf16_f32

variable {R : Type u} (H : Hd sig (Elt F) R) (M : Args)

/-- The first loop of the prologue: the rotation's block diagonal, and `x` rotated. -/
def pro1 (p : Fin 14) (a : FVec F S256x128 .f32) (K : FVec F S256x128 .f32 → R) : R :=
  H.LD M.arg4 (Rect.unit (s := S28x128x128) ![2 * p, 0, 0] S1x128x128.size (inb3 (by omega) (by omega) (by omega))).toLoadRect fun r0 =>
  H.LD M.arg24 (Rect.unit (s := S14x256x256) ![p, 0, 0] S1x128x128.size (inb3 (by omega) (by omega) (by omega))).toLoadRect fun _ =>
  H.ST M.arg24 (Rect.unit (s := S14x256x256) ![p, 0, 0] S1x128x128.size (inb3 (by omega) (by omega) (by omega))) (rdBlk r0) Finset.univ <|
  H.LD M.arg4 (Rect.unit (s := S28x128x128) ![2 * p + 1, 0, 0] S1x128x128.size (inb3 (by omega) (by omega) (by omega))).toLoadRect fun r1 =>
  H.LD M.arg24 (Rect.unit (s := S14x256x256) ![p, 128, 128] S1x128x128.size (inb3 (by omega) (by omega) (by omega))).toLoadRect fun _ =>
  H.ST M.arg24 (Rect.unit (s := S14x256x256) ![p, 128, 128] S1x128x128.size (inb3 (by omega) (by omega) (by omega))) (rdBlk r1) Finset.univ <|
  H.LD M.arg24 (Rect.unit (s := S14x256x256) ![p, 0, 128] S1x128x128.size (inb3 (by omega) (by omega) (by omega))).toLoadRect fun _ =>
  H.ST M.arg24 (Rect.unit (s := S14x256x256) ![p, 0, 128] S1x128x128.size (inb3 (by omega) (by omega) (by omega))) (rdZero (F := F)) Finset.univ <|
  H.LD M.arg24 (Rect.unit (s := S14x256x256) ![p, 128, 0] S1x128x128.size (inb3 (by omega) (by omega) (by omega))).toLoadRect fun _ =>
  H.ST M.arg24 (Rect.unit (s := S14x256x256) ![p, 128, 0] S1x128x128.size (inb3 (by omega) (by omega) (by omega))) (rdZero (F := F)) Finset.univ <|
  H.LD M.arg1 (Rect.unit (s := S256x3584) ![0, 256 * p] S256x256.size (inb2 (by omega) (by omega))).toLoadRect fun x =>
  H.LD M.arg24 (Rect.unit (s := S14x256x256) ![p, 0, 0] S1x256x256.size (inb3 (by omega) (by omega) (by omega))).toLoadRect fun r =>
  H.LD M.arg25 (Rect.unit (s := S256x3584) ![0, 256 * p] S256x256.size (inb2 (by omega) (by omega))).toLoadRect fun _ =>
  H.ST M.arg25 (Rect.unit (s := S256x3584) ![0, 256 * p] S256x256.size (inb2 (by omega) (by omega)))
    (shapeCast S256x256 (rot x r) shapeCasts_S256x256_S256x256) Finset.univ <|
  K (amaxStep a (rot x r))

/-- The second: the codes of `x`, and the transposes. -/
def pro2 (s : FVec F S256x1 .f32) (p : Fin 14) (_ : Unit) (K : Unit → R) : R :=
  H.LD M.arg25 (Rect.unit (s := S256x3584) ![0, 256 * p] S256x256.size (inb2 (by omega) (by omega))).toLoadRect fun v =>
  H.LD M.arg18 (Rect.unit (s := S256x3584) ![0, 256 * p] S256x256.size (inb2 (by omega) (by omega))).toLoadRect fun _ =>
  H.ST M.arg18 (Rect.unit (s := S256x3584) ![0, 256 * p] S256x256.size (inb2 (by omega) (by omega)))
    (fptosi 8 (code256 s v)) Finset.univ <|
  H.LD M.arg26 (Rect.unit (s := S256x3584) ![0, 256 * p] S256x256.size (inb2 (by omega) (by omega))).toLoadRect fun _ =>
  H.ST M.arg26 (Rect.unit (s := S256x3584) ![0, 256 * p] S256x256.size (inb2 (by omega) (by omega)))
    (shapeCast S256x256 (code16 s v) shapeCasts_S256x256_S256x256) Finset.univ <|
  H.LD M.arg27 (Rect.unit (s := S3584x256) ![256 * p, 0] S256x256.size (inb2 (by omega) (by omega))).toLoadRect fun _ =>
  H.ST M.arg27 (Rect.unit (s := S3584x256) ![256 * p, 0] S256x256.size (inb2 (by omega) (by omega)))
    (shapeCast S256x256 (transpose S256x256 [1, 0] (code16 s v) transposes_S256x256_p1_0_S256x256) shapeCasts_S256x256_S256x256) Finset.univ <|
  H.LD M.arg1 (Rect.unit (s := S256x3584) ![0, 256 * p] S256x256.size (inb2 (by omega) (by omega))).toLoadRect fun x =>
  H.LD M.arg28 (Rect.unit (s := S3584x256) ![256 * p, 0] S256x256.size (inb2 (by omega) (by omega))).toLoadRect fun _ =>
  H.ST M.arg28 (Rect.unit (s := S3584x256) ![256 * p, 0] S256x256.size (inb2 (by omega) (by omega)))
    (shapeCast S256x256 (transpose S256x256 [1, 0] (shapeCast S256x256 x shapeCasts_S256x256_S256x256) transposes_S256x256_p1_0_S256x256)
      shapeCasts_S256x256_S256x256) Finset.univ <|
  K ⟨⟩

/-- The prologue. -/
def prologue (K : R) : R :=
  loop 14 (pro1 H M) (broadcast S256x128 (Scalar.ofBits .f32 0x00000000#32)) fun a =>
  H.LD M.arg29 (Rect.unit (s := S256x128) ![0, 0] S256x128.size (inb2 (by omega) (by omega))).toLoadRect fun _ =>
  H.ST M.arg29 (Rect.unit (s := S256x128) ![0, 0] S256x128.size (inb2 (by omega) (by omega)))
    (shapeCast S256x128 (spread (scaleOf 0x42FE0000#32 a)) shapeCasts_S256x128_S256x128) Finset.univ <|
  H.LD M.arg19 (Rect.unit (s := S1x256) ![0, 0] S1x256.size (inb2 (by omega) (by omega))).toLoadRect fun _ =>
  H.ST M.arg19 (Rect.unit (s := S1x256) ![0, 0] S1x256.size (inb2 (by omega) (by omega)))
    (colRow (scaleOf 0x42FE0000#32 a)) Finset.univ <|
  loop 14 (pro2 H M (scaleOf 0x42FE0000#32 a)) ⟨⟩ fun _ =>
  H.LD M.arg32 (Rect.unit (s := S256x3584) ![0, 0] S256x3584.size (inb2 (by omega) (by omega))).toLoadRect fun _ =>
  H.ST M.arg32 (Rect.unit (s := S256x3584) ![0, 0] S256x3584.size (inb2 (by omega) (by omega)))
    (shapeCast S256x3584 (broadcast S256x3584 (Scalar.ofBits .f32 0x00000000#32 : F .f32)) shapeCasts_S256x3584_S256x3584) Finset.univ <|
  H.LD M.arg33 (Rect.unit (s := S28x128x128) ![0, 0, 0] S28x128x128.size (inb3 (by omega) (by omega) (by omega))).toLoadRect fun _ =>
  H.ST M.arg33 (Rect.unit (s := S28x128x128) ![0, 0, 0] S28x128x128.size (inb3 (by omega) (by omega) (by omega)))
    (shapeCast S28x128x128 (broadcast S28x128x128 (Scalar.ofBits .f32 0x00000000#32 : F .f32)) shapeCasts_S28x128x128_S28x128x128) Finset.univ <|
  H.LD M.arg35 (Rect.unit (s := S8x256) ![0, 0] S8x256.size (inb2 (by omega) (by omega))).toLoadRect fun _ =>
  H.ST M.arg35 (Rect.unit (s := S8x256) ![0, 0] S8x256.size (inb2 (by omega) (by omega)))
    (shapeCast S8x256 (broadcast S8x256 (Scalar.ofBits .f32 0x00000000#32 : F .f32)) shapeCasts_S8x256_S8x256) Finset.univ <|
  K

end Cert.KernelIdeal.Spin

end
-- ==== Proof.Body2.lean ====
/-
  The kernel's step as a compact program: the unrolled loops of the printed one written as loops, over
  named pure functions of what is loaded.
-/
module

public import proofs.«01_k».proof.Proof.Gen.KernelIdeal
public import proofs.«01_k».proof.Proof.Body

@[expose] public section

noncomputable section

namespace Cert.KernelIdeal.Spin

open Idealize.ShloMosaic Idealize.SL.Sem Cert.KernelIdeal.Gen _root_.Spin

universe u

variable {F : FTy → Type} [FloatOps F]

/-- A rotated block pair of 256 rows of `w`. -/
def rotW (w : Vec F S256x256 .bf16) (r : Vec F S1x256x256 .bf16) : FVec F S256x256 .f32 :=
  matmul dot_S256x256_S256x256_S256x256_1_0_0_1_n_n none w
    (shapeCast S256x256 r shapeCasts_S1x256x256_S256x256) (constant S256x256 .f32 0x00000000#32)

/-- The scales of 32 rows, spread over the lanes. -/
def scRows (s : FVec F S256x1 .f32) (c : Fin 8) : FVec F S32x128 .f32 :=
  broadcastTo S32x128 (shapeCast S32x1 (extractStridedSlice S32x1 ![32 * c.val, 0] s
    ⟨rfl, Fin.forall_fin_two.mpr ⟨(by show 32 * c.val + 32 ≤ 256; omega), (by show 0 + 1 ≤ 1; omega)⟩⟩)
    shapeCasts_S32x1_S32x1) broadcasts_S32x1_S32x128

/-- The codes of a block of 32 rows of `w` before the conversion. -/
def code7 (s v : FVec F S32x128 .f32) : FVec F S32x128 .f32 :=
  minimumf (broadcast S32x128 (Scalar.ofBits .f32 0x40E00000#32))
    (maximumf (broadcast S32x128 (Scalar.ofBits .f32 0xC0E00000#32)) (roundeven (divf v s)))

/-- The squared residuals of a block added to the running sum. -/
def errStep (s a v : FVec F S32x128 .f32) : FVec F S32x128 .f32 :=
  addf a (mulf (subf v (mulf s (code7 s v))) (subf v (mulf s (code7 s v))))

/-- The sum over the lanes, as a column. -/
def laneSum (a : FVec F S32x128 .f32) : FVec F S32x1 .f32 :=
  shapeCast S32x1 (multiReduction .add [1] S32 a 0x00000000#32 reduces_S32x128_S32 (.inl rfl) rfl) shapeCasts_S32_S32x1

/-- The eight parts of the residual column, as a row. -/
def errRow (e : Fin 8 → FVec F S32x1 .f32) : FVec F S1x256 .f32 :=
  colRow (concatenate S256x1 0 [⟨S32x1, e 0⟩, ⟨S32x1, e 1⟩, ⟨S32x1, e 2⟩, ⟨S32x1, e 3⟩, ⟨S32x1, e 4⟩, ⟨S32x1, e 5⟩,
    ⟨S32x1, e 6⟩, ⟨S32x1, e 7⟩] concatenates_S32x1_S32x1_S32x1_S32x1_S32x1_S32x1_S32x1_S32x1_S256x1_d0)

/-- The residual of the product: the code product, scaled by both scales, less `y`. -/
def resid (s : FVec F S256x1 .f32) (sx : Vec F S256x1 .f32) (qx qw : Vec F S256x3584 .bf16) (y : Vec F S256x256 .bf16) :
    FVec F S256x256 .f32 :=
  subf (mulf (mulf (matmul dot_S256x3584_S256x3584_S256x256_1_1_0_0_n_n none qx qw (constant S256x256 .f32 0x00000000#32))
      (broadcastTo S256x256 sx broadcasts_S256x1_S256x256))
    (broadcastTo S256x256 (colRow s) broadcasts_S1x256_S256x256))
    (extf .f32 (shapeCast S256x256 y shapeCasts_S256x256_S256x256) bitsLt_bf16_f32)

/-- The running sums of squares. -/
def lossStep (e : FVec F S256x256 .f32) (l : Vec F S8x256 .f32) : FVec F S8x256 .f32 :=
  addf l (multiReduction .add [0] S8x256 (shapeCast S32x8x256 (mulf e e) shapeCasts_S256x256_S32x8x256) 0x00000000#32
    reduces_S32x8x256_S8x256 (.inl rfl) rfl)

/-- The residual times the weight scales, rounded. -/
def resW (s : FVec F S256x1 .f32) (e : FVec F S256x256 .f32) : FVec F S256x256 .bf16 :=
  truncf .bf16 (mulf e (broadcastTo S256x256 (colRow s) broadcasts_S1x256_S256x256)) bitsLt_bf16_f32

/-- The residual times the activation scales, rounded. -/
def resX (sx : Vec F S256x1 .f32) (e : FVec F S256x256 .f32) : FVec F S256x256 .bf16 :=
  truncf .bf16 (mulf e (broadcastTo S256x256 sx broadcasts_S256x1_S256x256)) bitsLt_bf16_f32

/-- One block column of `p`. -/
def pStep (ew : FVec F S256x256 .bf16) (p : Vec F S256x256 .f32) (q : Vec F S256x256 .bf16) : FVec F S256x256 .f32 :=
  addf p (matmul dot_S256x256_S256x256_S256x256_1_0_0_1_n_n none ew q (constant S256x256 .f32 0x00000000#32))

/-- One block row of `q` transposed. -/
def qStep (ex : FVec F S256x256 .bf16) (q : Vec F S256x256 .bf16) : FVec F S256x256 .bf16 :=
  truncf .bf16 (matmul dot_S256x256_S256x256_S256x256_1_0_0_1_n_n none q ex (constant S256x256 .f32 0x00000000#32)) bitsLt_bf16_f32

/-- One block of the weight gradient. -/
def gStep (g : Vec F S1x128x128 .f32) (q : Vec F S128x256 .bf16) (w : Vec F S256x128 .bf16) : FVec F S128x128 .f32 :=
  addf (shapeCast S128x128 g shapeCasts_S1x128x128_S128x128)
    (matmul dot_S128x256_S256x128_S128x128_1_0_0_1_n_n none q w (constant S128x128 .f32 0x00000000#32))

variable {R : Type u} (H : Hd sig (Elt F) R) (M : Args)

/-- `w` rotated. -/
def main1 (p : Fin 14) (a : FVec F S256x128 .f32) (K : FVec F S256x128 .f32 → R) : R :=
  H.LD M.arg2 (Rect.unit (s := S256x3584) ![0, 256 * p] S256x256.size (inb2 (by omega) (by omega))).toLoadRect fun w =>
  H.LD M.arg24 (Rect.unit (s := S14x256x256) ![p, 0, 0] S1x256x256.size (inb3 (by omega) (by omega) (by omega))).toLoadRect fun r =>
  H.LD M.arg25 (Rect.unit (s := S256x3584) ![0, 256 * p] S256x256.size (inb2 (by omega) (by omega))).toLoadRect fun _ =>
  H.ST M.arg25 (Rect.unit (s := S256x3584) ![0, 256 * p] S256x256.size (inb2 (by omega) (by omega)))
    (shapeCast S256x256 (rotW w r) shapeCasts_S256x256_S256x256) Finset.univ <|
  K (amaxStep a (rotW w r))

/-- The codes of one block of 32 rows and 128 columns of `w`. -/
def main2b (s : FVec F S256x1 .f32) (c : Fin 8) (b : Fin 28) (a : FVec F S32x128 .f32) (K : FVec F S32x128 .f32 → R) : R :=
  H.LD M.arg25 (Rect.unit (s := S256x3584) ![32 * c, 128 * b] S32x128.size (inb2 (by omega) (by omega))).toLoadRect fun v =>
  H.LD M.arg20 (Rect.unit (s := S256x3584) ![32 * c, 128 * b] S32x128.size (inb2 (by omega) (by omega))).toLoadRect fun _ =>
  H.ST M.arg20 (Rect.unit (s := S256x3584) ![32 * c, 128 * b] S32x128.size (inb2 (by omega) (by omega)))
    (fptosi 8 (code7 (scRows s c) v)) Finset.univ <|
  H.LD M.arg30 (Rect.unit (s := S256x3584) ![32 * c, 128 * b] S32x128.size (inb2 (by omega) (by omega))).toLoadRect fun _ =>
  H.ST M.arg30 (Rect.unit (s := S256x3584) ![32 * c, 128 * b] S32x128.size (inb2 (by omega) (by omega)))
    (shapeCast S32x128 (truncf .bf16 (code7 (scRows s c) v) bitsLt_bf16_f32) shapeCasts_S32x128_S32x128) Finset.univ <|
  K (errStep (scRows s c) a v)

/-- The codes of 32 rows of `w`. -/
def main2 (s : FVec F S256x1 .f32) (c : Fin 8) (e : Fin 8 → FVec F S32x1 .f32) (K : (Fin 8 → FVec F S32x1 .f32) → R) : R :=
  loop 28 (main2b H M s c) (broadcast S32x128 (Scalar.ofBits .f32 0x00000000#32)) fun a =>
  K fun k => if k = c then laneSum a else e k

/-- One block column of `p`. -/
def main3 (ew : FVec F S256x256 .bf16) (p : Fin 14) (_ : Unit) (K : Unit → R) : R :=
  H.LD M.arg32 (Rect.unit (s := S256x3584) ![0, 256 * p] S256x256.size (inb2 (by omega) (by omega))).toLoadRect fun a =>
  H.LD M.arg30 (Rect.unit (s := S256x3584) ![0, 256 * p] S256x256.size (inb2 (by omega) (by omega))).toLoadRect fun q =>
  H.LD M.arg32 (Rect.unit (s := S256x3584) ![0, 256 * p] S256x256.size (inb2 (by omega) (by omega))).toLoadRect fun _ =>
  H.ST M.arg32 (Rect.unit (s := S256x3584) ![0, 256 * p] S256x256.size (inb2 (by omega) (by omega)))
    (shapeCast S256x256 (pStep ew a q) shapeCasts_S256x256_S256x256) Finset.univ <|
  K ⟨⟩

/-- One block row of `q` transposed. -/
def main4 (ex : FVec F S256x256 .bf16) (p : Fin 14) (_ : Unit) (K : Unit → R) : R :=
  H.LD M.arg27 (Rect.unit (s := S3584x256) ![256 * p, 0] S256x256.size (inb2 (by omega) (by omega))).toLoadRect fun q =>
  H.LD M.arg31 (Rect.unit (s := S3584x256) ![256 * p, 0] S256x256.size (inb2 (by omega) (by omega))).toLoadRect fun _ =>
  H.ST M.arg31 (Rect.unit (s := S3584x256) ![256 * p, 0] S256x256.size (inb2 (by omega) (by omega)))
    (shapeCast S256x256 (qStep ex q) shapeCasts_S256x256_S256x256) Finset.univ <|
  K ⟨⟩

/-- One block of the weight gradient. -/
def main5 (b : Fin 28) (_ : Unit) (K : Unit → R) : R :=
  H.LD M.arg33 (Rect.unit (s := S28x128x128) ![b, 0, 0] S1x128x128.size (inb3 (by omega) (by omega) (by omega))).toLoadRect fun g =>
  H.LD M.arg31 (Rect.unit (s := S3584x256) ![128 * b, 0] S128x256.size (inb2 (by omega) (by omega))).toLoadRect fun q =>
  H.LD M.arg2 (Rect.unit (s := S256x3584) ![0, 128 * b] S256x128.size (inb2 (by omega) (by omega))).toLoadRect fun w =>
  H.LD M.arg33 (Rect.unit (s := S28x128x128) ![b, 0, 0] S1x128x128.size (inb3 (by omega) (by omega) (by omega))).toLoadRect fun _ =>
  H.ST M.arg33 (Rect.unit (s := S28x128x128) ![b, 0, 0] S1x128x128.size (inb3 (by omega) (by omega) (by omega)))
    (shapeCast S1x128x128 (gStep g q w) shapeCasts_S128x128_S1x128x128) Finset.univ <|
  K ⟨⟩

/-- The rest of the main step, after the codes. -/
def main6 (i : grid0.Coords) (h2 : k0_cond2 i = 1#1) (s : FVec F S256x1 .f32) (e : Fin 8 → FVec F S32x1 .f32) (K : R) : R :=
  H.LD M.arg21 (Rect.unit (s := S1x4608) (k0_off1 i) S1x256.size (k0_off1_inb i h2)).toLoadRect fun _ =>
  H.ST M.arg21 (Rect.unit (s := S1x4608) (k0_off1 i) S1x256.size (k0_off1_inb i h2)) (colRow s) Finset.univ <|
  H.LD M.arg15 (Rect.unit (s := S1x4608) (k0_off1 i) S1x256.size (k0_off1_inb i h2)).toLoadRect fun _ =>
  H.ST M.arg15 (Rect.unit (s := S1x4608) (k0_off1 i) S1x256.size (k0_off1_inb i h2)) (errRow e) Finset.univ <|
  H.LD M.arg29 (Rect.unit (s := S256x128) ![0, 0] S256x1.size (inb2 (by omega) (by omega))).toLoadRect fun sx =>
  H.LD M.arg26 (Rect.unit (s := S256x3584) ![0, 0] S256x3584.size (inb2 (by omega) (by omega))).toLoadRect fun qx =>
  H.LD M.arg30 (Rect.unit (s := S256x3584) ![0, 0] S256x3584.size (inb2 (by omega) (by omega))).toLoadRect fun qw =>
  H.LD M.arg3 (Rect.unit (s := S256x256) ![0, 0] S256x256.size (inb2 (by omega) (by omega))).toLoadRect fun y =>
  H.LD M.arg16 (Rect.unit (s := S256x256) ![0, 0] S256x256.size (inb2 (by omega) (by omega))).toLoadRect fun _ =>
  H.ST M.arg16 (Rect.unit (s := S256x256) ![0, 0] S256x256.size (inb2 (by omega) (by omega)))
    (resid s sx qx qw y) Finset.univ <|
  H.LD M.arg35 (Rect.unit (s := S8x256) ![0, 0] S8x256.size (inb2 (by omega) (by omega))).toLoadRect fun l =>
  H.LD M.arg35 (Rect.unit (s := S8x256) ![0, 0] S8x256.size (inb2 (by omega) (by omega))).toLoadRect fun _ =>
  H.ST M.arg35 (Rect.unit (s := S8x256) ![0, 0] S8x256.size (inb2 (by omega) (by omega)))
    (shapeCast S8x256 (lossStep (resid s sx qx qw y) l) shapeCasts_S8x256_S8x256) Finset.univ <|
  loop 14 (main3 H M (resW s (resid s sx qx qw y))) ⟨⟩ fun _ =>
  loop 14 (main4 H M (resX sx (resid s sx qx qw y))) ⟨⟩ fun _ =>
  loop 28 (main5 H M) ⟨⟩ fun _ =>
  K

/-- The main step. -/
def mainStep (i : grid0.Coords) (h2 : k0_cond2 i = 1#1) (K : R) : R :=
  loop 14 (main1 H M) (broadcast S256x128 (Scalar.ofBits .f32 0x00000000#32)) fun a =>
  loop 8 (main2 H M (scaleOf 0x40E00000#32 a)) (fun _ => broadcast S32x1 (Scalar.ofBits .f32 0x00000000#32)) fun e =>
  main6 H M i h2 (scaleOf 0x40E00000#32 a) e K

end Cert.KernelIdeal.Spin

end
-- ==== Proof.Body3.lean ====
/-
  The kernel's step as a compact program: the unrolled loops of the printed one written as loops, over
  named pure functions of what is loaded.
-/
module

public import proofs.«01_k».proof.Proof.Gen.KernelIdeal
public import proofs.«01_k».proof.Proof.Body

@[expose] public section

noncomputable section

namespace Cert.KernelIdeal.Spin

open Idealize.ShloMosaic Idealize.SL.Sem Cert.KernelIdeal.Gen _root_.Spin

universe u

variable {F : FTy → Type} [FloatOps F]

/-- One block of the rotation's gradient: the activations' part and the weights' part, times two over the
number of residuals. -/
def tGrad (x : Vec F S128x256 .bf16) (p : Vec F S256x128 .f32) (g : Vec F S1x128x128 .f32) : FVec F S128x128 .f32 :=
  mulf (broadcast S128x128 (Scalar.ofBits .f32 0x35E38E39#32))
    (addf (matmul dot_S128x256_S256x128_S128x128_1_0_0_1_n_n none x (truncf .bf16 p bitsLt_bf16_f32)
        (constant S128x128 .f32 0x00000000#32))
      (transpose S128x128 [1, 0] (shapeCast S128x128 g shapeCasts_S1x128x128_S128x128) transposes_S128x128_p1_0_S128x128))

/-- The new momentum: the old one, read from its codes, times the decay, plus the gradient. -/
def tMom (ms : Vec F S1x128 .f32) (mc : Vec F S1x128x128 .i8) (g : FVec F S128x128 .f32) : FVec F S128x128 .f32 :=
  addf (mulf (broadcast S128x128 (Scalar.ofBits .f32 0x3F666666#32))
    (mulf (sitofp .f32 (shapeCast S128x128 mc shapeCasts_S1x128x128_S128x128))
      (transpose S128x128 [1, 0] (broadcastTo S128x128 (shapeCast S1x128 ms shapeCasts_S1x128_S1x128) broadcasts_S1x128_S128x128)
        transposes_S128x128_p1_0_S128x128))) g

/-- The momentum times the rotation transposed. -/
def tMR (r m : FVec F S128x128 .f32) : FVec F S128x128 .f32 :=
  matmul dot_S128x128_S128x128_S128x128_1_1_0_0_n_n (some .fp32) m r (constant S128x128 .f32 0x00000000#32)

/-- That, less half the rotation times the rotation transposed times it. -/
def tHalf (r v : FVec F S128x128 .f32) : FVec F S128x128 .f32 :=
  subf v (mulf (broadcast S128x128 (Scalar.ofBits .f32 0x3F000000#32))
    (matmul dot_S128x128_S128x128_S128x128_1_0_0_1_n_n (some .fp32) r
      (matmul dot_S128x128_S128x128_S128x128_0_0_1_1_n_n (some .fp32) r v (constant S128x128 .f32 0x00000000#32))
      (constant S128x128 .f32 0x00000000#32)))

/-- The skew direction. -/
def tSkew (r v : FVec F S128x128 .f32) : FVec F S128x128 .f32 :=
  subf (tHalf r v) (transpose S128x128 [1, 0] (tHalf r v) transposes_S128x128_p1_0_S128x128)

/-- Its norm. -/
def tNorm (a : FVec F S128x128 .f32) : FVec F S1x1 .f32 :=
  sqrt (broadcast S1x1 (extractAt ![0, 0, 0] (shapeCast S1x1x1
    (multiReduction .add [1, 2] S1 (shapeCast S1x128x128 (mulf a a) shapeCasts_S128x128_S1x128x128) 0x00000000#32
      reduces_S1x128x128_S1 (.inl rfl) rfl) shapeCasts_S1_S1x1x1) inpos_S1x1x1_p0_0_0))

/-- The largest step allowed. -/
def tAmax (n : FVec F S1x1 .f32) : FVec F S1x1 .f32 :=
  divf (broadcast S1x1 (Scalar.ofBits .f32 0x3F000000#32)) (addf n (broadcast S1x1 (Scalar.ofBits .f32 0x322BCC77#32)))

/-- The step taken. -/
def tAlpha (lr : F .f32) (n : FVec F S1x1 .f32) : FVec F S1x1 .f32 := minimumf (broadcast S1x1 lr) (tAmax n)

/-- A product of two blocks. -/
def tMul (a b : FVec F S128x128 .f32) : FVec F S128x128 .f32 :=
  matmul dot_S128x128_S128x128_S128x128_1_0_0_1_n_n (some .fp32) a b (constant S128x128 .f32 0x00000000#32)

/-- A block times the step taken, negated. -/
def tNeg (al : FVec F S1x1 .f32) (v : FVec F S128x128 .f32) : FVec F S128x128 .f32 :=
  mulf (broadcastTo S128x128 (subf (broadcast S1x1 (Scalar.ofBits .f32 0x00000000#32)) al) broadcasts_S1x1_S128x128) v

/-- The first correction, and half its square. -/
def tD1 (al : FVec F S1x1 .f32) (u c : FVec F S128x128 .f32) : FVec F S128x128 .f32 :=
  addf (tNeg al u) (mulf (broadcastTo S128x128
    (mulf (mulf (broadcast S1x1 (Scalar.ofBits .f32 0x3F000000#32)) al) al) broadcasts_S1x1_S128x128) c)

/-- The step. -/
def tStep (al : FVec F S1x1 .f32) (u c : FVec F S128x128 .f32) : FVec F S128x128 .f32 :=
  subf (tNeg al u) (mulf (broadcastTo S128x128
    (mulf (broadcast S1x1 (Scalar.ofBits .f32 0x3F000000#32)) al) broadcasts_S1x1_S128x128) c)

/-- The scale of each row of a block. -/
def tScale (m : FVec F S128x128 .f32) : FVec F S128x1 .f32 :=
  have a : FVec F S128x1 .f32 := shapeCast S128x1
    (multiReduction .maximumf [1] S128 (absf m) 0xFF800000#32 reduces_S128x128_S128 (.inl rfl) rfl) shapeCasts_S128_S128x1
  select (cmpf .oeq a (broadcast S128x1 (Scalar.ofBits .f32 0x00000000#32)))
    (broadcast S128x1 (Scalar.ofBits .f32 0x3F800000#32)) (divf a (broadcast S128x1 (Scalar.ofBits .f32 0x42FE0000#32)))

/-- The scales as a row. -/
def tScaleRow (m : FVec F S128x128 .f32) : FVec F S1x128 .f32 :=
  extractStridedSlice S1x128 ![0, 0] (transpose S128x128 [1, 0]
    (broadcastTo S128x128 (shapeCast S128x1 (tScale m) shapeCasts_S128x1_S128x1) broadcasts_S128x1_S128x128)
    transposes_S128x128_p1_0_S128x128) slices_S128x128_o0_0_S1x128

/-- The codes of a block before the conversion. -/
def tCode (m : FVec F S128x128 .f32) : FVec F S128x128 .f32 :=
  minimumf (broadcast S128x128 (Scalar.ofBits .f32 0x42FE0000#32))
    (maximumf (broadcast S128x128 (Scalar.ofBits .f32 0xC2FE0000#32))
      (roundeven (divf m (broadcastTo S128x128 (tScale m) broadcasts_S128x1_S128x128))))

/-- A block read as a matrix. -/
def tMat (r : Vec F S1x128x128 .f32) : FVec F S128x128 .f32 := shapeCast S128x128 r shapeCasts_S1x128x128_S128x128

/-- A matrix as a block. -/
def tBlk (r : FVec F S128x128 .f32) : FVec F S1x128x128 .f32 := shapeCast S1x128x128 r shapeCasts_S128x128_S1x128x128

variable {R : Type u} (H : Hd sig (Elt F) R) (M : Args)

/-- What one block of the tail writes: from the rotation block `r`, the momentum `m`, the skew direction `a`,
and the learning rate. -/
def tailW (i : grid0.Coords) (h3 : k0_cond3 i = 1#1) (j : Fin 4) (r m a : FVec F S128x128 .f32) (K : Unit → R) : R :=
  H.LD M.arg12 (Rect.unit (s := S28) (k0_off6 i (BitVec.ofNat 32 j)) S1.size (k0_off6_inb i h3 j)).toLoadRect fun _ =>
  H.ST M.arg12 (Rect.unit (s := S28) (k0_off6 i (BitVec.ofNat 32 j)) S1.size (k0_off6_inb i h3 j))
    (fun _ => extractAt ![0, 0] (tNorm a) inpos_S1x1_p0_0) Finset.univ <|
  H.LD M.arg13 (Rect.unit (s := S28) (k0_off6 i (BitVec.ofNat 32 j)) S1.size (k0_off6_inb i h3 j)).toLoadRect fun _ =>
  H.ST M.arg13 (Rect.unit (s := S28) (k0_off6 i (BitVec.ofNat 32 j)) S1.size (k0_off6_inb i h3 j))
    (fun _ => extractAt ![0, 0] (tAmax (tNorm a)) inpos_S1x1_p0_0) Finset.univ <|
  H.LD M.arg7 (Rect.unit (s := S28) (k0_off6 i (BitVec.ofNat 32 j)) S1.size (k0_off6_inb i h3 j)).toLoadRect fun l =>
  have al := tAlpha (l (Shape.Idx.first (numel1_S1.symm ▸ Nat.one_pos))) (tNorm a)
  H.LD M.arg10 (Rect.unit (s := S4x128x128) ![j, 0, 0] S1x128x128.size (inb3 (by omega) (by omega) (by omega))).toLoadRect fun _ =>
  H.ST M.arg10 (Rect.unit (s := S4x128x128) ![j, 0, 0] S1x128x128.size (inb3 (by omega) (by omega) (by omega)))
    (tBlk (tMul a m)) Finset.univ <|
  H.LD M.arg11 (Rect.unit (s := S4x128x128) ![j, 0, 0] S1x128x128.size (inb3 (by omega) (by omega) (by omega))).toLoadRect fun _ =>
  H.ST M.arg11 (Rect.unit (s := S4x128x128) ![j, 0, 0] S1x128x128.size (inb3 (by omega) (by omega) (by omega)))
    (tBlk (tMul a (tD1 al (tMul a r) (tMul a m)))) Finset.univ <|
  H.LD M.arg9 (Rect.unit (s := S4x128x128) ![j, 0, 0] S1x128x128.size (inb3 (by omega) (by omega) (by omega))).toLoadRect fun _ =>
  H.ST M.arg9 (Rect.unit (s := S4x128x128) ![j, 0, 0] S1x128x128.size (inb3 (by omega) (by omega) (by omega)))
    (tBlk (tStep al (tMul a r) (tMul a (tD1 al (tMul a r) (tMul a m))))) Finset.univ <|
  H.LD M.arg8 (Rect.unit (s := S4x128x128) ![j, 0, 0] S1x128x128.size (inb3 (by omega) (by omega) (by omega))).toLoadRect fun _ =>
  H.ST M.arg8 (Rect.unit (s := S4x128x128) ![j, 0, 0] S1x128x128.size (inb3 (by omega) (by omega) (by omega)))
    (tBlk (addf r (tStep al (tMul a r) (tMul a (tD1 al (tMul a r) (tMul a m)))))) Finset.univ <|
  H.LD M.arg23 (Rect.unit (s := S28x128) (k0_off5 i (BitVec.ofNat 32 j)) S1x128.size (k0_off5_inb i h3 j)).toLoadRect fun _ =>
  H.ST M.arg23 (Rect.unit (s := S28x128) (k0_off5 i (BitVec.ofNat 32 j)) S1x128.size (k0_off5_inb i h3 j))
    (tScaleRow (tMul a r)) Finset.univ <|
  H.LD M.arg34 (Rect.unit (s := S3584x128) (k0_off7 i (BitVec.ofNat 32 j)) S128x128.size (k0_off7_inb i h3 j)).toLoadRect fun _ =>
  H.ST M.arg34 (Rect.unit (s := S3584x128) (k0_off7 i (BitVec.ofNat 32 j)) S128x128.size (k0_off7_inb i h3 j))
    (shapeCast S128x128 (tCode (tMul a r)) shapeCasts_S128x128_S128x128) Finset.univ <|
  K ⟨⟩

/-- One block of the tail. -/
def tail1 (i : grid0.Coords) (h3 : k0_cond3 i = 1#1) (j : Fin 4) (_ : Unit) (K : Unit → R) : R :=
  H.LD M.arg4 (Rect.unit (s := S28x128x128) (k0_off2 i (BitVec.ofNat 32 j)) S1x128x128.size (k0_off2_inb i h3 j)).toLoadRect fun r =>
  H.LD M.arg28 (Rect.unit (s := S3584x256) (k0_off3 i (BitVec.ofNat 32 j)) S128x256.size (k0_off3_inb i h3 j)).toLoadRect fun x =>
  H.LD M.arg32 (Rect.unit (s := S256x3584) (k0_off4 i (BitVec.ofNat 32 j)) S256x128.size (k0_off4_inb i h3 j)).toLoadRect fun p =>
  H.LD M.arg33 (Rect.unit (s := S28x128x128) (k0_off2 i (BitVec.ofNat 32 j)) S1x128x128.size (k0_off2_inb i h3 j)).toLoadRect fun g =>
  H.LD M.arg17 (Rect.unit (s := S4x128x128) ![j, 0, 0] S1x128x128.size (inb3 (by omega) (by omega) (by omega))).toLoadRect fun _ =>
  H.ST M.arg17 (Rect.unit (s := S4x128x128) ![j, 0, 0] S1x128x128.size (inb3 (by omega) (by omega) (by omega)))
    (tBlk (tGrad x p g)) Finset.univ <|
  H.LD M.arg6 (Rect.unit (s := S28x128) (k0_off5 i (BitVec.ofNat 32 j)) S1x128.size (k0_off5_inb i h3 j)).toLoadRect fun ms =>
  H.LD M.arg5 (Rect.unit (s := S4x128x128) ![j, 0, 0] S1x128x128.size (inb3 (by omega) (by omega) (by omega))).toLoadRect fun mc =>
  tailW H M i h3 j (tMat r) (tMom ms mc (tGrad x p g)) (tSkew (tMat r) (tMR (tMat r) (tMom ms mc (tGrad x p g)))) K

/-- The tail. -/
def tailStep (i : grid0.Coords) (h3 : k0_cond3 i = 1#1) (K : R) : R :=
  loop 4 (tail1 H M i h3) ⟨⟩ fun _ => K

/-- The loss. -/
def lossOf (l : Vec F S8x256 .f32) : F .f32 :=
  Scalar.divf (extractAt ![0, 0, 0] (shapeCast S1x1x1
    (multiReduction .add [1, 2] S1 (shapeCast S1x8x256 l shapeCasts_S8x256_S1x8x256) 0x00000000#32
      reduces_S1x8x256_S1 (.inl rfl) rfl) shapeCasts_S1_S1x1x1) inpos_S1x1x1_p0_0_0) (Scalar.ofBits .f32 0x49900000#32)

/-- Row `k` of every momentum block. -/
def end1 (k : Fin 128) (_ : Unit) (K : Unit → R) : R :=
  H.LD M.arg34 (⟨![k, 0], S28x128.size, ![128, 1], Fin.forall_fin_two.mpr
      ⟨.inr (by show k.val + 128 * 27 < 3584; omega), .inr (by show 0 + 1 * 127 < 128; omega)⟩⟩ : LoadRect S3584x128) fun m =>
  H.LD M.arg22 (Rect.unit (s := S28x16384) ![0, 128 * k] S28x128.size (inb2 (by omega) (by omega))).toLoadRect fun _ =>
  H.ST M.arg22 (Rect.unit (s := S28x16384) ![0, 128 * k] S28x128.size (inb2 (by omega) (by omega))) (fptosi 8 m) Finset.univ <|
  K ⟨⟩

/-- The end. -/
def endStep (K : R) : R :=
  H.LD M.arg35 (Rect.unit (s := S8x256) ![0, 0] S8x256.size (inb2 (by omega) (by omega))).toLoadRect fun l =>
  H.LD M.arg14 (Rect.unit (s := S1x1) ![0, 0] S1x1.size (inb2 (by omega) (by omega))).toLoadRect fun _ =>
  H.ST M.arg14 (Rect.unit (s := S1x1) ![0, 0] S1x1.size (inb2 (by omega) (by omega))) (fun _ => lossOf l) Finset.univ <|
  loop 128 (end1 H M) ⟨⟩ fun _ => K

end Cert.KernelIdeal.Spin

end
-- ==== Proof.Step.lean ====
/-
  The kernel's step as a compact program: the unrolled loops of the printed one written as loops, over
  named pure functions of what is loaded.
-/
module

public import proofs.«01_k».proof.Proof.Gen.KernelIdeal
public import proofs.«01_k».proof.Proof.Body2
public import proofs.«01_k».proof.Proof.Body3

@[expose] public section

noncomputable section

namespace Cert.KernelIdeal.Spin

open Idealize.ShloMosaic Idealize.SL.Sem Cert.KernelIdeal.Gen _root_.Spin

universe u

variable {F : FTy → Type} [FloatOps F]

variable {R : Type u} (H : Hd sig (Elt F) R) (M : Args)

/-- The end, at the last point. -/
def st4 (i : grid0.Coords) (K : R) : R := if _h : k0_cond4 i = 1#1 then endStep H M K else K

/-- The tail, from its first point on. -/
def st3 (i : grid0.Coords) (K : R) : R := if h : k0_cond3 i = 1#1 then tailStep H M i h (st4 H M i K) else st4 H M i K

/-- The main step, below that. -/
def st2 (i : grid0.Coords) (K : R) : R := if h : k0_cond2 i = 1#1 then mainStep H M i h (st3 H M i K) else st3 H M i K

/-- The whole step. -/
def st1 (i : grid0.Coords) (K : R) : R := if _h : k0_cond1 i = 1#1 then prologue H M (st2 H M i K) else st2 H M i K

/-- A program that branches and then joins, read by a handler. -/
theorem fold_join {β : Type} (c : Prop) [Decidable c]
    (p : c → Prog (TpuEff nD τ sig (Elt F) Λ₀ .tc) β) (rest : Prog (TpuEff nD τ sig (Elt F) Λ₀ .tc) β)
    (K : β → R) (G : c → R → R) (Y : R)
    (hp : ∀ h : c, fold H (p h) K = G h (fold H rest K)) (hr : fold H rest K = Y) :
    fold H (dite c p fun _ => rest) K = if h : c then G h Y else Y := by
  rw [fold_ite]
  split
  · rw [hp, hr]
  · exact hr

set_option maxRecDepth 100000 in
set_option maxHeartbeats 4000000 in
/-- The printed step, read by any handler, is the compact one. -/
theorem step_eq (i : grid0.Coords) (arg1 : Memref sig .tc .vmem S256x3584 .bf16) (harg1 : arg1.IsWhole) (arg2 : Memref sig .tc .vmem S256x3584 .bf16) (harg2 : arg2.IsWhole) (arg3 : Memref sig .tc .vmem S256x256 .bf16) (harg3 : arg3.IsWhole) (arg4 : Memref sig .tc .vmem S28x128x128 .f32) (harg4 : arg4.IsWhole) (arg5 : Memref sig .tc .vmem S4x128x128 .i8) (harg5 : arg5.IsWhole) (arg6 : Memref sig .tc .vmem S28x128 .f32) (harg6 : arg6.IsWhole) (arg7 : Memref sig .tc .smem S28 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .smem S28 .f32) (harg12 : arg12.IsWhole) (arg13 : Memref sig .tc .smem S28 .f32) (harg13 : arg13.IsWhole) (arg14 : Memref sig .tc .smem S1x1 .f32) (harg14 : arg14.IsWhole) (arg15 : Memref sig .tc .vmem S1x4608 .f32) (harg15 : arg15.IsWhole) (arg16 : Memref sig .tc .vmem S256x256 .f32) (harg16 : arg16.IsWhole) (arg17 : Memref sig .tc .vmem S4x128x128 .f32) (harg17 : arg17.IsWhole) (arg18 : Memref sig .tc .vmem S256x3584 .i8) (harg18 : arg18.IsWhole) (arg19 : Memref sig .tc .vmem S1x256 .f32) (harg19 : arg19.IsWhole) (arg20 : Memref sig .tc .vmem S256x3584 .i8) (harg20 : arg20.IsWhole) (arg21 : Memref sig .tc .vmem S1x4608 .f32) (harg21 : arg21.IsWhole) (arg22 : Memref sig .tc .vmem S28x16384 .i8) (harg22 : arg22.IsWhole) (arg23 : Memref sig .tc .vmem S28x128 .f32) (harg23 : arg23.IsWhole) (arg24 : Memref sig .tc .vmem S14x256x256 .bf16) (harg24 : arg24.IsWhole) (arg25 : Memref sig .tc .vmem S256x3584 .f32) (harg25 : arg25.IsWhole) (arg26 : Memref sig .tc .vmem S256x3584 .bf16) (harg26 : arg26.IsWhole) (arg27 : Memref sig .tc .vmem S3584x256 .bf16) (harg27 : arg27.IsWhole) (arg28 : Memref sig .tc .vmem S3584x256 .bf16) (harg28 : arg28.IsWhole) (arg29 : Memref sig .tc .vmem S256x128 .f32) (harg29 : arg29.IsWhole) (arg30 : Memref sig .tc .vmem S256x3584 .bf16) (harg30 : arg30.IsWhole) (arg31 : Memref sig .tc .vmem S3584x256 .bf16) (harg31 : arg31.IsWhole) (arg32 : Memref sig .tc .vmem S256x3584 .f32) (harg32 : arg32.IsWhole) (arg33 : Memref sig .tc .vmem S28x128x128 .f32) (harg33 : arg33.IsWhole) (arg34 : Memref sig .tc .vmem S3584x128 .f32) (harg34 : arg34.IsWhole) (arg35 : Memref sig .tc .vmem S8x256 .f32) (harg35 : arg35.IsWhole) (K : PUnit → R) :
    fold H (cc0_spinquant_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K = st1 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩) := by
  unfold cc0_spinquant_step
  refine fold_join H _ _ _ K (fun _ => prologue H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩) (st2 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun h => mainStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i h) (st3 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun h => tailStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i h) (st4 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun _ => endStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩) (K ⟨⟩) ?_ ?_
  · intro h; rfl
  rfl

end Cert.KernelIdeal.Spin

end
-- ==== Proof.Safe.lean ====
/-
  The kernel's step touches only its own buffers: it reads any of them and writes its results and its scratch.
-/
module

public import proofs.«01_k».proof.Proof.Gen.KernelIdeal
public import proofs.«01_k».proof.Proof.Step

@[expose] public section

noncomputable section

namespace Cert.KernelIdeal.Spin

open Idealize.ShloMosaic Idealize.SL.Sem Cert.KernelIdeal.Gen _root_.Spin

variable {F : FTy → Type} [FloatOps F] (M : Args)

/-- The results' buffers and the scratch. -/
def Args.outs : List (Ref sig .tc) :=
  [M.arg8.view.ref, M.arg9.view.ref, M.arg10.view.ref, M.arg11.view.ref, M.arg12.view.ref, M.arg13.view.ref, M.arg14.view.ref, M.arg15.view.ref, M.arg16.view.ref, M.arg17.view.ref, M.arg18.view.ref, M.arg19.view.ref, M.arg20.view.ref, M.arg21.view.ref, M.arg22.view.ref, M.arg23.view.ref, M.arg24.view.ref, M.arg25.view.ref, M.arg26.view.ref, M.arg27.view.ref, M.arg28.view.ref, M.arg29.view.ref, M.arg30.view.ref, M.arg31.view.ref, M.arg32.view.ref, M.arg33.view.ref, M.arg34.view.ref, M.arg35.view.ref]

/-- All the step's buffers. -/
def Args.all : List (Ref sig .tc) := [M.arg1.view.ref, M.arg2.view.ref, M.arg3.view.ref, M.arg4.view.ref, M.arg5.view.ref, M.arg6.view.ref, M.arg7.view.ref] ++ M.outs

/-- A buffer the step may read. -/
def okL (b : Ref sig .tc) : Prop := b ∈ M.all

/-- A buffer the step may write. -/
def okS (b : Ref sig .tc) : Prop := b ∈ M.outs

/-- A buffer the step may write it may also read. -/
theorem okL_of_okS {b : Ref sig .tc} (h : okS M b) : okL M b := List.mem_append_right _ h

/-- The step may write buffer 8. -/
theorem s8 : okS M M.arg8.view.ref := by simp [okS, Args.outs]
/-- The step may write buffer 9. -/
theorem s9 : okS M M.arg9.view.ref := by simp [okS, Args.outs]
/-- The step may write buffer 10. -/
theorem s10 : okS M M.arg10.view.ref := by simp [okS, Args.outs]
/-- The step may write buffer 11. -/
theorem s11 : okS M M.arg11.view.ref := by simp [okS, Args.outs]
/-- The step may write buffer 12. -/
theorem s12 : okS M M.arg12.view.ref := by simp [okS, Args.outs]
/-- The step may write buffer 13. -/
theorem s13 : okS M M.arg13.view.ref := by simp [okS, Args.outs]
/-- The step may write buffer 14. -/
theorem s14 : okS M M.arg14.view.ref := by simp [okS, Args.outs]
/-- The step may write buffer 15. -/
theorem s15 : okS M M.arg15.view.ref := by simp [okS, Args.outs]
/-- The step may write buffer 16. -/
theorem s16 : okS M M.arg16.view.ref := by simp [okS, Args.outs]
/-- The step may write buffer 17. -/
theorem s17 : okS M M.arg17.view.ref := by simp [okS, Args.outs]
/-- The step may write buffer 18. -/
theorem s18 : okS M M.arg18.view.ref := by simp [okS, Args.outs]
/-- The step may write buffer 19. -/
theorem s19 : okS M M.arg19.view.ref := by simp [okS, Args.outs]
/-- The step may write buffer 20. -/
theorem s20 : okS M M.arg20.view.ref := by simp [okS, Args.outs]
/-- The step may write buffer 21. -/
theorem s21 : okS M M.arg21.view.ref := by simp [okS, Args.outs]
/-- The step may write buffer 22. -/
theorem s22 : okS M M.arg22.view.ref := by simp [okS, Args.outs]
/-- The step may write buffer 23. -/
theorem s23 : okS M M.arg23.view.ref := by simp [okS, Args.outs]
/-- The step may write buffer 24. -/
theorem s24 : okS M M.arg24.view.ref := by simp [okS, Args.outs]
/-- The step may write buffer 25. -/
theorem s25 : okS M M.arg25.view.ref := by simp [okS, Args.outs]
/-- The step may write buffer 26. -/
theorem s26 : okS M M.arg26.view.ref := by simp [okS, Args.outs]
/-- The step may write buffer 27. -/
theorem s27 : okS M M.arg27.view.ref := by simp [okS, Args.outs]
/-- The step may write buffer 28. -/
theorem s28 : okS M M.arg28.view.ref := by simp [okS, Args.outs]
/-- The step may write buffer 29. -/
theorem s29 : okS M M.arg29.view.ref := by simp [okS, Args.outs]
/-- The step may write buffer 30. -/
theorem s30 : okS M M.arg30.view.ref := by simp [okS, Args.outs]
/-- The step may write buffer 31. -/
theorem s31 : okS M M.arg31.view.ref := by simp [okS, Args.outs]
/-- The step may write buffer 32. -/
theorem s32 : okS M M.arg32.view.ref := by simp [okS, Args.outs]
/-- The step may write buffer 33. -/
theorem s33 : okS M M.arg33.view.ref := by simp [okS, Args.outs]
/-- The step may write buffer 34. -/
theorem s34 : okS M M.arg34.view.ref := by simp [okS, Args.outs]
/-- The step may write buffer 35. -/
theorem s35 : okS M M.arg35.view.ref := by simp [okS, Args.outs]
/-- The step may read buffer 1. -/
theorem l1 : okL M M.arg1.view.ref := by simp [okL, Args.all]
/-- The step may read buffer 2. -/
theorem l2 : okL M M.arg2.view.ref := by simp [okL, Args.all]
/-- The step may read buffer 3. -/
theorem l3 : okL M M.arg3.view.ref := by simp [okL, Args.all]
/-- The step may read buffer 4. -/
theorem l4 : okL M M.arg4.view.ref := by simp [okL, Args.all]
/-- The step may read buffer 5. -/
theorem l5 : okL M M.arg5.view.ref := by simp [okL, Args.all]
/-- The step may read buffer 6. -/
theorem l6 : okL M M.arg6.view.ref := by simp [okL, Args.all]
/-- The step may read buffer 7. -/
theorem l7 : okL M M.arg7.view.ref := by simp [okL, Args.all]
/-- The step may read buffer 8. -/
theorem l8 : okL M M.arg8.view.ref := okL_of_okS M (s8 M)
/-- The step may read buffer 9. -/
theorem l9 : okL M M.arg9.view.ref := okL_of_okS M (s9 M)
/-- The step may read buffer 10. -/
theorem l10 : okL M M.arg10.view.ref := okL_of_okS M (s10 M)
/-- The step may read buffer 11. -/
theorem l11 : okL M M.arg11.view.ref := okL_of_okS M (s11 M)
/-- The step may read buffer 12. -/
theorem l12 : okL M M.arg12.view.ref := okL_of_okS M (s12 M)
/-- The step may read buffer 13. -/
theorem l13 : okL M M.arg13.view.ref := okL_of_okS M (s13 M)
/-- The step may read buffer 14. -/
theorem l14 : okL M M.arg14.view.ref := okL_of_okS M (s14 M)
/-- The step may read buffer 15. -/
theorem l15 : okL M M.arg15.view.ref := okL_of_okS M (s15 M)
/-- The step may read buffer 16. -/
theorem l16 : okL M M.arg16.view.ref := okL_of_okS M (s16 M)
/-- The step may read buffer 17. -/
theorem l17 : okL M M.arg17.view.ref := okL_of_okS M (s17 M)
/-- The step may read buffer 18. -/
theorem l18 : okL M M.arg18.view.ref := okL_of_okS M (s18 M)
/-- The step may read buffer 19. -/
theorem l19 : okL M M.arg19.view.ref := okL_of_okS M (s19 M)
/-- The step may read buffer 20. -/
theorem l20 : okL M M.arg20.view.ref := okL_of_okS M (s20 M)
/-- The step may read buffer 21. -/
theorem l21 : okL M M.arg21.view.ref := okL_of_okS M (s21 M)
/-- The step may read buffer 22. -/
theorem l22 : okL M M.arg22.view.ref := okL_of_okS M (s22 M)
/-- The step may read buffer 23. -/
theorem l23 : okL M M.arg23.view.ref := okL_of_okS M (s23 M)
/-- The step may read buffer 24. -/
theorem l24 : okL M M.arg24.view.ref := okL_of_okS M (s24 M)
/-- The step may read buffer 25. -/
theorem l25 : okL M M.arg25.view.ref := okL_of_okS M (s25 M)
/-- The step may read buffer 26. -/
theorem l26 : okL M M.arg26.view.ref := okL_of_okS M (s26 M)
/-- The step may read buffer 27. -/
theorem l27 : okL M M.arg27.view.ref := okL_of_okS M (s27 M)
/-- The step may read buffer 28. -/
theorem l28 : okL M M.arg28.view.ref := okL_of_okS M (s28 M)
/-- The step may read buffer 29. -/
theorem l29 : okL M M.arg29.view.ref := okL_of_okS M (s29 M)
/-- The step may read buffer 30. -/
theorem l30 : okL M M.arg30.view.ref := okL_of_okS M (s30 M)
/-- The step may read buffer 31. -/
theorem l31 : okL M M.arg31.view.ref := okL_of_okS M (s31 M)
/-- The step may read buffer 32. -/
theorem l32 : okL M M.arg32.view.ref := okL_of_okS M (s32 M)
/-- The step may read buffer 33. -/
theorem l33 : okL M M.arg33.view.ref := okL_of_okS M (s33 M)
/-- The step may read buffer 34. -/
theorem l34 : okL M M.arg34.view.ref := okL_of_okS M (s34 M)
/-- The step may read buffer 35. -/
theorem l35 : okL M M.arg35.view.ref := okL_of_okS M (s35 M)

/-- The handler that asks for what may be touched. -/
abbrev saf : Hd sig (Elt F) Prop := safeH (okL M) (okS M)

/-- `pro1` touches only buffers the step may touch. -/
theorem pro1_safe (p : Fin 14) (a) (K : FVec F S256x128 .f32 → Prop) (hK : ∀ a', K a') : pro1 (saf M) M p a K := by
  simp only [pro1, safeH, l1, l4, l24, l25, s24, s25, true_and]; intros; exact hK _

/-- `pro2` touches only buffers the step may touch. -/
theorem pro2_safe (s : FVec F S256x1 .f32) (p : Fin 14) (a) (K : Unit → Prop) (hK : ∀ a', K a') : pro2 (saf M) M s p a K := by
  simp only [pro2, safeH, l1, l18, l25, l26, l27, l28, s18, s26, s27, s28, true_and]; intros; exact hK _

/-- `prologue` touches only buffers the step may touch. -/
theorem prologue_safe (K : Prop) (hK : K) : prologue (F := F) (saf M) M K := by
  unfold prologue
  refine loop_safe (pro1_safe M) fun a => ?_
  simp only [safeH, l29, l19, s29, s19, true_and]; intros
  refine loop_safe (pro2_safe M _) fun _ => ?_
  simp only [safeH, l32, l33, l35, s32, s33, s35, true_and]; intros; exact hK

/-- `main1` touches only buffers the step may touch. -/
theorem main1_safe (p : Fin 14) (a) (K : FVec F S256x128 .f32 → Prop) (hK : ∀ a', K a') : main1 (saf M) M p a K := by
  simp only [main1, safeH, l2, l24, l25, s25, true_and]; intros; exact hK _

/-- `main2b` touches only buffers the step may touch. -/
theorem main2b_safe (s : FVec F S256x1 .f32) (c : Fin 8) (b : Fin 28) (a) (K : FVec F S32x128 .f32 → Prop) (hK : ∀ a', K a') :
    main2b (saf M) M s c b a K := by
  simp only [main2b, safeH, l25, l20, l30, s20, s30, true_and]; intros; exact hK _

/-- `main2` touches only buffers the step may touch. -/
theorem main2_safe (s : FVec F S256x1 .f32) (c : Fin 8) (e) (K : (Fin 8 → FVec F S32x1 .f32) → Prop) (hK : ∀ a', K a') :
    main2 (saf M) M s c e K := by
  unfold main2; exact loop_safe (main2b_safe M s c) fun _ => hK _

/-- `main3` touches only buffers the step may touch. -/
theorem main3_safe (ew : FVec F S256x256 .bf16) (p : Fin 14) (a) (K : Unit → Prop) (hK : ∀ a', K a') : main3 (saf M) M ew p a K := by
  simp only [main3, safeH, l30, l32, s32, true_and]; intros; exact hK _

/-- `main4` touches only buffers the step may touch. -/
theorem main4_safe (ex : FVec F S256x256 .bf16) (p : Fin 14) (a) (K : Unit → Prop) (hK : ∀ a', K a') : main4 (saf M) M ex p a K := by
  simp only [main4, safeH, l27, l31, s31, true_and]; intros; exact hK _

/-- `main5` touches only buffers the step may touch. -/
theorem main5_safe (b : Fin 28) (a) (K : Unit → Prop) (hK : ∀ a', K a') : main5 (F := F) (saf M) M b a K := by
  simp only [main5, safeH, l2, l31, l33, s33, true_and]; intros; exact hK _

/-- `main6` touches only buffers the step may touch. -/
theorem main6_safe (i : grid0.Coords) (h2 : k0_cond2 i = 1#1) (s : FVec F S256x1 .f32) (e : Fin 8 → FVec F S32x1 .f32) (K : Prop) (hK : K) :
    main6 (saf M) M i h2 s e K := by
  simp only [main6, safeH, l21, l15, l29, l26, l30, l3, l16, l35, s21, s15, s16, s35, true_and]; intros
  refine loop_safe (main3_safe M _) fun _ => ?_
  refine loop_safe (main4_safe M _) fun _ => ?_
  exact loop_safe (main5_safe M) fun _ => hK

/-- `mainStep` touches only buffers the step may touch. -/
theorem mainStep_safe (i : grid0.Coords) (h2 : k0_cond2 i = 1#1) (K : Prop) (hK : K) : mainStep (F := F) (saf M) M i h2 K := by
  unfold mainStep
  refine loop_safe (main1_safe M) fun a => ?_
  refine loop_safe (main2_safe M _) fun e => ?_
  exact main6_safe M i h2 _ e K hK

/-- `tail1` touches only buffers the step may touch. -/
theorem tail1_safe (i : grid0.Coords) (h3 : k0_cond3 i = 1#1) (j : Fin 4) (a) (K : Unit → Prop) (hK : ∀ a', K a') :
    tail1 (F := F) (saf M) M i h3 j a K := by
  simp only [tail1, tailW, safeH, l4, l28, l32, l33, l17, l6, l5, l12, l13, l7, l10, l11, l9, l8, l23, l34,
    s17, s12, s13, s10, s11, s9, s8, s23, s34, true_and]; intros; exact hK _

/-- `tailStep` touches only buffers the step may touch. -/
theorem tailStep_safe (i : grid0.Coords) (h3 : k0_cond3 i = 1#1) (K : Prop) (hK : K) : tailStep (F := F) (saf M) M i h3 K := by
  unfold tailStep; exact loop_safe (tail1_safe M i h3) fun _ => hK

/-- `end1` touches only buffers the step may touch. -/
theorem end1_safe (k : Fin 128) (a) (K : Unit → Prop) (hK : ∀ a', K a') : end1 (F := F) (saf M) M k a K := by
  simp only [end1, safeH, l34, l22, s22, true_and]; intros; exact hK _

/-- `endStep` touches only buffers the step may touch. -/
theorem endStep_safe (K : Prop) (hK : K) : endStep (F := F) (saf M) M K := by
  simp only [endStep, safeH, l35, l14, s14, true_and]; intros
  exact loop_safe (end1_safe M) fun _ => hK

/-- The whole step touches only what it may. -/
theorem st1_safe (i : grid0.Coords) : st1 (F := F) (saf M) M i True := by
  have h4 : st4 (F := F) (saf M) M i True := by
    unfold st4; split
    · exact endStep_safe M _ trivial
    · trivial
  have h3 : st3 (F := F) (saf M) M i True := by
    unfold st3; split
    · exact tailStep_safe M i _ _ h4
    · exact h4
  have h2 : st2 (F := F) (saf M) M i True := by
    unfold st2; split
    · exact mainStep_safe M i _ _ h3
    · exact h3
  unfold st1; split
  · exact prologue_safe M _ h2
  · exact h2

end Cert.KernelIdeal.Spin

end
-- ==== Proof.Bufs.lean ====
/-
  The buffers of one step of the kernel: the staging buffers of the windows, and the scratch.
-/
module

public import proofs.«01_k».proof.Proof.Gen.KernelIdeal.Frame
public import proofs.«01_k».proof.Proof.Own
public import proofs.«01_k».proof.Proof.Safe
public import Idealize.ShloMosaic.Lib.Pipeline.ArrRel

@[expose] public section

set_option maxRecDepth 16384

noncomputable section

namespace Cert.KernelIdeal.Spin

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat cellOf)
open Cert.KernelIdeal.Gen _root_.Spin

variable {F : FTy → Type} [FloatOps F]

local notation "𝕄" => MT nD τ sig Unit (Elt F) ℕ (UR sig nD τ) ℕ

/-- The step's memrefs at a point. -/
abbrev argsAt (t : Fin cfg0.N) : Args :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10), win0_11.stage (cfg0.slots t 11),
    win0_12.stage (cfg0.slots t 12), win0_13.stage (cfg0.slots t 13), win0_14.stage (cfg0.slots t 14), win0_15.stage (cfg0.slots t 15),
    win0_16.stage (cfg0.slots t 16), win0_17.stage (cfg0.slots t 17), win0_18.stage (cfg0.slots t 18), win0_19.stage (cfg0.slots t 19),
    win0_20.stage (cfg0.slots t 20), win0_21.stage (cfg0.slots t 21), win0_22.stage (cfg0.slots t 22),
    Memref.whole cc0_scratch0, Memref.whole cc0_scratch1, Memref.whole cc0_scratch2, Memref.whole cc0_scratch3,
    Memref.whole cc0_scratch4, Memref.whole cc0_scratch5, Memref.whole cc0_scratch6, Memref.whole cc0_scratch7,
    Memref.whole cc0_scratch8, Memref.whole cc0_scratch9, Memref.whole cc0_scratch10, Memref.whole cc0_scratch11⟩

/-- The scoped buffers that stage no window. -/
def S0 : Finset (Ref sig .tc) := (Finset.univ.filter fun b : Ref sig .tc => b.isScoped) \ Finset.univ.image (Pipeline.stageRef spec0)

/-- Window `w`'s current staging buffer. -/
def stg (t : Fin cfg0.N) (w : Fin cfg0.W) : Ref sig .tc := Pipeline.stageRef spec0 ⟨w, cfg0.slots t w⟩

/-- At each step, different windows stage in different buffers. -/
theorem stg_inj (t : Fin cfg0.N) : Function.Injective (stg t) := fun w w' h => by
  have := winFacts0.stage_inj h
  exact congrArg Sigma.fst this

/-- No current staging buffer is among the scoped buffers that stage no window. -/
theorem stg_not_mem (t : Fin cfg0.N) (w : Fin cfg0.W) : stg t w ∉ S0 := fun h =>
  (Finset.mem_sdiff.mp h).2 (Finset.mem_image_of_mem _ (Finset.mem_univ _))

/-- The twelve scratch buffers are among the scoped buffers that stage no window. -/
theorem scratch_mem : ∀ b ∈ [cc0_scratch0, cc0_scratch1, cc0_scratch2, cc0_scratch3, cc0_scratch4, cc0_scratch5, cc0_scratch6,
    cc0_scratch7, cc0_scratch8, cc0_scratch9, cc0_scratch10, cc0_scratch11], b ∈ S0 := by decide

/-- Everything the step touches is a staging buffer or scratch. -/
theorem all_mem (t : Fin cfg0.N) (b : Ref sig .tc) (h : okL (argsAt t) b) : b ∈ S0 ∪ Finset.univ.image (stg t) := by
  have hs : ∀ w, stg t w ∈ S0 ∪ Finset.univ.image (stg t) := fun w =>
    Finset.mem_union_right _ (Finset.mem_image_of_mem _ (Finset.mem_univ w))
  have hc := fun b hb => Finset.mem_union_left (Finset.univ.image (stg t)) (scratch_mem b hb)
  revert h; revert b
  show ∀ b ∈ (argsAt t).all, _
  refine List.forall_mem_append.mpr ⟨?_, ?_⟩
  · simp only [List.forall_mem_cons, List.not_mem_nil, IsEmpty.forall_iff, implies_true, and_true]
    exact ⟨hs 0, hs 1, hs 2, hs 3, hs 4, hs 5, hs 6⟩
  · unfold Args.outs
    simp only [List.forall_mem_cons, List.not_mem_nil, IsEmpty.forall_iff, implies_true, and_true] at hc ⊢
    exact ⟨hs 7, hs 8, hs 9, hs 10, hs 11, hs 12, hs 13, hs 14, hs 15, hs 16, hs 17, hs 18, hs 19, hs 20, hs 21, hs 22, hc⟩

/-- The step writes no input's staging buffer. -/
theorem in_not_okS (t : Fin cfg0.N) (w : Fin cfg0.W) (hw : (cfg0.win w).isOut = false) : ¬ okS (argsAt t) (stg t w) := by
  intro h
  have hout : ∀ b ∈ (argsAt t).outs, b ∈ S0 ∨ ∃ w', (cfg0.win w').isOut = true ∧ b = stg t w' := by
    unfold Args.outs
    have hc := scratch_mem
    simp only [List.forall_mem_cons, List.not_mem_nil, IsEmpty.forall_iff, implies_true, and_true] at hc ⊢
    obtain ⟨h0, h1, h2, h3, h4, h5, h6, h7, h8, h9, h10, h11⟩ := hc
    exact ⟨.inr ⟨7, rfl, rfl⟩, .inr ⟨8, rfl, rfl⟩, .inr ⟨9, rfl, rfl⟩, .inr ⟨10, rfl, rfl⟩, .inr ⟨11, rfl, rfl⟩, .inr ⟨12, rfl, rfl⟩,
      .inr ⟨13, rfl, rfl⟩, .inr ⟨14, rfl, rfl⟩, .inr ⟨15, rfl, rfl⟩, .inr ⟨16, rfl, rfl⟩, .inr ⟨17, rfl, rfl⟩, .inr ⟨18, rfl, rfl⟩,
      .inr ⟨19, rfl, rfl⟩, .inr ⟨20, rfl, rfl⟩, .inr ⟨21, rfl, rfl⟩, .inr ⟨22, rfl, rfl⟩,
      .inl h0, .inl h1, .inl h2, .inl h3, .inl h4, .inl h5, .inl h6, .inl h7, .inl h8, .inl h9, .inl h10, .inl h11⟩
  rcases hout _ h with h | ⟨w', hw', e⟩
  · exact stg_not_mem t w h
  · rw [stg_inj t e, hw'] at hw; exact Bool.noConfusion hw

end Cert.KernelIdeal.Spin

end
-- ==== Proof.Pipe.lean ====
/-
  The kernel's run from a property kept over its scratch and a property of each result's block at each point.
-/
module

public import proofs.«01_k».proof.Proof.Gen.KernelIdeal.Frame
public import proofs.«01_k».proof.Proof.Bufs
public import Idealize.ShloMosaic.Lib.Pipeline.ArrRel

@[expose] public section

set_option maxRecDepth 16384

noncomputable section

namespace Cert.KernelIdeal.Spin

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat cellOf)
open Cert.KernelIdeal.Gen _root_.Spin

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is asked of a result's block at a point. -/
abbrev PTy (F : FTy → Type) : Type := (c : Dev nD) → (w : Fin cfg0.W) → Fin cfg0.N → ((cfg0.win w).block.Idx → Elt F (cfg0.win w).elt) → Prop

variable (P : PTy F) (Scr : Dev nD → Nat → St sig (Elt F) → Prop)

/-- The scratch as a memory, of which `Scr` holds. -/
def scr (c : Dev nD) (t : Nat) : sProp 𝕄 := iprop((∃ σ : St sig (Elt F), ⌜Scr c t σ⌝ ∗ own c S0 σ) ∗ ∃ r, prngReg c r)

/-- The run's data: an input's block stays, a result's meets `P`. -/
def rdat (c : Dev nD) : RDat τ (Elt F) Unit ℕ (UR sig nD τ) ℕ cfg0 c where
  A w := V m c (Pipeline.arrRef spec0 w)
  after w t Y X := if (cfg0.win w).isOut then P c w t X else X = Y
  Φ t := scr Scr c t.val
  q _ := fullShare
  owed _ := 0

/-- What the memory holds when the step begins. -/
structure Before (c : Dev nD) (t : Fin cfg0.N) (σ : St sig (Elt F)) : Prop where
  inp : ∀ w, (cfg0.win w).isOut = false →
    ∃ d, get ((cfg0.win w).stage (cfg0.slots t w)) σ = (cfg0.win w).fill (cfg0.grid.coords t) d (iblk m c w t)
  out : ∀ w (h : t.val ≠ 0), (cfg0.win w).isOut = true →
    (cfg0.win w).flush ⟨t.val - 1, Nat.lt_of_le_of_lt (Nat.sub_le _ _) t.isLt⟩ = false →
    P c w ⟨t.val - 1, Nat.lt_of_le_of_lt (Nat.sub_le _ _) t.isLt⟩ (get ((cfg0.win w).stage (cfg0.slots t w)) σ)
  scr : Scr c t.val σ

/-- What it holds when the step ends. -/
def After (c : Dev nD) (t : Fin cfg0.N) (σ : St sig (Elt F)) : Prop :=
  Scr c (t.val + 1) σ ∧ ∀ w, (cfg0.win w).isOut = true → P c w t (get ((cfg0.win w).stage (cfg0.slots t w)) σ)

variable (hloc : ∀ c t (σ σ' : St sig (Elt F)), (∀ b ∈ S0, σ' b = σ b) → Scr c t σ → Scr c t σ')
  (hstep : ∀ c t σ, Before m P Scr c t σ → st1 stH (argsAt t) (grid0.coords t) (After P Scr c t) σ)

/-- Owning a window's staging block with value `X` is owning its buffer with contents that read as `X`. -/
theorem owns_stage (c : Dev nD) (t : Fin cfg0.N) (w : Fin cfg0.W) (X : (cfg0.win w).block.Idx → Elt F (cfg0.win w).elt) :
    (owns (c.tc : Thread nD τ) ((cfg0.win w).stage (cfg0.slots t w)) fullShare X : sProp 𝕄)
      = iprop(∃ f : (stg t w).ty.Contents (Elt F), ⌜((cfg0.win w).stage (cfg0.slots t w)).view.read (Elt F) f = X⌝
          ∗ (((c.tc : Thread nD τ).loc (stg t w)) ↦{fullShare} f)) := by
  unfold owns
  rw [(stage_whole0 w (cfg0.slots t w)).set_eq_univ]
  rfl

/-- If an output window was not written back at the step before, a step finds in it a block of which the property of the step before holds. -/
theorem finds_out (c : Dev nD) (t : Fin cfg0.N) (w : Fin cfg0.W) (hw : (cfg0.win w).isOut = true)
    {X : (cfg0.win w).block.Idx → Elt F (cfg0.win w).elt} (hX : (rdat m P Scr c).Finds w t X) (h : t.val ≠ 0)
    (hf : (cfg0.win w).flush ⟨t.val - 1, Nat.lt_of_le_of_lt (Nat.sub_le _ _) t.isLt⟩ = false) :
    P c w ⟨t.val - 1, Nat.lt_of_le_of_lt (Nat.sub_le _ _) t.isLt⟩ X := by
  have hfe : (cfg0.win w).fetch t = false := by unfold Window.fetch; rw [hw]; rfl
  rcases ((rdat m P Scr c).finds_of_pos hfe h X).mp hX with h' | ⟨Y, -, hY⟩
  · rw [hf] at h'; exact Bool.noConfusion h'
  · have : (if (cfg0.win w).isOut then P c w _ X else X = Y) := hY
    rw [if_pos hw] at this; exact this

/-- A step finds in an input window its block of the array; `d` stands for what lies outside the array. -/
theorem finds_in (c : Dev nD) (t : Fin cfg0.N) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    {X : (cfg0.win w).block.Idx → Elt F (cfg0.win w).elt} (hX : (rdat m P Scr c).Finds w t X) :
    ∃ d, X = (cfg0.win w).fill (cfg0.grid.coords t) d (iblk m c w t) :=
  (rdat m P Scr c).finds_in_eq_fetched w hw hclip (fun t Y X h => by
    have : (if (cfg0.win w).isOut then P c w _ X else X = Y) := h
    rw [if_neg (by rw [hw]; exact Bool.false_ne_true)] at this; exact this) t X hX

/-- Steps with the same block index of an input window have the same clip of it. -/
theorem clip_eq : ∀ w : Fin 23, (cfg0.win w).isOut = false → ∀ t t' : Fin cfg0.N, (cfg0.win w).index t = (cfg0.win w).index t' →
      (cfg0.win w).clip (cfg0.grid.coords t) = (cfg0.win w).clip (cfg0.grid.coords t')
  | 0, _ => fun _ _ _ => rfl
  | 1, _ => fun _ _ _ => rfl
  | 2, _ => fun _ _ _ => rfl
  | 3, _ => fun _ _ _ => rfl
  | 4, _ => fun _ _ _ => rfl
  | 5, _ => fun _ _ _ => rfl
  | 6, _ => fun _ _ _ => rfl
  | ⟨n + 7, hn⟩, h => by
    exfalso; revert h; revert hn; revert n
    have : ∀ w : Fin 23, 7 ≤ w.val → (cfg0.win w).isOut = true := by decide
    intro n hn h
    rw [this _ (by simp)] at h; exact Bool.noConfusion h

include hloc hstep in
/-- One step meets the run's data. -/
theorem body (c : Dev nD) (𝒱₀ : Variants) : (rdat m P Scr c).BodyObligation defs₀ 𝒱₀ () Set.univ := by
  intro t Y hY
  have hrun : ∀ σ, Before m P Scr c t σ → fold stH (bodyAt0 t) (fun _ => After P Scr c t) σ := fun σ hb => by
    rw [step_eq]; exact hstep c t σ hb
  have hsafe : fold (safeH (okL (argsAt t)) (okS (argsAt t))) (bodyAt0 (F := F) t) fun _ => True := by
    rw [step_eq]; exact st1_safe _ _
  show iprop(scr Scr c t.val ∗ (rdat m P Scr c).owesAt () t.castSucc ∗ bigSep Finset.univ fun w : Fin cfg0.W =>
      owns (c.tc : Thread nD τ) ((cfg0.win w).stage (cfg0.slots t w)) fullShare (Y w))
    ⊢ wp frame (wpE defs₀ 𝒱₀ c none) Set.univ (bodyAt0 t) fun _ =>
      iprop(scr Scr c (t.val + 1) ∗ (rdat m P Scr c).owesAt () t.succ ∗ bigSep Finset.univ fun w : Fin cfg0.W =>
        iprop(∃ X, ⌜(rdat m P Scr c).after w t (Y w) X⌝ ∗ owns (c.tc : Thread nD τ) ((cfg0.win w).stage (cfg0.slots t w)) fullShare X))
  rw [show (bigSep Finset.univ fun w : Fin cfg0.W =>
      owns (c.tc : Thread nD τ) ((cfg0.win w).stage (cfg0.slots t w)) fullShare (Y w) : sProp 𝕄)
    = bigSep Finset.univ fun w : Fin cfg0.W => iprop(∃ f : (stg t w).ty.Contents (Elt F),
        ⌜((cfg0.win w).stage (cfg0.slots t w)).view.read (Elt F) f = Y w⌝ ∗ (((c.tc : Thread nD τ).loc (stg t w)) ↦{fullShare} f))
    from bigSep_congr fun w _ => owns_stage c t w (Y w)]
  unfold scr
  iintro ⟨⟨⟨%σ0, %hS, Hs⟩, Hp⟩, Ho, Hw⟩
  ihave H := (own_join c (stg t) (stg_inj t) (fun w f => ((cfg0.win w).stage (cfg0.slots t w)).view.read (Elt F) f = Y w) S0 σ0
    Finset.univ fun w _ => stg_not_mem t w) $$ [Hw Hs]
  · isplitl [Hw]
    · iexact Hw
    · iexact Hs
  icases H with ⟨%σ, %hσ, H⟩
  have hb : Before m P Scr c t σ :=
    { inp := fun w hw => by
        obtain ⟨d, hd⟩ := finds_in m P Scr c t w hw (clip_eq w hw) (hY w)
        exact ⟨d, (hσ.2 w (Finset.mem_univ w)).trans hd⟩
      out := fun w h hw hf => by
        have := finds_out m P Scr c t w hw (hY w) h hf
        rw [← hσ.2 w (Finset.mem_univ w)] at this; exact this
      scr := hloc c t.val σ0 σ hσ.1 hS }
  ihave H := (wp_fold (defs := defs₀) 𝒱₀ c none Set.univ (S := S0 ∪ Finset.univ.image (stg t)) (all_mem t)
    (fun b hb => all_mem t b (okL_of_okS _ hb)) (bodyAt0 t) (fun _ => After P Scr c t) σ hsafe (hrun σ hb)) $$ H
  have hpost : ∀ a : PUnit, iprop(((∃ σ' : St sig (Elt F), ⌜After P Scr c t σ' ∧ ∀ b, ¬ okS (argsAt t) b → σ' b = σ b⌝
        ∗ own c (S0 ∪ Finset.univ.image (stg t)) σ') ∗ (∃ r, prngReg c r)) ∗ (rdat m P Scr c).owesAt () t.castSucc)
      ⊢ (iprop(((∃ σ : St sig (Elt F), ⌜Scr c (t.val + 1) σ⌝ ∗ own c S0 σ) ∗ ∃ r, prngReg c r) ∗ (rdat m P Scr c).owesAt () t.succ
        ∗ bigSep Finset.univ fun w : Fin cfg0.W =>
          iprop(∃ X, ⌜(rdat m P Scr c).after w t (Y w) X⌝ ∗ owns (c.tc : Thread nD τ) ((cfg0.win w).stage (cfg0.slots t w)) fullShare X)) : sProp 𝕄) := by
    intro a
    iintro ⟨⟨⟨%σ', %h, H⟩, Hp⟩, Ho⟩
    have hwin : ∀ w, (rdat m P Scr c).after w t (Y w) (get ((cfg0.win w).stage (cfg0.slots t w)) σ') := fun w => by
      show if (cfg0.win w).isOut then P c w t _ else _ = Y w
      split
      · exact h.1.2 w ‹_›
      · rename_i hw
        rw [← hσ.2 w (Finset.mem_univ w)]
        show get _ σ' = get _ σ
        unfold _root_.Spin.get
        rw [show σ' ((cfg0.win w).stage (cfg0.slots t w)).view.ref = σ ((cfg0.win w).stage (cfg0.slots t w)).view.ref from
          h.2 (stg t w) (in_not_okS t w (by simpa using hw))]
    have hsp : (own c (S0 ∪ Finset.univ.image (stg t)) σ' : sProp 𝕄)
        ⊢ iprop((bigSep Finset.univ fun w : Fin cfg0.W =>
          iprop(∃ X, ⌜(rdat m P Scr c).after w t (Y w) X⌝ ∗ owns (c.tc : Thread nD τ) ((cfg0.win w).stage (cfg0.slots t w)) fullShare X))
          ∗ own c S0 σ') := by
      rw [own_split c (stg t) (stg_inj t) S0 σ' Finset.univ fun w _ => stg_not_mem t w]
      have e1 : ∀ w : Fin cfg0.W, ((((c.tc : Thread nD τ).loc (stg t w)) ↦{fullShare} σ' (stg t w)) : sProp 𝕄)
          ⊢ iprop(∃ X, ⌜(rdat m P Scr c).after w t (Y w) X⌝ ∗ owns (c.tc : Thread nD τ) ((cfg0.win w).stage (cfg0.slots t w)) fullShare X) := by
        intro w
        iintro H
        iexists (get ((cfg0.win w).stage (cfg0.slots t w)) σ')
        isplitr
        · ipureintro; exact hwin w
        · rw [owns_stage]
          iexists (σ' (stg t w))
          isplitr
          · ipureintro; rfl
          · iexact H
      exact sep_mono (bigSep_mono fun w _ => e1 w) .rfl
    ihave H2 := hsp $$ H
    icases H2 with ⟨Hw, Hs⟩
    isplitl [Hs Hp]
    · isplitl [Hs]
      · iexists σ'
        isplitr
        · ipureintro; exact h.1.1
        · iexact Hs
      · iexact Hp
    · isplitl [Ho]
      · iexact Ho
      · iexact Hw
  iapply (wp_mono _ _ _ hpost)
  iapply (wp_frame_r _ _ _)
  isplitr [Ho]
  · iapply (wp_frame_r _ _ _)
    isplitr [Hp]
    · iexact H
    · iexact Hp
  · iexact Ho

/-- The scratch at any contents is a memory. -/
theorem scr_of_rest (c : Dev nD) (h0 : ∀ σ, Scr c 0 σ) : (Pipeline.ΦA (U := UR sig nD τ) (Val := Elt F) spec0 c : sProp 𝕄) ⊢ scr Scr c 0 := by
  unfold Pipeline.ΦA scr
  refine sep_mono ?_ .rfl
  have hj := own_join (Ix := Unit) (Name := ℕ) (U := UR sig nD τ) (Lvl := ℕ) (Val := Elt F) (nD := nD) (τ := τ) c
    (fun b : Ref sig .tc => b) (fun _ _ h => h) (fun _ _ => True) ∅ (fun b i => Classical.arbitrary _) S0 (fun _ _ => Finset.notMem_empty _)
  rw [Finset.image_id', Finset.empty_union] at hj
  have he : (iprop(emp) : sProp 𝕄) = own c ∅ (fun b i => Classical.arbitrary _ : St sig (Elt F)) := (bigSep_empty).symm
  rw [← he] at hj
  have e1 : (Pipeline.scopedRest (Ix := Unit) (Name := ℕ) (U := UR sig nD τ) (Lvl := ℕ) (Val := Elt F) spec0 c : sProp 𝕄)
      ⊢ bigSep S0 fun b => iprop(∃ f : b.ty.Contents (Elt F), ⌜True⌝ ∗ (((c.tc : Thread nD τ).loc b) ↦{fullShare} f)) := by
    unfold Pipeline.scopedRest S0
    have e0 : ∀ b : Ref sig .tc, (iprop(∃ f, ((c.tc : Thread nD τ).loc b) ↦{fullShare} f) : sProp 𝕄)
        ⊢ iprop(∃ f : b.ty.Contents (Elt F), ⌜True⌝ ∗ (((c.tc : Thread nD τ).loc b) ↦{fullShare} f)) := by
      intro b
      iintro ⟨%f, H⟩
      iexists f
      isplitr
      · ipureintro; trivial
      · iexact H
    exact bigSep_mono fun b _ => e0 b
  refine e1.trans ((emp_sep.2.trans sep_comm).trans (hj.trans ?_))
  iintro ⟨%σ, -, H⟩
  iexists σ
  isplitr
  · ipureintro; exact h0 σ
  · iexact H

/-- And back. -/
theorem rest_of_scr (c : Dev nD) (t : Nat) : scr Scr c t ⊢ (Pipeline.ΦA (U := UR sig nD τ) (Val := Elt F) spec0 c : sProp 𝕄) := by
  unfold Pipeline.ΦA scr
  refine sep_mono ?_ .rfl
  iintro ⟨%σ, -, H⟩
  have e1 : (own c S0 σ : sProp 𝕄) ⊢ Pipeline.scopedRest (Ix := Unit) (Name := ℕ) (U := UR sig nD τ) (Lvl := ℕ) (Val := Elt F) spec0 c := by
    unfold Pipeline.scopedRest _root_.Spin.own S0
    have e0 : ∀ b : Ref sig .tc, ((((c.tc : Thread nD τ).loc b) ↦{fullShare} σ b) : sProp 𝕄)
        ⊢ iprop(∃ f, ((c.tc : Thread nD τ).loc b) ↦{fullShare} f) := by
      intro b
      iintro H
      iexists (σ b)
      iexact H
    exact bigSep_mono fun b _ => e0 b
  iapply e1
  iexact H

variable (h0 : ∀ c σ, Scr c 0 σ)

include hloc hstep h0 in
/-- The run: each result's array is made of blocks that meet `P`, the arguments are as they were. -/
theorem run_post : θ_run defs (onTc (τ := τ) (main (F := F))) ⟨m, fun _ => 0, ρ⟩
    (fun r => RDat.FramePost cfg0 (rdat m P Scr) (V m) r ∧ r.2.sem = fun _ => 0) :=
  RDat.θ_run_frame_track cfgs 0 launch0 defs₀ .none (rdat m P Scr) m ρ main (fun c => body m P Scr hloc hstep c .none)
    (fun c w => RDat.share_full _ (fun _ => rfl) w) (fun _ _ => rfl) (V m) (hmain m .none) (fun _ _ => rfl)
    (fun c => scr_of_rest Scr c (h0 c)) (fun c => rest_of_scr Scr c _) _ (fun _ h => h)

/-- The arguments after the run. -/
theorem post_args {r : PUnit × MemSt nD τ sig (Elt F)} (h : RDat.FramePost cfg0 (rdat m P Scr) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    (h.arr_in c 1 rfl).trans (V_main_arg1 m c),
    ((h c).2 main_arg2 (Pipeline.mem_restRefs_of main_arg2 (by decide) (by decide))).trans (V_main_arg2 m c),
    (h.arr_in c 3 rfl).trans (V_main_arg3 m c), (h.arr_in c 4 rfl).trans (V_main_arg4 m c),
    (h.arr_in c 5 rfl).trans (V_main_arg5 m c), (h.arr_in c 6 rfl).trans (V_main_arg6 m c)⟩

end Cert.KernelIdeal.Spin

end
-- ==== Proof.FrameRun.lean ====
/-
  The kernel's frame: it runs, its arguments are as they were, its semaphores at zero.
-/
module

public import proofs.«01_k».proof.Proof.Pipe

@[expose] public section

noncomputable section

namespace Cert.KernelIdeal.Spin

open Idealize.ShloMosaic Idealize.ShloMosaic.TcCoe Idealize.SL.Sem
open Idealize.ShloMosaic.Pipeline (RDat)
open Cert.KernelIdeal.Gen _root_.Spin

variable {F : FTy → Type} [FloatOps F] (m : (ℓ : Loc nD τ sig) → Buf (Elt F) ℓ) (ρ : Dev nD → PrngReg)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => post_args m _ _ h.1 c, h.2⟩)
    (run_post m ρ (fun _ _ _ _ => True) (fun _ _ _ => True) (fun _ _ _ _ _ _ => trivial)
      (fun c t σ _ => by
        have h := fold_true (bodyAt0 (F := F) t) σ
        rw [step_eq] at h
        have e : (After (F := F) (fun _ _ _ _ => True) (fun _ _ _ => True) c t) = fun _ => True := by
          funext σ; exact eq_true ⟨trivial, fun _ _ => trivial⟩
        rw [e]; exact h) (fun _ _ => trivial))

end Cert.KernelIdeal.Spin

end
-- ==== Proof.AsPrinted.Body.lean ====
/-
  The kernel's step as a compact program: the unrolled loops of the printed one written as loops, over
  named pure functions of what is loaded.
-/
module

public import proofs.«01_k».proof.Proof.Gen.Kernel
public import proofs.«01_k».proof.Proof.Run

@[expose] public section

noncomputable section

namespace Cert.Kernel.Spin

open Idealize.ShloMosaic Idealize.SL.Sem Cert.Kernel.Gen _root_.Spin

universe u

variable {F : FTy → Type} [FloatOps F]

/-- In-bounds evidence of a rectangle of rank two. -/
theorem inb2 {A B a b x y : Nat} (h : x + a ≤ A) (h' : y + b ≤ B) :
    ∀ k : Fin 2, (![x, y] : Fin 2 → Nat) k + (⟨2, ![a, b]⟩ : Shape).size k ≤ (⟨2, ![A, B]⟩ : Shape).size k :=
  Fin.forall_fin_two.mpr ⟨h, h'⟩

/-- The same of rank three. -/
theorem inb3 {A B C a b c x y z : Nat} (h : x + a ≤ A) (h' : y + b ≤ B) (h'' : z + c ≤ C) :
    ∀ k : Fin 3, (![x, y, z] : Fin 3 → Nat) k + (⟨3, ![a, b, c]⟩ : Shape).size k ≤ (⟨3, ![A, B, C]⟩ : Shape).size k := by
  intro k; fin_cases k
  · exact h
  · exact h'
  · exact h''

/-- The memrefs of one step. -/
structure Args where
  arg1 : Memref sig .tc .vmem S256x3584 .bf16
  arg2 : Memref sig .tc .vmem S256x3584 .bf16
  arg3 : Memref sig .tc .vmem S256x256 .bf16
  arg4 : Memref sig .tc .vmem S28x128x128 .f32
  arg5 : Memref sig .tc .vmem S4x128x128 .i8
  arg6 : Memref sig .tc .vmem S28x128 .f32
  arg7 : Memref sig .tc .smem S28 .f32
  arg8 : Memref sig .tc .vmem S4x128x128 .f32
  arg9 : Memref sig .tc .vmem S4x128x128 .f32
  arg10 : Memref sig .tc .vmem S4x128x128 .f32
  arg11 : Memref sig .tc .vmem S4x128x128 .f32
  arg12 : Memref sig .tc .smem S28 .f32
  arg13 : Memref sig .tc .smem S28 .f32
  arg14 : Memref sig .tc .smem S1x1 .f32
  arg15 : Memref sig .tc .vmem S1x4608 .f32
  arg16 : Memref sig .tc .vmem S256x256 .f32
  arg17 : Memref sig .tc .vmem S4x128x128 .f32
  arg18 : Memref sig .tc .vmem S256x3584 .i8
  arg19 : Memref sig .tc .vmem S1x256 .f32
  arg20 : Memref sig .tc .vmem S256x3584 .i8
  arg21 : Memref sig .tc .vmem S1x4608 .f32
  arg22 : Memref sig .tc .vmem S28x16384 .i8
  arg23 : Memref sig .tc .vmem S28x128 .f32
  arg24 : Memref sig .tc .vmem S14x256x256 .bf16
  arg25 : Memref sig .tc .vmem S256x3584 .f32
  arg26 : Memref sig .tc .vmem S256x3584 .bf16
  arg27 : Memref sig .tc .vmem S3584x256 .bf16
  arg28 : Memref sig .tc .vmem S3584x256 .bf16
  arg29 : Memref sig .tc .vmem S256x128 .f32
  arg30 : Memref sig .tc .vmem S256x3584 .bf16
  arg31 : Memref sig .tc .vmem S3584x256 .bf16
  arg32 : Memref sig .tc .vmem S256x3584 .f32
  arg33 : Memref sig .tc .vmem S28x128x128 .f32
  arg34 : Memref sig .tc .vmem S3584x128 .f32
  arg35 : Memref sig .tc .vmem S8x256 .f32

/-- A rotated block pair of 256 rows. -/
def rot (x : Vec F S256x256 .bf16) (r : Vec F S1x256x256 .bf16) : FVec F S256x256 .f32 :=
  matmul dot_S256x256_S256x256_S256x256_1_0_0_1_n_n none (shapeCast S256x256 x shapeCasts_S256x256_S256x256)
    (shapeCast S256x256 r shapeCasts_S1x256x256_S256x256) (constant S256x256 .f32 0x00000000#32)

/-- The running largest magnitude. -/
def amaxStep (a : FVec F S256x128 .f32) (v : FVec F S256x256 .f32) : FVec F S256x128 .f32 :=
  maximumf a (maximumf (extractStridedSlice S256x128 ![0, 0] (absf v) slices_S256x256_o0_0_S256x128)
    (extractStridedSlice S256x128 ![0, 128] (absf v) slices_S256x256_o0_128_S256x128))

/-- A rotation block rounded. -/
def rdBlk (r : Vec F S1x128x128 .f32) : FVec F S1x128x128 .bf16 :=
  shapeCast S1x128x128 (truncf .bf16 (shapeCast S128x128 r shapeCasts_S1x128x128_S128x128) bitsLt_bf16_f32)
    shapeCasts_S128x128_S1x128x128

/-- A zero block. -/
def rdZero : FVec F S1x128x128 .bf16 :=
  shapeCast S1x128x128 (broadcast S128x128 (Scalar.ofBits .bf16 0x0000#16 : F .bf16)) shapeCasts_S128x128_S1x128x128

/-- The scale of each row, from the running largest magnitudes; `q` the bits of the largest code. -/
def scaleOf (q : BitVec 32) (a : FVec F S256x128 .f32) : FVec F S256x1 .f32 :=
  have m : FVec F S256x1 .f32 := shapeCast S256x1
    (multiReduction .maximumf [1] S256 a 0xFF800000#32 reduces_S256x128_S256 (.inl rfl) rfl) shapeCasts_S256_S256x1
  select (cmpf .oeq m (broadcast S256x1 (Scalar.ofBits .f32 0x00000000#32)))
    (broadcast S256x1 (Scalar.ofBits .f32 0x3F800000#32)) (divf m (broadcast S256x1 (Scalar.ofBits .f32 q)))

/-- A column spread over the lanes. -/
def spread (s : FVec F S256x1 .f32) : FVec F S256x128 .f32 :=
  broadcastTo S256x128 (shapeCast S256x1 s shapeCasts_S256x1_S256x1) broadcasts_S256x1_S256x128

/-- A column as a row. -/
def colRow (s : FVec F S256x1 .f32) : FVec F S1x256 .f32 :=
  extractStridedSlice S1x256 ![0, 0] (transpose S128x256 [1, 0] (spread s) transposes_S256x128_p1_0_S128x256)
    slices_S128x256_o0_0_S1x256

/-- A row block's codes before the conversion: divided by the scale, rounded, clipped. -/
def code256 (s : FVec F S256x1 .f32) (v : Vec F S256x256 .f32) : FVec F S256x256 .f32 :=
  minimumf (broadcast S256x256 (Scalar.ofBits .f32 0x42FE0000#32))
    (maximumf (broadcast S256x256 (Scalar.ofBits .f32 0xC2FE0000#32))
      (roundeven (divf v (broadcastTo S256x256 s broadcasts_S256x1_S256x256))))

/-- The same, rounded. -/
def code16 (s : FVec F S256x1 .f32) (v : Vec F S256x256 .f32) : FVec F S256x256 .bf16 :=
  truncf .bf16 (code256 s v) bitsLt_bf16_f32

variable {R : Type u} (H : Hd sig (Elt F) R) (M : Args)

/-- The first loop of the prologue: the rotation's block diagonal, and `x` rotated. -/
def pro1 (p : Fin 14) (a : FVec F S256x128 .f32) (K : FVec F S256x128 .f32 → R) : R :=
  H.LD M.arg4 (Rect.unit (s := S28x128x128) ![2 * p, 0, 0] S1x128x128.size (inb3 (by omega) (by omega) (by omega))).toLoadRect fun r0 =>
  H.LD M.arg24 (Rect.unit (s := S14x256x256) ![p, 0, 0] S1x128x128.size (inb3 (by omega) (by omega) (by omega))).toLoadRect fun _ =>
  H.ST M.arg24 (Rect.unit (s := S14x256x256) ![p, 0, 0] S1x128x128.size (inb3 (by omega) (by omega) (by omega))) (rdBlk r0) Finset.univ <|
  H.LD M.arg4 (Rect.unit (s := S28x128x128) ![2 * p + 1, 0, 0] S1x128x128.size (inb3 (by omega) (by omega) (by omega))).toLoadRect fun r1 =>
  H.LD M.arg24 (Rect.unit (s := S14x256x256) ![p, 128, 128] S1x128x128.size (inb3 (by omega) (by omega) (by omega))).toLoadRect fun _ =>
  H.ST M.arg24 (Rect.unit (s := S14x256x256) ![p, 128, 128] S1x128x128.size (inb3 (by omega) (by omega) (by omega))) (rdBlk r1) Finset.univ <|
  H.LD M.arg24 (Rect.unit (s := S14x256x256) ![p, 0, 128] S1x128x128.size (inb3 (by omega) (by omega) (by omega))).toLoadRect fun _ =>
  H.ST M.arg24 (Rect.unit (s := S14x256x256) ![p, 0, 128] S1x128x128.size (inb3 (by omega) (by omega) (by omega))) (rdZero (F := F)) Finset.univ <|
  H.LD M.arg24 (Rect.unit (s := S14x256x256) ![p, 128, 0] S1x128x128.size (inb3 (by omega) (by omega) (by omega))).toLoadRect fun _ =>
  H.ST M.arg24 (Rect.unit (s := S14x256x256) ![p, 128, 0] S1x128x128.size (inb3 (by omega) (by omega) (by omega))) (rdZero (F := F)) Finset.univ <|
  H.LD M.arg1 (Rect.unit (s := S256x3584) ![0, 256 * p] S256x256.size (inb2 (by omega) (by omega))).toLoadRect fun x =>
  H.LD M.arg24 (Rect.unit (s := S14x256x256) ![p, 0, 0] S1x256x256.size (inb3 (by omega) (by omega) (by omega))).toLoadRect fun r =>
  H.LD M.arg25 (Rect.unit (s := S256x3584) ![0, 256 * p] S256x256.size (inb2 (by omega) (by omega))).toLoadRect fun _ =>
  H.ST M.arg25 (Rect.unit (s := S256x3584) ![0, 256 * p] S256x256.size (inb2 (by omega) (by omega)))
    (shapeCast S256x256 (rot x r) shapeCasts_S256x256_S256x256) Finset.univ <|
  K (amaxStep a (rot x r))

/-- The second: the codes of `x`, and the transposes. -/
def pro2 (s : FVec F S256x1 .f32) (p : Fin 14) (_ : Unit) (K : Unit → R) : R :=
  H.LD M.arg25 (Rect.unit (s := S256x3584) ![0, 256 * p] S256x256.size (inb2 (by omega) (by omega))).toLoadRect fun v =>
  H.LD M.arg18 (Rect.unit (s := S256x3584) ![0, 256 * p] S256x256.size (inb2 (by omega) (by omega))).toLoadRect fun _ =>
  H.ST M.arg18 (Rect.unit (s := S256x3584) ![0, 256 * p] S256x256.size (inb2 (by omega) (by omega)))
    (fptosi 8 (code256 s v)) Finset.univ <|
  H.LD M.arg26 (Rect.unit (s := S256x3584) ![0, 256 * p] S256x256.size (inb2 (by omega) (by omega))).toLoadRect fun _ =>
  H.ST M.arg26 (Rect.unit (s := S256x3584) ![0, 256 * p] S256x256.size (inb2 (by omega) (by omega)))
    (shapeCast S256x256 (code16 s v) shapeCasts_S256x256_S256x256) Finset.univ <|
  H.LD M.arg27 (Rect.unit (s := S3584x256) ![256 * p, 0] S256x256.size (inb2 (by omega) (by omega))).toLoadRect fun _ =>
  H.ST M.arg27 (Rect.unit (s := S3584x256) ![256 * p, 0] S256x256.size (inb2 (by omega) (by omega)))
    (shapeCast S256x256 (transpose S256x256 [1, 0] (code16 s v) transposes_S256x256_p1_0_S256x256) shapeCasts_S256x256_S256x256) Finset.univ <|
  H.LD M.arg1 (Rect.unit (s := S256x3584) ![0, 256 * p] S256x256.size (inb2 (by omega) (by omega))).toLoadRect fun x =>
  H.LD M.arg28 (Rect.unit (s := S3584x256) ![256 * p, 0] S256x256.size (inb2 (by omega) (by omega))).toLoadRect fun _ =>
  H.ST M.arg28 (Rect.unit (s := S3584x256) ![256 * p, 0] S256x256.size (inb2 (by omega) (by omega)))
    (shapeCast S256x256 (transpose S256x256 [1, 0] (shapeCast S256x256 x shapeCasts_S256x256_S256x256) transposes_S256x256_p1_0_S256x256)
      shapeCasts_S256x256_S256x256) Finset.univ <|
  K ⟨⟩

/-- The prologue. -/
def prologue (K : R) : R :=
  loop 14 (pro1 H M) (broadcast S256x128 (Scalar.ofBits .f32 0x00000000#32)) fun a =>
  H.LD M.arg29 (Rect.unit (s := S256x128) ![0, 0] S256x128.size (inb2 (by omega) (by omega))).toLoadRect fun _ =>
  H.ST M.arg29 (Rect.unit (s := S256x128) ![0, 0] S256x128.size (inb2 (by omega) (by omega)))
    (shapeCast S256x128 (spread (scaleOf 0x42FE0000#32 a)) shapeCasts_S256x128_S256x128) Finset.univ <|
  H.LD M.arg19 (Rect.unit (s := S1x256) ![0, 0] S1x256.size (inb2 (by omega) (by omega))).toLoadRect fun _ =>
  H.ST M.arg19 (Rect.unit (s := S1x256) ![0, 0] S1x256.size (inb2 (by omega) (by omega)))
    (colRow (scaleOf 0x42FE0000#32 a)) Finset.univ <|
  loop 14 (pro2 H M (scaleOf 0x42FE0000#32 a)) ⟨⟩ fun _ =>
  H.LD M.arg32 (Rect.unit (s := S256x3584) ![0, 0] S256x3584.size (inb2 (by omega) (by omega))).toLoadRect fun _ =>
  H.ST M.arg32 (Rect.unit (s := S256x3584) ![0, 0] S256x3584.size (inb2 (by omega) (by omega)))
    (shapeCast S256x3584 (broadcast S256x3584 (Scalar.ofBits .f32 0x00000000#32 : F .f32)) shapeCasts_S256x3584_S256x3584) Finset.univ <|
  H.LD M.arg33 (Rect.unit (s := S28x128x128) ![0, 0, 0] S28x128x128.size (inb3 (by omega) (by omega) (by omega))).toLoadRect fun _ =>
  H.ST M.arg33 (Rect.unit (s := S28x128x128) ![0, 0, 0] S28x128x128.size (inb3 (by omega) (by omega) (by omega)))
    (shapeCast S28x128x128 (broadcast S28x128x128 (Scalar.ofBits .f32 0x00000000#32 : F .f32)) shapeCasts_S28x128x128_S28x128x128) Finset.univ <|
  H.LD M.arg35 (Rect.unit (s := S8x256) ![0, 0] S8x256.size (inb2 (by omega) (by omega))).toLoadRect fun _ =>
  H.ST M.arg35 (Rect.unit (s := S8x256) ![0, 0] S8x256.size (inb2 (by omega) (by omega)))
    (shapeCast S8x256 (broadcast S8x256 (Scalar.ofBits .f32 0x00000000#32 : F .f32)) shapeCasts_S8x256_S8x256) Finset.univ <|
  K

end Cert.Kernel.Spin

end
-- ==== Proof.AsPrinted.Body2.lean ====
/-
  The kernel's step as a compact program: the unrolled loops of the printed one written as loops, over
  named pure functions of what is loaded.
-/
module

public import proofs.«01_k».proof.Proof.Gen.Kernel
public import proofs.«01_k».proof.Proof.AsPrinted.Body

@[expose] public section

noncomputable section

namespace Cert.Kernel.Spin

open Idealize.ShloMosaic Idealize.SL.Sem Cert.Kernel.Gen _root_.Spin

universe u

variable {F : FTy → Type} [FloatOps F]

/-- A rotated block pair of 256 rows of `w`. -/
def rotW (w : Vec F S256x256 .bf16) (r : Vec F S1x256x256 .bf16) : FVec F S256x256 .f32 :=
  matmul dot_S256x256_S256x256_S256x256_1_0_0_1_n_n none w
    (shapeCast S256x256 r shapeCasts_S1x256x256_S256x256) (constant S256x256 .f32 0x00000000#32)

/-- The scales of 32 rows, spread over the lanes. -/
def scRows (s : FVec F S256x1 .f32) (c : Fin 8) : FVec F S32x128 .f32 :=
  broadcastTo S32x128 (shapeCast S32x1 (extractStridedSlice S32x1 ![32 * c.val, 0] s
    ⟨rfl, Fin.forall_fin_two.mpr ⟨(by show 32 * c.val + 32 ≤ 256; omega), (by show 0 + 1 ≤ 1; omega)⟩⟩)
    shapeCasts_S32x1_S32x1) broadcasts_S32x1_S32x128

/-- The codes of a block of 32 rows of `w` before the conversion. -/
def code7 (s v : FVec F S32x128 .f32) : FVec F S32x128 .f32 :=
  minimumf (broadcast S32x128 (Scalar.ofBits .f32 0x40E00000#32))
    (maximumf (broadcast S32x128 (Scalar.ofBits .f32 0xC0E00000#32)) (roundeven (divf v s)))

/-- The squared residuals of a block added to the running sum. -/
def errStep (s a v : FVec F S32x128 .f32) : FVec F S32x128 .f32 :=
  addf a (mulf (subf v (mulf s (code7 s v))) (subf v (mulf s (code7 s v))))

/-- The sum over the lanes, as a column. -/
def laneSum (a : FVec F S32x128 .f32) : FVec F S32x1 .f32 :=
  shapeCast S32x1 (multiReduction .add [1] S32 a 0x00000000#32 reduces_S32x128_S32 (.inl rfl) rfl) shapeCasts_S32_S32x1

/-- The eight parts of the residual column, as a row. -/
def errRow (e : Fin 8 → FVec F S32x1 .f32) : FVec F S1x256 .f32 :=
  colRow (concatenate S256x1 0 [⟨S32x1, e 0⟩, ⟨S32x1, e 1⟩, ⟨S32x1, e 2⟩, ⟨S32x1, e 3⟩, ⟨S32x1, e 4⟩, ⟨S32x1, e 5⟩,
    ⟨S32x1, e 6⟩, ⟨S32x1, e 7⟩] concatenates_S32x1_S32x1_S32x1_S32x1_S32x1_S32x1_S32x1_S32x1_S256x1_d0)

/-- The residual of the product: the code product, scaled by both scales, less `y`. -/
def resid (s : FVec F S256x1 .f32) (sx : Vec F S256x1 .f32) (qx qw : Vec F S256x3584 .bf16) (y : Vec F S256x256 .bf16) :
    FVec F S256x256 .f32 :=
  subf (mulf (mulf (matmul dot_S256x3584_S256x3584_S256x256_1_1_0_0_n_n none qx qw (constant S256x256 .f32 0x00000000#32))
      (broadcastTo S256x256 sx broadcasts_S256x1_S256x256))
    (broadcastTo S256x256 (colRow s) broadcasts_S1x256_S256x256))
    (extf .f32 (shapeCast S256x256 y shapeCasts_S256x256_S256x256) bitsLt_bf16_f32)

/-- The running sums of squares. -/
def lossStep (e : FVec F S256x256 .f32) (l : Vec F S8x256 .f32) : FVec F S8x256 .f32 :=
  addf l (multiReduction .add [0] S8x256 (shapeCast S32x8x256 (mulf e e) shapeCasts_S256x256_S32x8x256) 0x00000000#32
    reduces_S32x8x256_S8x256 (.inl rfl) rfl)

/-- The residual times the weight scales, rounded. -/
def resW (s : FVec F S256x1 .f32) (e : FVec F S256x256 .f32) : FVec F S256x256 .bf16 :=
  truncf .bf16 (mulf e (broadcastTo S256x256 (colRow s) broadcasts_S1x256_S256x256)) bitsLt_bf16_f32

/-- The residual times the activation scales, rounded. -/
def resX (sx : Vec F S256x1 .f32) (e : FVec F S256x256 .f32) : FVec F S256x256 .bf16 :=
  truncf .bf16 (mulf e (broadcastTo S256x256 sx broadcasts_S256x1_S256x256)) bitsLt_bf16_f32

/-- One block column of `p`. -/
def pStep (ew : FVec F S256x256 .bf16) (p : Vec F S256x256 .f32) (q : Vec F S256x256 .bf16) : FVec F S256x256 .f32 :=
  addf p (matmul dot_S256x256_S256x256_S256x256_1_0_0_1_n_n none ew q (constant S256x256 .f32 0x00000000#32))

/-- One block row of `q` transposed. -/
def qStep (ex : FVec F S256x256 .bf16) (q : Vec F S256x256 .bf16) : FVec F S256x256 .bf16 :=
  truncf .bf16 (matmul dot_S256x256_S256x256_S256x256_1_0_0_1_n_n none q ex (constant S256x256 .f32 0x00000000#32)) bitsLt_bf16_f32

/-- One block of the weight gradient. -/
def gStep (g : Vec F S1x128x128 .f32) (q : Vec F S128x256 .bf16) (w : Vec F S256x128 .bf16) : FVec F S128x128 .f32 :=
  addf (shapeCast S128x128 g shapeCasts_S1x128x128_S128x128)
    (matmul dot_S128x256_S256x128_S128x128_1_0_0_1_n_n none q w (constant S128x128 .f32 0x00000000#32))

variable {R : Type u} (H : Hd sig (Elt F) R) (M : Args)

/-- `w` rotated. -/
def main1 (p : Fin 14) (a : FVec F S256x128 .f32) (K : FVec F S256x128 .f32 → R) : R :=
  H.LD M.arg2 (Rect.unit (s := S256x3584) ![0, 256 * p] S256x256.size (inb2 (by omega) (by omega))).toLoadRect fun w =>
  H.LD M.arg24 (Rect.unit (s := S14x256x256) ![p, 0, 0] S1x256x256.size (inb3 (by omega) (by omega) (by omega))).toLoadRect fun r =>
  H.LD M.arg25 (Rect.unit (s := S256x3584) ![0, 256 * p] S256x256.size (inb2 (by omega) (by omega))).toLoadRect fun _ =>
  H.ST M.arg25 (Rect.unit (s := S256x3584) ![0, 256 * p] S256x256.size (inb2 (by omega) (by omega)))
    (shapeCast S256x256 (rotW w r) shapeCasts_S256x256_S256x256) Finset.univ <|
  K (amaxStep a (rotW w r))

/-- The codes of one block of 32 rows and 128 columns of `w`. -/
def main2b (s : FVec F S256x1 .f32) (c : Fin 8) (b : Fin 28) (a : FVec F S32x128 .f32) (K : FVec F S32x128 .f32 → R) : R :=
  H.LD M.arg25 (Rect.unit (s := S256x3584) ![32 * c, 128 * b] S32x128.size (inb2 (by omega) (by omega))).toLoadRect fun v =>
  H.LD M.arg20 (Rect.unit (s := S256x3584) ![32 * c, 128 * b] S32x128.size (inb2 (by omega) (by omega))).toLoadRect fun _ =>
  H.ST M.arg20 (Rect.unit (s := S256x3584) ![32 * c, 128 * b] S32x128.size (inb2 (by omega) (by omega)))
    (fptosi 8 (code7 (scRows s c) v)) Finset.univ <|
  H.LD M.arg30 (Rect.unit (s := S256x3584) ![32 * c, 128 * b] S32x128.size (inb2 (by omega) (by omega))).toLoadRect fun _ =>
  H.ST M.arg30 (Rect.unit (s := S256x3584) ![32 * c, 128 * b] S32x128.size (inb2 (by omega) (by omega)))
    (shapeCast S32x128 (truncf .bf16 (code7 (scRows s c) v) bitsLt_bf16_f32) shapeCasts_S32x128_S32x128) Finset.univ <|
  K (errStep (scRows s c) a v)

/-- The codes of 32 rows of `w`. -/
def main2 (s : FVec F S256x1 .f32) (c : Fin 8) (e : Fin 8 → FVec F S32x1 .f32) (K : (Fin 8 → FVec F S32x1 .f32) → R) : R :=
  loop 28 (main2b H M s c) (broadcast S32x128 (Scalar.ofBits .f32 0x00000000#32)) fun a =>
  K fun k => if k = c then laneSum a else e k

/-- One block column of `p`. -/
def main3 (ew : FVec F S256x256 .bf16) (p : Fin 14) (_ : Unit) (K : Unit → R) : R :=
  H.LD M.arg32 (Rect.unit (s := S256x3584) ![0, 256 * p] S256x256.size (inb2 (by omega) (by omega))).toLoadRect fun a =>
  H.LD M.arg30 (Rect.unit (s := S256x3584) ![0, 256 * p] S256x256.size (inb2 (by omega) (by omega))).toLoadRect fun q =>
  H.LD M.arg32 (Rect.unit (s := S256x3584) ![0, 256 * p] S256x256.size (inb2 (by omega) (by omega))).toLoadRect fun _ =>
  H.ST M.arg32 (Rect.unit (s := S256x3584) ![0, 256 * p] S256x256.size (inb2 (by omega) (by omega)))
    (shapeCast S256x256 (pStep ew a q) shapeCasts_S256x256_S256x256) Finset.univ <|
  K ⟨⟩

/-- One block row of `q` transposed. -/
def main4 (ex : FVec F S256x256 .bf16) (p : Fin 14) (_ : Unit) (K : Unit → R) : R :=
  H.LD M.arg27 (Rect.unit (s := S3584x256) ![256 * p, 0] S256x256.size (inb2 (by omega) (by omega))).toLoadRect fun q =>
  H.LD M.arg31 (Rect.unit (s := S3584x256) ![256 * p, 0] S256x256.size (inb2 (by omega) (by omega))).toLoadRect fun _ =>
  H.ST M.arg31 (Rect.unit (s := S3584x256) ![256 * p, 0] S256x256.size (inb2 (by omega) (by omega)))
    (shapeCast S256x256 (qStep ex q) shapeCasts_S256x256_S256x256) Finset.univ <|
  K ⟨⟩

/-- One block of the weight gradient. -/
def main5 (b : Fin 28) (_ : Unit) (K : Unit → R) : R :=
  H.LD M.arg33 (Rect.unit (s := S28x128x128) ![b, 0, 0] S1x128x128.size (inb3 (by omega) (by omega) (by omega))).toLoadRect fun g =>
  H.LD M.arg31 (Rect.unit (s := S3584x256) ![128 * b, 0] S128x256.size (inb2 (by omega) (by omega))).toLoadRect fun q =>
  H.LD M.arg2 (Rect.unit (s := S256x3584) ![0, 128 * b] S256x128.size (inb2 (by omega) (by omega))).toLoadRect fun w =>
  H.LD M.arg33 (Rect.unit (s := S28x128x128) ![b, 0, 0] S1x128x128.size (inb3 (by omega) (by omega) (by omega))).toLoadRect fun _ =>
  H.ST M.arg33 (Rect.unit (s := S28x128x128) ![b, 0, 0] S1x128x128.size (inb3 (by omega) (by omega) (by omega)))
    (shapeCast S1x128x128 (gStep g q w) shapeCasts_S128x128_S1x128x128) Finset.univ <|
  K ⟨⟩

/-- The rest of the main step, after the codes. -/
def main6 (i : grid0.Coords) (h2 : k0_cond2 i = 1#1) (s : FVec F S256x1 .f32) (e : Fin 8 → FVec F S32x1 .f32) (K : R) : R :=
  H.LD M.arg21 (Rect.unit (s := S1x4608) (k0_off1 i) S1x256.size (k0_off1_inb i h2)).toLoadRect fun _ =>
  H.ST M.arg21 (Rect.unit (s := S1x4608) (k0_off1 i) S1x256.size (k0_off1_inb i h2)) (colRow s) Finset.univ <|
  H.LD M.arg15 (Rect.unit (s := S1x4608) (k0_off1 i) S1x256.size (k0_off1_inb i h2)).toLoadRect fun _ =>
  H.ST M.arg15 (Rect.unit (s := S1x4608) (k0_off1 i) S1x256.size (k0_off1_inb i h2)) (errRow e) Finset.univ <|
  H.LD M.arg29 (Rect.unit (s := S256x128) ![0, 0] S256x1.size (inb2 (by omega) (by omega))).toLoadRect fun sx =>
  H.LD M.arg26 (Rect.unit (s := S256x3584) ![0, 0] S256x3584.size (inb2 (by omega) (by omega))).toLoadRect fun qx =>
  H.LD M.arg30 (Rect.unit (s := S256x3584) ![0, 0] S256x3584.size (inb2 (by omega) (by omega))).toLoadRect fun qw =>
  H.LD M.arg3 (Rect.unit (s := S256x256) ![0, 0] S256x256.size (inb2 (by omega) (by omega))).toLoadRect fun y =>
  H.LD M.arg16 (Rect.unit (s := S256x256) ![0, 0] S256x256.size (inb2 (by omega) (by omega))).toLoadRect fun _ =>
  H.ST M.arg16 (Rect.unit (s := S256x256) ![0, 0] S256x256.size (inb2 (by omega) (by omega)))
    (resid s sx qx qw y) Finset.univ <|
  H.LD M.arg35 (Rect.unit (s := S8x256) ![0, 0] S8x256.size (inb2 (by omega) (by omega))).toLoadRect fun l =>
  H.LD M.arg35 (Rect.unit (s := S8x256) ![0, 0] S8x256.size (inb2 (by omega) (by omega))).toLoadRect fun _ =>
  H.ST M.arg35 (Rect.unit (s := S8x256) ![0, 0] S8x256.size (inb2 (by omega) (by omega)))
    (shapeCast S8x256 (lossStep (resid s sx qx qw y) l) shapeCasts_S8x256_S8x256) Finset.univ <|
  loop 14 (main3 H M (resW s (resid s sx qx qw y))) ⟨⟩ fun _ =>
  loop 14 (main4 H M (resX sx (resid s sx qx qw y))) ⟨⟩ fun _ =>
  loop 28 (main5 H M) ⟨⟩ fun _ =>
  K

/-- The main step. -/
def mainStep (i : grid0.Coords) (h2 : k0_cond2 i = 1#1) (K : R) : R :=
  loop 14 (main1 H M) (broadcast S256x128 (Scalar.ofBits .f32 0x00000000#32)) fun a =>
  loop 8 (main2 H M (scaleOf 0x40E00000#32 a)) (fun _ => broadcast S32x1 (Scalar.ofBits .f32 0x00000000#32)) fun e =>
  main6 H M i h2 (scaleOf 0x40E00000#32 a) e K

end Cert.Kernel.Spin

end
-- ==== Proof.AsPrinted.Body3.lean ====
/-
  The kernel's step as a compact program: the unrolled loops of the printed one written as loops, over
  named pure functions of what is loaded.
-/
module

public import proofs.«01_k».proof.Proof.Gen.Kernel
public import proofs.«01_k».proof.Proof.AsPrinted.Body

@[expose] public section

noncomputable section

namespace Cert.Kernel.Spin

open Idealize.ShloMosaic Idealize.SL.Sem Cert.Kernel.Gen _root_.Spin

universe u

variable {F : FTy → Type} [FloatOps F]

/-- One block of the rotation's gradient: the activations' part and the weights' part, times two over the
number of residuals. -/
def tGrad (x : Vec F S128x256 .bf16) (p : Vec F S256x128 .f32) (g : Vec F S1x128x128 .f32) : FVec F S128x128 .f32 :=
  mulf (broadcast S128x128 (Scalar.ofBits .f32 0x35E38E39#32))
    (addf (matmul dot_S128x256_S256x128_S128x128_1_0_0_1_n_n none x (truncf .bf16 p bitsLt_bf16_f32)
        (constant S128x128 .f32 0x00000000#32))
      (transpose S128x128 [1, 0] (shapeCast S128x128 g shapeCasts_S1x128x128_S128x128) transposes_S128x128_p1_0_S128x128))

/-- The new momentum: the old one, read from its codes, times the decay, plus the gradient. -/
def tMom (ms : Vec F S1x128 .f32) (mc : Vec F S1x128x128 .i8) (g : FVec F S128x128 .f32) : FVec F S128x128 .f32 :=
  addf (mulf (broadcast S128x128 (Scalar.ofBits .f32 0x3F666666#32))
    (mulf (sitofp .f32 (shapeCast S128x128 mc shapeCasts_S1x128x128_S128x128))
      (transpose S128x128 [1, 0] (broadcastTo S128x128 (shapeCast S1x128 ms shapeCasts_S1x128_S1x128) broadcasts_S1x128_S128x128)
        transposes_S128x128_p1_0_S128x128))) g

/-- The momentum times the rotation transposed. -/
def tMR (r m : FVec F S128x128 .f32) : FVec F S128x128 .f32 :=
  matmul dot_S128x128_S128x128_S128x128_1_1_0_0_n_n (some .fp32) m r (constant S128x128 .f32 0x00000000#32)

/-- That, less half the rotation times the rotation transposed times it. -/
def tHalf (r v : FVec F S128x128 .f32) : FVec F S128x128 .f32 :=
  subf v (mulf (broadcast S128x128 (Scalar.ofBits .f32 0x3F000000#32))
    (matmul dot_S128x128_S128x128_S128x128_1_0_0_1_n_n (some .fp32) r
      (matmul dot_S128x128_S128x128_S128x128_0_0_1_1_n_n (some .fp32) r v (constant S128x128 .f32 0x00000000#32))
      (constant S128x128 .f32 0x00000000#32)))

/-- The skew direction. -/
def tSkew (r v : FVec F S128x128 .f32) : FVec F S128x128 .f32 :=
  subf (tHalf r v) (transpose S128x128 [1, 0] (tHalf r v) transposes_S128x128_p1_0_S128x128)

/-- Its norm. -/
def tNorm (a : FVec F S128x128 .f32) : FVec F S1x1 .f32 :=
  sqrt (broadcast S1x1 (extractAt ![0, 0, 0] (shapeCast S1x1x1
    (multiReduction .add [1, 2] S1 (shapeCast S1x128x128 (mulf a a) shapeCasts_S128x128_S1x128x128) 0x00000000#32
      reduces_S1x128x128_S1 (.inl rfl) rfl) shapeCasts_S1_S1x1x1) inpos_S1x1x1_p0_0_0))

/-- The largest step allowed. -/
def tAmax (n : FVec F S1x1 .f32) : FVec F S1x1 .f32 :=
  divf (broadcast S1x1 (Scalar.ofBits .f32 0x3F000000#32)) (addf n (broadcast S1x1 (Scalar.ofBits .f32 0x322BCC77#32)))

/-- The step taken. -/
def tAlpha (lr : F .f32) (n : FVec F S1x1 .f32) : FVec F S1x1 .f32 := minimumf (broadcast S1x1 lr) (tAmax n)

/-- A product of two blocks. -/
def tMul (a b : FVec F S128x128 .f32) : FVec F S128x128 .f32 :=
  matmul dot_S128x128_S128x128_S128x128_1_0_0_1_n_n (some .fp32) a b (constant S128x128 .f32 0x00000000#32)

/-- A block times the step taken, negated. -/
def tNeg (al : FVec F S1x1 .f32) (v : FVec F S128x128 .f32) : FVec F S128x128 .f32 :=
  mulf (broadcastTo S128x128 (subf (broadcast S1x1 (Scalar.ofBits .f32 0x00000000#32)) al) broadcasts_S1x1_S128x128) v

/-- The first correction, and half its square. -/
def tD1 (al : FVec F S1x1 .f32) (u c : FVec F S128x128 .f32) : FVec F S128x128 .f32 :=
  addf (tNeg al u) (mulf (broadcastTo S128x128
    (mulf (mulf (broadcast S1x1 (Scalar.ofBits .f32 0x3F000000#32)) al) al) broadcasts_S1x1_S128x128) c)

/-- The step. -/
def tStep (al : FVec F S1x1 .f32) (u c : FVec F S128x128 .f32) : FVec F S128x128 .f32 :=
  subf (tNeg al u) (mulf (broadcastTo S128x128
    (mulf (broadcast S1x1 (Scalar.ofBits .f32 0x3F000000#32)) al) broadcasts_S1x1_S128x128) c)

/-- The scale of each row of a block. -/
def tScale (m : FVec F S128x128 .f32) : FVec F S128x1 .f32 :=
  have a : FVec F S128x1 .f32 := shapeCast S128x1
    (multiReduction .maximumf [1] S128 (absf m) 0xFF800000#32 reduces_S128x128_S128 (.inl rfl) rfl) shapeCasts_S128_S128x1
  select (cmpf .oeq a (broadcast S128x1 (Scalar.ofBits .f32 0x00000000#32)))
    (broadcast S128x1 (Scalar.ofBits .f32 0x3F800000#32)) (divf a (broadcast S128x1 (Scalar.ofBits .f32 0x42FE0000#32)))

/-- The scales as a row. -/
def tScaleRow (m : FVec F S128x128 .f32) : FVec F S1x128 .f32 :=
  extractStridedSlice S1x128 ![0, 0] (transpose S128x128 [1, 0]
    (broadcastTo S128x128 (shapeCast S128x1 (tScale m) shapeCasts_S128x1_S128x1) broadcasts_S128x1_S128x128)
    transposes_S128x128_p1_0_S128x128) slices_S128x128_o0_0_S1x128

/-- The codes of a block before the conversion. -/
def tCode (m : FVec F S128x128 .f32) : FVec F S128x128 .f32 :=
  minimumf (broadcast S128x128 (Scalar.ofBits .f32 0x42FE0000#32))
    (maximumf (broadcast S128x128 (Scalar.ofBits .f32 0xC2FE0000#32))
      (roundeven (divf m (broadcastTo S128x128 (tScale m) broadcasts_S128x1_S128x128))))

/-- A block read as a matrix. -/
def tMat (r : Vec F S1x128x128 .f32) : FVec F S128x128 .f32 := shapeCast S128x128 r shapeCasts_S1x128x128_S128x128

/-- A matrix as a block. -/
def tBlk (r : FVec F S128x128 .f32) : FVec F S1x128x128 .f32 := shapeCast S1x128x128 r shapeCasts_S128x128_S1x128x128

variable {R : Type u} (H : Hd sig (Elt F) R) (M : Args)

/-- What one block of the tail writes: from the rotation block `r`, the momentum `m`, the skew direction `a`,
and the learning rate. -/
def tailW (i : grid0.Coords) (h3 : k0_cond3 i = 1#1) (j : Fin 4) (r m a : FVec F S128x128 .f32) (K : Unit → R) : R :=
  H.LD M.arg12 (Rect.unit (s := S28) (k0_off6 i (BitVec.ofNat 32 j)) S1.size (k0_off6_inb i h3 j)).toLoadRect fun _ =>
  H.ST M.arg12 (Rect.unit (s := S28) (k0_off6 i (BitVec.ofNat 32 j)) S1.size (k0_off6_inb i h3 j))
    (fun _ => extractAt ![0, 0] (tNorm a) inpos_S1x1_p0_0) Finset.univ <|
  H.LD M.arg13 (Rect.unit (s := S28) (k0_off6 i (BitVec.ofNat 32 j)) S1.size (k0_off6_inb i h3 j)).toLoadRect fun _ =>
  H.ST M.arg13 (Rect.unit (s := S28) (k0_off6 i (BitVec.ofNat 32 j)) S1.size (k0_off6_inb i h3 j))
    (fun _ => extractAt ![0, 0] (tAmax (tNorm a)) inpos_S1x1_p0_0) Finset.univ <|
  H.LD M.arg7 (Rect.unit (s := S28) (k0_off6 i (BitVec.ofNat 32 j)) S1.size (k0_off6_inb i h3 j)).toLoadRect fun l =>
  have al := tAlpha (l (Shape.Idx.first (numel1_S1.symm ▸ Nat.one_pos))) (tNorm a)
  H.LD M.arg10 (Rect.unit (s := S4x128x128) ![j, 0, 0] S1x128x128.size (inb3 (by omega) (by omega) (by omega))).toLoadRect fun _ =>
  H.ST M.arg10 (Rect.unit (s := S4x128x128) ![j, 0, 0] S1x128x128.size (inb3 (by omega) (by omega) (by omega)))
    (tBlk (tMul a m)) Finset.univ <|
  H.LD M.arg11 (Rect.unit (s := S4x128x128) ![j, 0, 0] S1x128x128.size (inb3 (by omega) (by omega) (by omega))).toLoadRect fun _ =>
  H.ST M.arg11 (Rect.unit (s := S4x128x128) ![j, 0, 0] S1x128x128.size (inb3 (by omega) (by omega) (by omega)))
    (tBlk (tMul a (tD1 al (tMul a r) (tMul a m)))) Finset.univ <|
  H.LD M.arg9 (Rect.unit (s := S4x128x128) ![j, 0, 0] S1x128x128.size (inb3 (by omega) (by omega) (by omega))).toLoadRect fun _ =>
  H.ST M.arg9 (Rect.unit (s := S4x128x128) ![j, 0, 0] S1x128x128.size (inb3 (by omega) (by omega) (by omega)))
    (tBlk (tStep al (tMul a r) (tMul a (tD1 al (tMul a r) (tMul a m))))) Finset.univ <|
  H.LD M.arg8 (Rect.unit (s := S4x128x128) ![j, 0, 0] S1x128x128.size (inb3 (by omega) (by omega) (by omega))).toLoadRect fun _ =>
  H.ST M.arg8 (Rect.unit (s := S4x128x128) ![j, 0, 0] S1x128x128.size (inb3 (by omega) (by omega) (by omega)))
    (tBlk (addf r (tStep al (tMul a r) (tMul a (tD1 al (tMul a r) (tMul a m)))))) Finset.univ <|
  H.LD M.arg23 (Rect.unit (s := S28x128) (k0_off5 i (BitVec.ofNat 32 j)) S1x128.size (k0_off5_inb i h3 j)).toLoadRect fun _ =>
  H.ST M.arg23 (Rect.unit (s := S28x128) (k0_off5 i (BitVec.ofNat 32 j)) S1x128.size (k0_off5_inb i h3 j))
    (tScaleRow (tMul a r)) Finset.univ <|
  H.LD M.arg34 (Rect.unit (s := S3584x128) (k0_off7 i (BitVec.ofNat 32 j)) S128x128.size (k0_off7_inb i h3 j)).toLoadRect fun _ =>
  H.ST M.arg34 (Rect.unit (s := S3584x128) (k0_off7 i (BitVec.ofNat 32 j)) S128x128.size (k0_off7_inb i h3 j))
    (shapeCast S128x128 (tCode (tMul a r)) shapeCasts_S128x128_S128x128) Finset.univ <|
  K ⟨⟩

/-- One block of the tail. -/
def tail1 (i : grid0.Coords) (h3 : k0_cond3 i = 1#1) (j : Fin 4) (_ : Unit) (K : Unit → R) : R :=
  H.LD M.arg4 (Rect.unit (s := S28x128x128) (k0_off2 i (BitVec.ofNat 32 j)) S1x128x128.size (k0_off2_inb i h3 j)).toLoadRect fun r =>
  H.LD M.arg28 (Rect.unit (s := S3584x256) (k0_off3 i (BitVec.ofNat 32 j)) S128x256.size (k0_off3_inb i h3 j)).toLoadRect fun x =>
  H.LD M.arg32 (Rect.unit (s := S256x3584) (k0_off4 i (BitVec.ofNat 32 j)) S256x128.size (k0_off4_inb i h3 j)).toLoadRect fun p =>
  H.LD M.arg33 (Rect.unit (s := S28x128x128) (k0_off2 i (BitVec.ofNat 32 j)) S1x128x128.size (k0_off2_inb i h3 j)).toLoadRect fun g =>
  H.LD M.arg17 (Rect.unit (s := S4x128x128) ![j, 0, 0] S1x128x128.size (inb3 (by omega) (by omega) (by omega))).toLoadRect fun _ =>
  H.ST M.arg17 (Rect.unit (s := S4x128x128) ![j, 0, 0] S1x128x128.size (inb3 (by omega) (by omega) (by omega)))
    (tBlk (tGrad x p g)) Finset.univ <|
  H.LD M.arg6 (Rect.unit (s := S28x128) (k0_off5 i (BitVec.ofNat 32 j)) S1x128.size (k0_off5_inb i h3 j)).toLoadRect fun ms =>
  H.LD M.arg5 (Rect.unit (s := S4x128x128) ![j, 0, 0] S1x128x128.size (inb3 (by omega) (by omega) (by omega))).toLoadRect fun mc =>
  tailW H M i h3 j (tMat r) (tMom ms mc (tGrad x p g)) (tSkew (tMat r) (tMR (tMat r) (tMom ms mc (tGrad x p g)))) K

/-- The tail. -/
def tailStep (i : grid0.Coords) (h3 : k0_cond3 i = 1#1) (K : R) : R :=
  loop 4 (tail1 H M i h3) ⟨⟩ fun _ => K

/-- The loss. -/
def lossOf (l : Vec F S8x256 .f32) : F .f32 :=
  Scalar.divf (extractAt ![0, 0, 0] (shapeCast S1x1x1
    (multiReduction .add [1, 2] S1 (shapeCast S1x8x256 l shapeCasts_S8x256_S1x8x256) 0x00000000#32
      reduces_S1x8x256_S1 (.inl rfl) rfl) shapeCasts_S1_S1x1x1) inpos_S1x1x1_p0_0_0) (Scalar.ofBits .f32 0x49900000#32)

/-- Row `k` of every momentum block. -/
def end1 (k : Fin 128) (_ : Unit) (K : Unit → R) : R :=
  H.LD M.arg34 (⟨![k, 0], S28x128.size, ![128, 1], Fin.forall_fin_two.mpr
      ⟨.inr (by show k.val + 128 * 27 < 3584; omega), .inr (by show 0 + 1 * 127 < 128; omega)⟩⟩ : LoadRect S3584x128) fun m =>
  H.LD M.arg22 (Rect.unit (s := S28x16384) ![0, 128 * k] S28x128.size (inb2 (by omega) (by omega))).toLoadRect fun _ =>
  H.ST M.arg22 (Rect.unit (s := S28x16384) ![0, 128 * k] S28x128.size (inb2 (by omega) (by omega))) (fptosi 8 m) Finset.univ <|
  K ⟨⟩

/-- The end. -/
def endStep (K : R) : R :=
  H.LD M.arg35 (Rect.unit (s := S8x256) ![0, 0] S8x256.size (inb2 (by omega) (by omega))).toLoadRect fun l =>
  H.LD M.arg14 (Rect.unit (s := S1x1) ![0, 0] S1x1.size (inb2 (by omega) (by omega))).toLoadRect fun _ =>
  H.ST M.arg14 (Rect.unit (s := S1x1) ![0, 0] S1x1.size (inb2 (by omega) (by omega))) (fun _ => lossOf l) Finset.univ <|
  loop 128 (end1 H M) ⟨⟩ fun _ => K

end Cert.Kernel.Spin

end
-- ==== Proof.AsPrinted.Step.lean ====
/-
  The kernel's step as a compact program: the unrolled loops of the printed one written as loops, over
  named pure functions of what is loaded.
-/
module

public import proofs.«01_k».proof.Proof.Gen.Kernel
public import proofs.«01_k».proof.Proof.AsPrinted.Body2
public import proofs.«01_k».proof.Proof.AsPrinted.Body3

@[expose] public section

noncomputable section

namespace Cert.Kernel.Spin

open Idealize.ShloMosaic Idealize.SL.Sem Cert.Kernel.Gen _root_.Spin

universe u

variable {F : FTy → Type} [FloatOps F]

variable {R : Type u} (H : Hd sig (Elt F) R) (M : Args)

/-- The end, at the last point. -/
def st4 (i : grid0.Coords) (K : R) : R := if _h : k0_cond4 i = 1#1 then endStep H M K else K

/-- The tail, from its first point on. -/
def st3 (i : grid0.Coords) (K : R) : R := if h : k0_cond3 i = 1#1 then tailStep H M i h (st4 H M i K) else st4 H M i K

/-- The main step, below that. -/
def st2 (i : grid0.Coords) (K : R) : R := if h : k0_cond2 i = 1#1 then mainStep H M i h (st3 H M i K) else st3 H M i K

/-- The whole step. -/
def st1 (i : grid0.Coords) (K : R) : R := if _h : k0_cond1 i = 1#1 then prologue H M (st2 H M i K) else st2 H M i K

/-- A program that branches and then joins, read by a handler. -/
theorem fold_join {β : Type} (c : Prop) [Decidable c]
    (p : c → Prog (TpuEff nD τ sig (Elt F) Λ₀ .tc) β) (rest : Prog (TpuEff nD τ sig (Elt F) Λ₀ .tc) β)
    (K : β → R) (G : c → R → R) (Y : R)
    (hp : ∀ h : c, fold H (p h) K = G h (fold H rest K)) (hr : fold H rest K = Y) :
    fold H (dite c p fun _ => rest) K = if h : c then G h Y else Y := by
  rw [fold_ite]
  split
  · rw [hp, hr]
  · exact hr

set_option maxRecDepth 100000 in
set_option maxHeartbeats 4000000 in
/-- The printed step, read by any handler, is the compact one. -/
theorem step_eq (i : grid0.Coords) (arg1 : Memref sig .tc .vmem S256x3584 .bf16) (harg1 : arg1.IsWhole) (arg2 : Memref sig .tc .vmem S256x3584 .bf16) (harg2 : arg2.IsWhole) (arg3 : Memref sig .tc .vmem S256x256 .bf16) (harg3 : arg3.IsWhole) (arg4 : Memref sig .tc .vmem S28x128x128 .f32) (harg4 : arg4.IsWhole) (arg5 : Memref sig .tc .vmem S4x128x128 .i8) (harg5 : arg5.IsWhole) (arg6 : Memref sig .tc .vmem S28x128 .f32) (harg6 : arg6.IsWhole) (arg7 : Memref sig .tc .smem S28 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .smem S28 .f32) (harg12 : arg12.IsWhole) (arg13 : Memref sig .tc .smem S28 .f32) (harg13 : arg13.IsWhole) (arg14 : Memref sig .tc .smem S1x1 .f32) (harg14 : arg14.IsWhole) (arg15 : Memref sig .tc .vmem S1x4608 .f32) (harg15 : arg15.IsWhole) (arg16 : Memref sig .tc .vmem S256x256 .f32) (harg16 : arg16.IsWhole) (arg17 : Memref sig .tc .vmem S4x128x128 .f32) (harg17 : arg17.IsWhole) (arg18 : Memref sig .tc .vmem S256x3584 .i8) (harg18 : arg18.IsWhole) (arg19 : Memref sig .tc .vmem S1x256 .f32) (harg19 : arg19.IsWhole) (arg20 : Memref sig .tc .vmem S256x3584 .i8) (harg20 : arg20.IsWhole) (arg21 : Memref sig .tc .vmem S1x4608 .f32) (harg21 : arg21.IsWhole) (arg22 : Memref sig .tc .vmem S28x16384 .i8) (harg22 : arg22.IsWhole) (arg23 : Memref sig .tc .vmem S28x128 .f32) (harg23 : arg23.IsWhole) (arg24 : Memref sig .tc .vmem S14x256x256 .bf16) (harg24 : arg24.IsWhole) (arg25 : Memref sig .tc .vmem S256x3584 .f32) (harg25 : arg25.IsWhole) (arg26 : Memref sig .tc .vmem S256x3584 .bf16) (harg26 : arg26.IsWhole) (arg27 : Memref sig .tc .vmem S3584x256 .bf16) (harg27 : arg27.IsWhole) (arg28 : Memref sig .tc .vmem S3584x256 .bf16) (harg28 : arg28.IsWhole) (arg29 : Memref sig .tc .vmem S256x128 .f32) (harg29 : arg29.IsWhole) (arg30 : Memref sig .tc .vmem S256x3584 .bf16) (harg30 : arg30.IsWhole) (arg31 : Memref sig .tc .vmem S3584x256 .bf16) (harg31 : arg31.IsWhole) (arg32 : Memref sig .tc .vmem S256x3584 .f32) (harg32 : arg32.IsWhole) (arg33 : Memref sig .tc .vmem S28x128x128 .f32) (harg33 : arg33.IsWhole) (arg34 : Memref sig .tc .vmem S3584x128 .f32) (harg34 : arg34.IsWhole) (arg35 : Memref sig .tc .vmem S8x256 .f32) (harg35 : arg35.IsWhole) (K : PUnit → R) :
    fold H (cc0_spinquant_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K = st1 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩) := by
  unfold cc0_spinquant_step
  refine fold_join H _ _ _ K (fun _ => prologue H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩) (st2 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun h => mainStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i h) (st3 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun h => tailStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i h) (st4 H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩ i (K ⟨⟩)) ?_ ?_
  · intro h; rfl
  refine fold_join H _ _ _ K (fun _ => endStep H ⟨arg1, arg2, arg3, arg4, arg5, arg6, arg7, arg8, arg9, arg10, arg11, arg12, arg13, arg14, arg15, arg16, arg17, arg18, arg19, arg20, arg21, arg22, arg23, arg24, arg25, arg26, arg27, arg28, arg29, arg30, arg31, arg32, arg33, arg34, arg35⟩) (K ⟨⟩) ?_ ?_
  · intro h; rfl
  rfl

end Cert.Kernel.Spin

end
-- ==== Proof.AsPrinted.Safe.lean ====
/-
  The kernel's step touches only its own buffers: it reads any of them and writes its results and its scratch.
-/
module

public import proofs.«01_k».proof.Proof.Gen.Kernel
public import proofs.«01_k».proof.Proof.AsPrinted.Step

@[expose] public section

noncomputable section

namespace Cert.Kernel.Spin

open Idealize.ShloMosaic Idealize.SL.Sem Cert.Kernel.Gen _root_.Spin

variable {F : FTy → Type} [FloatOps F] (M : Args)

/-- The results' buffers and the scratch. -/
def Args.outs : List (Ref sig .tc) :=
  [M.arg8.view.ref, M.arg9.view.ref, M.arg10.view.ref, M.arg11.view.ref, M.arg12.view.ref, M.arg13.view.ref, M.arg14.view.ref, M.arg15.view.ref, M.arg16.view.ref, M.arg17.view.ref, M.arg18.view.ref, M.arg19.view.ref, M.arg20.view.ref, M.arg21.view.ref, M.arg22.view.ref, M.arg23.view.ref, M.arg24.view.ref, M.arg25.view.ref, M.arg26.view.ref, M.arg27.view.ref, M.arg28.view.ref, M.arg29.view.ref, M.arg30.view.ref, M.arg31.view.ref, M.arg32.view.ref, M.arg33.view.ref, M.arg34.view.ref, M.arg35.view.ref]

/-- All the step's buffers. -/
def Args.all : List (Ref sig .tc) := [M.arg1.view.ref, M.arg2.view.ref, M.arg3.view.ref, M.arg4.view.ref, M.arg5.view.ref, M.arg6.view.ref, M.arg7.view.ref] ++ M.outs

/-- A buffer the step may read. -/
def okL (b : Ref sig .tc) : Prop := b ∈ M.all

/-- A buffer the step may write. -/
def okS (b : Ref sig .tc) : Prop := b ∈ M.outs

/-- A buffer the step may write it may also read. -/
theorem okL_of_okS {b : Ref sig .tc} (h : okS M b) : okL M b := List.mem_append_right _ h

/-- The step may write buffer 8. -/
theorem s8 : okS M M.arg8.view.ref := by simp [okS, Args.outs]
/-- The step may write buffer 9. -/
theorem s9 : okS M M.arg9.view.ref := by simp [okS, Args.outs]
/-- The step may write buffer 10. -/
theorem s10 : okS M M.arg10.view.ref := by simp [okS, Args.outs]
/-- The step may write buffer 11. -/
theorem s11 : okS M M.arg11.view.ref := by simp [okS, Args.outs]
/-- The step may write buffer 12. -/
theorem s12 : okS M M.arg12.view.ref := by simp [okS, Args.outs]
/-- The step may write buffer 13. -/
theorem s13 : okS M M.arg13.view.ref := by simp [okS, Args.outs]
/-- The step may write buffer 14. -/
theorem s14 : okS M M.arg14.view.ref := by simp [okS, Args.outs]
/-- The step may write buffer 15. -/
theorem s15 : okS M M.arg15.view.ref := by simp [okS, Args.outs]
/-- The step may write buffer 16. -/
theorem s16 : okS M M.arg16.view.ref := by simp [okS, Args.outs]
/-- The step may write buffer 17. -/
theorem s17 : okS M M.arg17.view.ref := by simp [okS, Args.outs]
/-- The step may write buffer 18. -/
theorem s18 : okS M M.arg18.view.ref := by simp [okS, Args.outs]
/-- The step may write buffer 19. -/
theorem s19 : okS M M.arg19.view.ref := by simp [okS, Args.outs]
/-- The step may write buffer 20. -/
theorem s20 : okS M M.arg20.view.ref := by simp [okS, Args.outs]
/-- The step may write buffer 21. -/
theorem s21 : okS M M.arg21.view.ref := by simp [okS, Args.outs]
/-- The step may write buffer 22. -/
theorem s22 : okS M M.arg22.view.ref := by simp [okS, Args.outs]
/-- The step may write buffer 23. -/
theorem s23 : okS M M.arg23.view.ref := by simp [okS, Args.outs]
/-- The step may write buffer 24. -/
theorem s24 : okS M M.arg24.view.ref := by simp [okS, Args.outs]
/-- The step may write buffer 25. -/
theorem s25 : okS M M.arg25.view.ref := by simp [okS, Args.outs]
/-- The step may write buffer 26. -/
theorem s26 : okS M M.arg26.view.ref := by simp [okS, Args.outs]
/-- The step may write buffer 27. -/
theorem s27 : okS M M.arg27.view.ref := by simp [okS, Args.outs]
/-- The step may write buffer 28. -/
theorem s28 : okS M M.arg28.view.ref := by simp [okS, Args.outs]
/-- The step may write buffer 29. -/
theorem s29 : okS M M.arg29.view.ref := by simp [okS, Args.outs]
/-- The step may write buffer 30. -/
theorem s30 : okS M M.arg30.view.ref := by simp [okS, Args.outs]
/-- The step may write buffer 31. -/
theorem s31 : okS M M.arg31.view.ref := by simp [okS, Args.outs]
/-- The step may write buffer 32. -/
theorem s32 : okS M M.arg32.view.ref := by simp [okS, Args.outs]
/-- The step may write buffer 33. -/
theorem s33 : okS M M.arg33.view.ref := by simp [okS, Args.outs]
/-- The step may write buffer 34. -/
theorem s34 : okS M M.arg34.view.ref := by simp [okS, Args.outs]
/-- The step may write buffer 35. -/
theorem s35 : okS M M.arg35.view.ref := by simp [okS, Args.outs]
/-- The step may read buffer 1. -/
theorem l1 : okL M M.arg1.view.ref := by simp [okL, Args.all]
/-- The step may read buffer 2. -/
theorem l2 : okL M M.arg2.view.ref := by simp [okL, Args.all]
/-- The step may read buffer 3. -/
theorem l3 : okL M M.arg3.view.ref := by simp [okL, Args.all]
/-- The step may read buffer 4. -/
theorem l4 : okL M M.arg4.view.ref := by simp [okL, Args.all]
/-- The step may read buffer 5. -/
theorem l5 : okL M M.arg5.view.ref := by simp [okL, Args.all]
/-- The step may read buffer 6. -/
theorem l6 : okL M M.arg6.view.ref := by simp [okL, Args.all]
/-- The step may read buffer 7. -/
theorem l7 : okL M M.arg7.view.ref := by simp [okL, Args.all]
/-- The step may read buffer 8. -/
theorem l8 : okL M M.arg8.view.ref := okL_of_okS M (s8 M)
/-- The step may read buffer 9. -/
theorem l9 : okL M M.arg9.view.ref := okL_of_okS M (s9 M)
/-- The step may read buffer 10. -/
theorem l10 : okL M M.arg10.view.ref := okL_of_okS M (s10 M)
/-- The step may read buffer 11. -/
theorem l11 : okL M M.arg11.view.ref := okL_of_okS M (s11 M)
/-- The step may read buffer 12. -/
theorem l12 : okL M M.arg12.view.ref := okL_of_okS M (s12 M)
/-- The step may read buffer 13. -/
theorem l13 : okL M M.arg13.view.ref := okL_of_okS M (s13 M)
/-- The step may read buffer 14. -/
theorem l14 : okL M M.arg14.view.ref := okL_of_okS M (s14 M)
/-- The step may read buffer 15. -/
theorem l15 : okL M M.arg15.view.ref := okL_of_okS M (s15 M)
/-- The step may read buffer 16. -/
theorem l16 : okL M M.arg16.view.ref := okL_of_okS M (s16 M)
/-- The step may read buffer 17. -/
theorem l17 : okL M M.arg17.view.ref := okL_of_okS M (s17 M)
/-- The step may read buffer 18. -/
theorem l18 : okL M M.arg18.view.ref := okL_of_okS M (s18 M)
/-- The step may read buffer 19. -/
theorem l19 : okL M M.arg19.view.ref := okL_of_okS M (s19 M)
/-- The step may read buffer 20. -/
theorem l20 : okL M M.arg20.view.ref := okL_of_okS M (s20 M)
/-- The step may read buffer 21. -/
theorem l21 : okL M M.arg21.view.ref := okL_of_okS M (s21 M)
/-- The step may read buffer 22. -/
theorem l22 : okL M M.arg22.view.ref := okL_of_okS M (s22 M)
/-- The step may read buffer 23. -/
theorem l23 : okL M M.arg23.view.ref := okL_of_okS M (s23 M)
/-- The step may read buffer 24. -/
theorem l24 : okL M M.arg24.view.ref := okL_of_okS M (s24 M)
/-- The step may read buffer 25. -/
theorem l25 : okL M M.arg25.view.ref := okL_of_okS M (s25 M)
/-- The step may read buffer 26. -/
theorem l26 : okL M M.arg26.view.ref := okL_of_okS M (s26 M)
/-- The step may read buffer 27. -/
theorem l27 : okL M M.arg27.view.ref := okL_of_okS M (s27 M)
/-- The step may read buffer 28. -/
theorem l28 : okL M M.arg28.view.ref := okL_of_okS M (s28 M)
/-- The step may read buffer 29. -/
theorem l29 : okL M M.arg29.view.ref := okL_of_okS M (s29 M)
/-- The step may read buffer 30. -/
theorem l30 : okL M M.arg30.view.ref := okL_of_okS M (s30 M)
/-- The step may read buffer 31. -/
theorem l31 : okL M M.arg31.view.ref := okL_of_okS M (s31 M)
/-- The step may read buffer 32. -/
theorem l32 : okL M M.arg32.view.ref := okL_of_okS M (s32 M)
/-- The step may read buffer 33. -/
theorem l33 : okL M M.arg33.view.ref := okL_of_okS M (s33 M)
/-- The step may read buffer 34. -/
theorem l34 : okL M M.arg34.view.ref := okL_of_okS M (s34 M)
/-- The step may read buffer 35. -/
theorem l35 : okL M M.arg35.view.ref := okL_of_okS M (s35 M)

/-- The handler that asks for what may be touched. -/
abbrev saf : Hd sig (Elt F) Prop := safeH (okL M) (okS M)

/-- `pro1` touches only buffers the step may touch. -/
theorem pro1_safe (p : Fin 14) (a) (K : FVec F S256x128 .f32 → Prop) (hK : ∀ a', K a') : pro1 (saf M) M p a K := by
  simp only [pro1, safeH, l1, l4, l24, l25, s24, s25, true_and]; intros; exact hK _

/-- `pro2` touches only buffers the step may touch. -/
theorem pro2_safe (s : FVec F S256x1 .f32) (p : Fin 14) (a) (K : Unit → Prop) (hK : ∀ a', K a') : pro2 (saf M) M s p a K := by
  simp only [pro2, safeH, l1, l18, l25, l26, l27, l28, s18, s26, s27, s28, true_and]; intros; exact hK _

/-- `prologue` touches only buffers the step may touch. -/
theorem prologue_safe (K : Prop) (hK : K) : prologue (F := F) (saf M) M K := by
  unfold prologue
  refine loop_safe (pro1_safe M) fun a => ?_
  simp only [safeH, l29, l19, s29, s19, true_and]; intros
  refine loop_safe (pro2_safe M _) fun _ => ?_
  simp only [safeH, l32, l33, l35, s32, s33, s35, true_and]; intros; exact hK

/-- `main1` touches only buffers the step may touch. -/
theorem main1_safe (p : Fin 14) (a) (K : FVec F S256x128 .f32 → Prop) (hK : ∀ a', K a') : main1 (saf M) M p a K := by
  simp only [main1, safeH, l2, l24, l25, s25, true_and]; intros; exact hK _

/-- `main2b` touches only buffers the step may touch. -/
theorem main2b_safe (s : FVec F S256x1 .f32) (c : Fin 8) (b : Fin 28) (a) (K : FVec F S32x128 .f32 → Prop) (hK : ∀ a', K a') :
    main2b (saf M) M s c b a K := by
  simp only [main2b, safeH, l25, l20, l30, s20, s30, true_and]; intros; exact hK _

/-- `main2` touches only buffers the step may touch. -/
theorem main2_safe (s : FVec F S256x1 .f32) (c : Fin 8) (e) (K : (Fin 8 → FVec F S32x1 .f32) → Prop) (hK : ∀ a', K a') :
    main2 (saf M) M s c e K := by
  unfold main2; exact loop_safe (main2b_safe M s c) fun _ => hK _

/-- `main3` touches only buffers the step may touch. -/
theorem main3_safe (ew : FVec F S256x256 .bf16) (p : Fin 14) (a) (K : Unit → Prop) (hK : ∀ a', K a') : main3 (saf M) M ew p a K := by
  simp only [main3, safeH, l30, l32, s32, true_and]; intros; exact hK _

/-- `main4` touches only buffers the step may touch. -/
theorem main4_safe (ex : FVec F S256x256 .bf16) (p : Fin 14) (a) (K : Unit → Prop) (hK : ∀ a', K a') : main4 (saf M) M ex p a K := by
  simp only [main4, safeH, l27, l31, s31, true_and]; intros; exact hK _

/-- `main5` touches only buffers the step may touch. -/
theorem main5_safe (b : Fin 28) (a) (K : Unit → Prop) (hK : ∀ a', K a') : main5 (F := F) (saf M) M b a K := by
  simp only [main5, safeH, l2, l31, l33, s33, true_and]; intros; exact hK _

/-- `main6` touches only buffers the step may touch. -/
theorem main6_safe (i : grid0.Coords) (h2 : k0_cond2 i = 1#1) (s : FVec F S256x1 .f32) (e : Fin 8 → FVec F S32x1 .f32) (K : Prop) (hK : K) :
    main6 (saf M) M i h2 s e K := by
  simp only [main6, safeH, l21, l15, l29, l26, l30, l3, l16, l35, s21, s15, s16, s35, true_and]; intros
  refine loop_safe (main3_safe M _) fun _ => ?_
  refine loop_safe (main4_safe M _) fun _ => ?_
  exact loop_safe (main5_safe M) fun _ => hK

/-- `mainStep` touches only buffers the step may touch. -/
theorem mainStep_safe (i : grid0.Coords) (h2 : k0_cond2 i = 1#1) (K : Prop) (hK : K) : mainStep (F := F) (saf M) M i h2 K := by
  unfold mainStep
  refine loop_safe (main1_safe M) fun a => ?_
  refine loop_safe (main2_safe M _) fun e => ?_
  exact main6_safe M i h2 _ e K hK

/-- `tail1` touches only buffers the step may touch. -/
theorem tail1_safe (i : grid0.Coords) (h3 : k0_cond3 i = 1#1) (j : Fin 4) (a) (K : Unit → Prop) (hK : ∀ a', K a') :
    tail1 (F := F) (saf M) M i h3 j a K := by
  simp only [tail1, tailW, safeH, l4, l28, l32, l33, l17, l6, l5, l12, l13, l7, l10, l11, l9, l8, l23, l34,
    s17, s12, s13, s10, s11, s9, s8, s23, s34, true_and]; intros; exact hK _

/-- `tailStep` touches only buffers the step may touch. -/
theorem tailStep_safe (i : grid0.Coords) (h3 : k0_cond3 i = 1#1) (K : Prop) (hK : K) : tailStep (F := F) (saf M) M i h3 K := by
  unfold tailStep; exact loop_safe (tail1_safe M i h3) fun _ => hK

/-- `end1` touches only buffers the step may touch. -/
theorem end1_safe (k : Fin 128) (a) (K : Unit → Prop) (hK : ∀ a', K a') : end1 (F := F) (saf M) M k a K := by
  simp only [end1, safeH, l34, l22, s22, true_and]; intros; exact hK _

/-- `endStep` touches only buffers the step may touch. -/
theorem endStep_safe (K : Prop) (hK : K) : endStep (F := F) (saf M) M K := by
  simp only [endStep, safeH, l35, l14, s14, true_and]; intros
  exact loop_safe (end1_safe M) fun _ => hK

/-- The whole step touches only what it may. -/
theorem st1_safe (i : grid0.Coords) : st1 (F := F) (saf M) M i True := by
  have h4 : st4 (F := F) (saf M) M i True := by
    unfold st4; split
    · exact endStep_safe M _ trivial
    · trivial
  have h3 : st3 (F := F) (saf M) M i True := by
    unfold st3; split
    · exact tailStep_safe M i _ _ h4
    · exact h4
  have h2 : st2 (F := F) (saf M) M i True := by
    unfold st2; split
    · exact mainStep_safe M i _ _ h3
    · exact h3
  unfold st1; split
  · exact prologue_safe M _ h2
  · exact h2

end Cert.Kernel.Spin

end
-- ==== Proof.AsPrinted.Bufs.lean ====
/-
  The buffers of one step of the kernel: the staging buffers of the windows, and the scratch.
-/
module

public import proofs.«01_k».proof.Proof.Gen.Kernel.Frame
public import proofs.«01_k».proof.Proof.Own
public import proofs.«01_k».proof.Proof.AsPrinted.Safe
public import Idealize.ShloMosaic.Lib.Pipeline.ArrRel

@[expose] public section

set_option maxRecDepth 16384

noncomputable section

namespace Cert.Kernel.Spin

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat cellOf)
open Cert.Kernel.Gen _root_.Spin

variable {F : FTy → Type} [FloatOps F]

local notation "𝕄" => MT nD τ sig Unit (Elt F) ℕ (UR sig nD τ) ℕ

/-- The step's memrefs at a point. -/
abbrev argsAt (t : Fin cfg0.N) : Args :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10), win0_11.stage (cfg0.slots t 11),
    win0_12.stage (cfg0.slots t 12), win0_13.stage (cfg0.slots t 13), win0_14.stage (cfg0.slots t 14), win0_15.stage (cfg0.slots t 15),
    win0_16.stage (cfg0.slots t 16), win0_17.stage (cfg0.slots t 17), win0_18.stage (cfg0.slots t 18), win0_19.stage (cfg0.slots t 19),
    win0_20.stage (cfg0.slots t 20), win0_21.stage (cfg0.slots t 21), win0_22.stage (cfg0.slots t 22),
    Memref.whole cc0_scratch0, Memref.whole cc0_scratch1, Memref.whole cc0_scratch2, Memref.whole cc0_scratch3,
    Memref.whole cc0_scratch4, Memref.whole cc0_scratch5, Memref.whole cc0_scratch6, Memref.whole cc0_scratch7,
    Memref.whole cc0_scratch8, Memref.whole cc0_scratch9, Memref.whole cc0_scratch10, Memref.whole cc0_scratch11⟩

/-- The scoped buffers that stage no window. -/
def S0 : Finset (Ref sig .tc) := (Finset.univ.filter fun b : Ref sig .tc => b.isScoped) \ Finset.univ.image (Pipeline.stageRef spec0)

/-- Window `w`'s current staging buffer. -/
def stg (t : Fin cfg0.N) (w : Fin cfg0.W) : Ref sig .tc := Pipeline.stageRef spec0 ⟨w, cfg0.slots t w⟩

/-- At each step, different windows stage in different buffers. -/
theorem stg_inj (t : Fin cfg0.N) : Function.Injective (stg t) := fun w w' h => by
  have := winFacts0.stage_inj h
  exact congrArg Sigma.fst this

/-- No current staging buffer is among the scoped buffers that stage no window. -/
theorem stg_not_mem (t : Fin cfg0.N) (w : Fin cfg0.W) : stg t w ∉ S0 := fun h =>
  (Finset.mem_sdiff.mp h).2 (Finset.mem_image_of_mem _ (Finset.mem_univ _))

/-- The twelve scratch buffers are among the scoped buffers that stage no window. -/
theorem scratch_mem : ∀ b ∈ [cc0_scratch0, cc0_scratch1, cc0_scratch2, cc0_scratch3, cc0_scratch4, cc0_scratch5, cc0_scratch6,
    cc0_scratch7, cc0_scratch8, cc0_scratch9, cc0_scratch10, cc0_scratch11], b ∈ S0 := by decide

/-- Everything the step touches is a staging buffer or scratch. -/
theorem all_mem (t : Fin cfg0.N) (b : Ref sig .tc) (h : okL (argsAt t) b) : b ∈ S0 ∪ Finset.univ.image (stg t) := by
  have hs : ∀ w, stg t w ∈ S0 ∪ Finset.univ.image (stg t) := fun w =>
    Finset.mem_union_right _ (Finset.mem_image_of_mem _ (Finset.mem_univ w))
  have hc := fun b hb => Finset.mem_union_left (Finset.univ.image (stg t)) (scratch_mem b hb)
  revert h; revert b
  show ∀ b ∈ (argsAt t).all, _
  refine List.forall_mem_append.mpr ⟨?_, ?_⟩
  · simp only [List.forall_mem_cons, List.not_mem_nil, IsEmpty.forall_iff, implies_true, and_true]
    exact ⟨hs 0, hs 1, hs 2, hs 3, hs 4, hs 5, hs 6⟩
  · unfold Args.outs
    simp only [List.forall_mem_cons, List.not_mem_nil, IsEmpty.forall_iff, implies_true, and_true] at hc ⊢
    exact ⟨hs 7, hs 8, hs 9, hs 10, hs 11, hs 12, hs 13, hs 14, hs 15, hs 16, hs 17, hs 18, hs 19, hs 20, hs 21, hs 22, hc⟩

/-- The step writes no input's staging buffer. -/
theorem in_not_okS (t : Fin cfg0.N) (w : Fin cfg0.W) (hw : (cfg0.win w).isOut = false) : ¬ okS (argsAt t) (stg t w) := by
  intro h
  have hout : ∀ b ∈ (argsAt t).outs, b ∈ S0 ∨ ∃ w', (cfg0.win w').isOut = true ∧ b = stg t w' := by
    unfold Args.outs
    have hc := scratch_mem
    simp only [List.forall_mem_cons, List.not_mem_nil, IsEmpty.forall_iff, implies_true, and_true] at hc ⊢
    obtain ⟨h0, h1, h2, h3, h4, h5, h6, h7, h8, h9, h10, h11⟩ := hc
    exact ⟨.inr ⟨7, rfl, rfl⟩, .inr ⟨8, rfl, rfl⟩, .inr ⟨9, rfl, rfl⟩, .inr ⟨10, rfl, rfl⟩, .inr ⟨11, rfl, rfl⟩, .inr ⟨12, rfl, rfl⟩,
      .inr ⟨13, rfl, rfl⟩, .inr ⟨14, rfl, rfl⟩, .inr ⟨15, rfl, rfl⟩, .inr ⟨16, rfl, rfl⟩, .inr ⟨17, rfl, rfl⟩, .inr ⟨18, rfl, rfl⟩,
      .inr ⟨19, rfl, rfl⟩, .inr ⟨20, rfl, rfl⟩, .inr ⟨21, rfl, rfl⟩, .inr ⟨22, rfl, rfl⟩,
      .inl h0, .inl h1, .inl h2, .inl h3, .inl h4, .inl h5, .inl h6, .inl h7, .inl h8, .inl h9, .inl h10, .inl h11⟩
  rcases hout _ h with h | ⟨w', hw', e⟩
  · exact stg_not_mem t w h
  · rw [stg_inj t e, hw'] at hw; exact Bool.noConfusion hw

end Cert.Kernel.Spin

end
-- ==== Proof.AsPrinted.Pipe.lean ====
/-
  The kernel's run from a property kept over its scratch and a property of each result's block at each point.
-/
module

public import proofs.«01_k».proof.Proof.Gen.Kernel.Frame
public import proofs.«01_k».proof.Proof.AsPrinted.Bufs
public import Idealize.ShloMosaic.Lib.Pipeline.ArrRel

@[expose] public section

set_option maxRecDepth 16384

noncomputable section

namespace Cert.Kernel.Spin

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window RDat cellOf)
open Cert.Kernel.Gen _root_.Spin

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is asked of a result's block at a point. -/
abbrev PTy (F : FTy → Type) : Type := (c : Dev nD) → (w : Fin cfg0.W) → Fin cfg0.N → ((cfg0.win w).block.Idx → Elt F (cfg0.win w).elt) → Prop

variable (P : PTy F) (Scr : Dev nD → Nat → St sig (Elt F) → Prop)

/-- The scratch as a memory, of which `Scr` holds. -/
def scr (c : Dev nD) (t : Nat) : sProp 𝕄 := iprop((∃ σ : St sig (Elt F), ⌜Scr c t σ⌝ ∗ own c S0 σ) ∗ ∃ r, prngReg c r)

/-- The run's data: an input's block stays, a result's meets `P`. -/
def rdat (c : Dev nD) : RDat τ (Elt F) Unit ℕ (UR sig nD τ) ℕ cfg0 c where
  A w := V m c (Pipeline.arrRef spec0 w)
  after w t Y X := if (cfg0.win w).isOut then P c w t X else X = Y
  Φ t := scr Scr c t.val
  q _ := fullShare
  owed _ := 0

/-- What the memory holds when the step begins. -/
structure Before (c : Dev nD) (t : Fin cfg0.N) (σ : St sig (Elt F)) : Prop where
  inp : ∀ w, (cfg0.win w).isOut = false →
    ∃ d, get ((cfg0.win w).stage (cfg0.slots t w)) σ = (cfg0.win w).fill (cfg0.grid.coords t) d (iblk m c w t)
  out : ∀ w (h : t.val ≠ 0), (cfg0.win w).isOut = true →
    (cfg0.win w).flush ⟨t.val - 1, Nat.lt_of_le_of_lt (Nat.sub_le _ _) t.isLt⟩ = false →
    P c w ⟨t.val - 1, Nat.lt_of_le_of_lt (Nat.sub_le _ _) t.isLt⟩ (get ((cfg0.win w).stage (cfg0.slots t w)) σ)
  scr : Scr c t.val σ

/-- What it holds when the step ends. -/
def After (c : Dev nD) (t : Fin cfg0.N) (σ : St sig (Elt F)) : Prop :=
  Scr c (t.val + 1) σ ∧ ∀ w, (cfg0.win w).isOut = true → P c w t (get ((cfg0.win w).stage (cfg0.slots t w)) σ)

variable (hloc : ∀ c t (σ σ' : St sig (Elt F)), (∀ b ∈ S0, σ' b = σ b) → Scr c t σ → Scr c t σ')
  (hstep : ∀ c t σ, Before m P Scr c t σ → st1 stH (argsAt t) (grid0.coords t) (After P Scr c t) σ)

/-- Owning a window's staging block with value `X` is owning its buffer with contents that read as `X`. -/
theorem owns_stage (c : Dev nD) (t : Fin cfg0.N) (w : Fin cfg0.W) (X : (cfg0.win w).block.Idx → Elt F (cfg0.win w).elt) :
    (owns (c.tc : Thread nD τ) ((cfg0.win w).stage (cfg0.slots t w)) fullShare X : sProp 𝕄)
      = iprop(∃ f : (stg t w).ty.Contents (Elt F), ⌜((cfg0.win w).stage (cfg0.slots t w)).view.read (Elt F) f = X⌝
          ∗ (((c.tc : Thread nD τ).loc (stg t w)) ↦{fullShare} f)) := by
  unfold owns
  rw [(stage_whole0 w (cfg0.slots t w)).set_eq_univ]
  rfl

/-- If an output window was not written back at the step before, a step finds in it a block of which the property of the step before holds. -/
theorem finds_out (c : Dev nD) (t : Fin cfg0.N) (w : Fin cfg0.W) (hw : (cfg0.win w).isOut = true)
    {X : (cfg0.win w).block.Idx → Elt F (cfg0.win w).elt} (hX : (rdat m P Scr c).Finds w t X) (h : t.val ≠ 0)
    (hf : (cfg0.win w).flush ⟨t.val - 1, Nat.lt_of_le_of_lt (Nat.sub_le _ _) t.isLt⟩ = false) :
    P c w ⟨t.val - 1, Nat.lt_of_le_of_lt (Nat.sub_le _ _) t.isLt⟩ X := by
  have hfe : (cfg0.win w).fetch t = false := by unfold Window.fetch; rw [hw]; rfl
  rcases ((rdat m P Scr c).finds_of_pos hfe h X).mp hX with h' | ⟨Y, -, hY⟩
  · rw [hf] at h'; exact Bool.noConfusion h'
  · have : (if (cfg0.win w).isOut then P c w _ X else X = Y) := hY
    rw [if_pos hw] at this; exact this

/-- A step finds in an input window its block of the array; `d` stands for what lies outside the array. -/
theorem finds_in (c : Dev nD) (t : Fin cfg0.N) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    {X : (cfg0.win w).block.Idx → Elt F (cfg0.win w).elt} (hX : (rdat m P Scr c).Finds w t X) :
    ∃ d, X = (cfg0.win w).fill (cfg0.grid.coords t) d (iblk m c w t) :=
  (rdat m P Scr c).finds_in_eq_fetched w hw hclip (fun t Y X h => by
    have : (if (cfg0.win w).isOut then P c w _ X else X = Y) := h
    rw [if_neg (by rw [hw]; exact Bool.false_ne_true)] at this; exact this) t X hX

/-- Steps with the same block index of an input window have the same clip of it. -/
theorem clip_eq : ∀ w : Fin 23, (cfg0.win w).isOut = false → ∀ t t' : Fin cfg0.N, (cfg0.win w).index t = (cfg0.win w).index t' →
      (cfg0.win w).clip (cfg0.grid.coords t) = (cfg0.win w).clip (cfg0.grid.coords t')
  | 0, _ => fun _ _ _ => rfl
  | 1, _ => fun _ _ _ => rfl
  | 2, _ => fun _ _ _ => rfl
  | 3, _ => fun _ _ _ => rfl
  | 4, _ => fun _ _ _ => rfl
  | 5, _ => fun _ _ _ => rfl
  | 6, _ => fun _ _ _ => rfl
  | ⟨n + 7, hn⟩, h => by
    exfalso; revert h; revert hn; revert n
    have : ∀ w : Fin 23, 7 ≤ w.val → (cfg0.win w).isOut = true := by decide
    intro n hn h
    rw [this _ (by simp)] at h; exact Bool.noConfusion h

include hloc hstep in
/-- One step meets the run's data. -/
theorem body (c : Dev nD) (𝒱₀ : Variants) : (rdat m P Scr c).BodyObligation defs₀ 𝒱₀ () Set.univ := by
  intro t Y hY
  have hrun : ∀ σ, Before m P Scr c t σ → fold stH (bodyAt0 t) (fun _ => After P Scr c t) σ := fun σ hb => by
    rw [step_eq]; exact hstep c t σ hb
  have hsafe : fold (safeH (okL (argsAt t)) (okS (argsAt t))) (bodyAt0 (F := F) t) fun _ => True := by
    rw [step_eq]; exact st1_safe _ _
  show iprop(scr Scr c t.val ∗ (rdat m P Scr c).owesAt () t.castSucc ∗ bigSep Finset.univ fun w : Fin cfg0.W =>
      owns (c.tc : Thread nD τ) ((cfg0.win w).stage (cfg0.slots t w)) fullShare (Y w))
    ⊢ wp frame (wpE defs₀ 𝒱₀ c none) Set.univ (bodyAt0 t) fun _ =>
      iprop(scr Scr c (t.val + 1) ∗ (rdat m P Scr c).owesAt () t.succ ∗ bigSep Finset.univ fun w : Fin cfg0.W =>
        iprop(∃ X, ⌜(rdat m P Scr c).after w t (Y w) X⌝ ∗ owns (c.tc : Thread nD τ) ((cfg0.win w).stage (cfg0.slots t w)) fullShare X))
  rw [show (bigSep Finset.univ fun w : Fin cfg0.W =>
      owns (c.tc : Thread nD τ) ((cfg0.win w).stage (cfg0.slots t w)) fullShare (Y w) : sProp 𝕄)
    = bigSep Finset.univ fun w : Fin cfg0.W => iprop(∃ f : (stg t w).ty.Contents (Elt F),
        ⌜((cfg0.win w).stage (cfg0.slots t w)).view.read (Elt F) f = Y w⌝ ∗ (((c.tc : Thread nD τ).loc (stg t w)) ↦{fullShare} f))
    from bigSep_congr fun w _ => owns_stage c t w (Y w)]
  unfold scr
  iintro ⟨⟨⟨%σ0, %hS, Hs⟩, Hp⟩, Ho, Hw⟩
  ihave H := (own_join c (stg t) (stg_inj t) (fun w f => ((cfg0.win w).stage (cfg0.slots t w)).view.read (Elt F) f = Y w) S0 σ0
    Finset.univ fun w _ => stg_not_mem t w) $$ [Hw Hs]
  · isplitl [Hw]
    · iexact Hw
    · iexact Hs
  icases H with ⟨%σ, %hσ, H⟩
  have hb : Before m P Scr c t σ :=
    { inp := fun w hw => by
        obtain ⟨d, hd⟩ := finds_in m P Scr c t w hw (clip_eq w hw) (hY w)
        exact ⟨d, (hσ.2 w (Finset.mem_univ w)).trans hd⟩
      out := fun w h hw hf => by
        have := finds_out m P Scr c t w hw (hY w) h hf
        rw [← hσ.2 w (Finset.mem_univ w)] at this; exact this
      scr := hloc c t.val σ0 σ hσ.1 hS }
  ihave H := (wp_fold (defs := defs₀) 𝒱₀ c none Set.univ (S := S0 ∪ Finset.univ.image (stg t)) (all_mem t)
    (fun b hb => all_mem t b (okL_of_okS _ hb)) (bodyAt0 t) (fun _ => After P Scr c t) σ hsafe (hrun σ hb)) $$ H
  have hpost : ∀ a : PUnit, iprop(((∃ σ' : St sig (Elt F), ⌜After P Scr c t σ' ∧ ∀ b, ¬ okS (argsAt t) b → σ' b = σ b⌝
        ∗ own c (S0 ∪ Finset.univ.image (stg t)) σ') ∗ (∃ r, prngReg c r)) ∗ (rdat m P Scr c).owesAt () t.castSucc)
      ⊢ (iprop(((∃ σ : St sig (Elt F), ⌜Scr c (t.val + 1) σ⌝ ∗ own c S0 σ) ∗ ∃ r, prngReg c r) ∗ (rdat m P Scr c).owesAt () t.succ
        ∗ bigSep Finset.univ fun w : Fin cfg0.W =>
          iprop(∃ X, ⌜(rdat m P Scr c).after w t (Y w) X⌝ ∗ owns (c.tc : Thread nD τ) ((cfg0.win w).stage (cfg0.slots t w)) fullShare X)) : sProp 𝕄) := by
    intro a
    iintro ⟨⟨⟨%σ', %h, H⟩, Hp⟩, Ho⟩
    have hwin : ∀ w, (rdat m P Scr c).after w t (Y w) (get ((cfg0.win w).stage (cfg0.slots t w)) σ') := fun w => by
      show if (cfg0.win w).isOut then P c w t _ else _ = Y w
      split
      · exact h.1.2 w ‹_›
      · rename_i hw
        rw [← hσ.2 w (Finset.mem_univ w)]
        show get _ σ' = get _ σ
        unfold _root_.Spin.get
        rw [show σ' ((cfg0.win w).stage (cfg0.slots t w)).view.ref = σ ((cfg0.win w).stage (cfg0.slots t w)).view.ref from
          h.2 (stg t w) (in_not_okS t w (by simpa using hw))]
    have hsp : (own c (S0 ∪ Finset.univ.image (stg t)) σ' : sProp 𝕄)
        ⊢ iprop((bigSep Finset.univ fun w : Fin cfg0.W =>
          iprop(∃ X, ⌜(rdat m P Scr c).after w t (Y w) X⌝ ∗ owns (c.tc : Thread nD τ) ((cfg0.win w).stage (cfg0.slots t w)) fullShare X))
          ∗ own c S0 σ') := by
      rw [own_split c (stg t) (stg_inj t) S0 σ' Finset.univ fun w _ => stg_not_mem t w]
      have e1 : ∀ w : Fin cfg0.W, ((((c.tc : Thread nD τ).loc (stg t w)) ↦{fullShare} σ' (stg t w)) : sProp 𝕄)
          ⊢ iprop(∃ X, ⌜(rdat m P Scr c).after w t (Y w) X⌝ ∗ owns (c.tc : Thread nD τ) ((cfg0.win w).stage (cfg0.slots t w)) fullShare X) := by
        intro w
        iintro H
        iexists (get ((cfg0.win w).stage (cfg0.slots t w)) σ')
        isplitr
        · ipureintro; exact hwin w
        · rw [owns_stage]
          iexists (σ' (stg t w))
          isplitr
          · ipureintro; rfl
          · iexact H
      exact sep_mono (bigSep_mono fun w _ => e1 w) .rfl
    ihave H2 := hsp $$ H
    icases H2 with ⟨Hw, Hs⟩
    isplitl [Hs Hp]
    · isplitl [Hs]
      · iexists σ'
        isplitr
        · ipureintro; exact h.1.1
        · iexact Hs
      · iexact Hp
    · isplitl [Ho]
      · iexact Ho
      · iexact Hw
  iapply (wp_mono _ _ _ hpost)
  iapply (wp_frame_r _ _ _)
  isplitr [Ho]
  · iapply (wp_frame_r _ _ _)
    isplitr [Hp]
    · iexact H
    · iexact Hp
  · iexact Ho

/-- The scratch at any contents is a memory. -/
theorem scr_of_rest (c : Dev nD) (h0 : ∀ σ, Scr c 0 σ) : (Pipeline.ΦA (U := UR sig nD τ) (Val := Elt F) spec0 c : sProp 𝕄) ⊢ scr Scr c 0 := by
  unfold Pipeline.ΦA scr
  refine sep_mono ?_ .rfl
  have hj := own_join (Ix := Unit) (Name := ℕ) (U := UR sig nD τ) (Lvl := ℕ) (Val := Elt F) (nD := nD) (τ := τ) c
    (fun b : Ref sig .tc => b) (fun _ _ h => h) (fun _ _ => True) ∅ (fun b i => Classical.arbitrary _) S0 (fun _ _ => Finset.notMem_empty _)
  rw [Finset.image_id', Finset.empty_union] at hj
  have he : (iprop(emp) : sProp 𝕄) = own c ∅ (fun b i => Classical.arbitrary _ : St sig (Elt F)) := (bigSep_empty).symm
  rw [← he] at hj
  have e1 : (Pipeline.scopedRest (Ix := Unit) (Name := ℕ) (U := UR sig nD τ) (Lvl := ℕ) (Val := Elt F) spec0 c : sProp 𝕄)
      ⊢ bigSep S0 fun b => iprop(∃ f : b.ty.Contents (Elt F), ⌜True⌝ ∗ (((c.tc : Thread nD τ).loc b) ↦{fullShare} f)) := by
    unfold Pipeline.scopedRest S0
    have e0 : ∀ b : Ref sig .tc, (iprop(∃ f, ((c.tc : Thread nD τ).loc b) ↦{fullShare} f) : sProp 𝕄)
        ⊢ iprop(∃ f : b.ty.Contents (Elt F), ⌜True⌝ ∗ (((c.tc : Thread nD τ).loc b) ↦{fullShare} f)) := by
      intro b
      iintro ⟨%f, H⟩
      iexists f
      isplitr
      · ipureintro; trivial
      · iexact H
    exact bigSep_mono fun b _ => e0 b
  refine e1.trans ((emp_sep.2.trans sep_comm).trans (hj.trans ?_))
  iintro ⟨%σ, -, H⟩
  iexists σ
  isplitr
  · ipureintro; exact h0 σ
  · iexact H

/-- And back. -/
theorem rest_of_scr (c : Dev nD) (t : Nat) : scr Scr c t ⊢ (Pipeline.ΦA (U := UR sig nD τ) (Val := Elt F) spec0 c : sProp 𝕄) := by
  unfold Pipeline.ΦA scr
  refine sep_mono ?_ .rfl
  iintro ⟨%σ, -, H⟩
  have e1 : (own c S0 σ : sProp 𝕄) ⊢ Pipeline.scopedRest (Ix := Unit) (Name := ℕ) (U := UR sig nD τ) (Lvl := ℕ) (Val := Elt F) spec0 c := by
    unfold Pipeline.scopedRest _root_.Spin.own S0
    have e0 : ∀ b : Ref sig .tc, ((((c.tc : Thread nD τ).loc b) ↦{fullShare} σ b) : sProp 𝕄)
        ⊢ iprop(∃ f, ((c.tc : Thread nD τ).loc b) ↦{fullShare} f) := by
      intro b
      iintro H
      iexists (σ b)
      iexact H
    exact bigSep_mono fun b _ => e0 b
  iapply e1
  iexact H

variable (h0 : ∀ c σ, Scr c 0 σ)

include hloc hstep h0 in
/-- The run: each result's array is made of blocks that meet `P`, the arguments are as they were. -/
theorem run_post : θ_run defs (onTc (τ := τ) (main (F := F))) ⟨m, fun _ => 0, ρ⟩
    (fun r => RDat.FramePost cfg0 (rdat m P Scr) (V m) r ∧ r.2.sem = fun _ => 0) :=
  RDat.θ_run_frame_track cfgs 0 launch0 defs₀ .none (rdat m P Scr) m ρ main (fun c => body m P Scr hloc hstep c .none)
    (fun c w => RDat.share_full _ (fun _ => rfl) w) (fun _ _ => rfl) (V m) (hmain m .none) (fun _ _ => rfl)
    (fun c => scr_of_rest Scr c (h0 c)) (fun c => rest_of_scr Scr c _) _ (fun _ h => h)

/-- The arguments after the run. -/
theorem post_args {r : PUnit × MemSt nD τ sig (Elt F)} (h : RDat.FramePost cfg0 (rdat m P Scr) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    (h.arr_in c 1 rfl).trans (V_main_arg1 m c),
    ((h c).2 main_arg2 (Pipeline.mem_restRefs_of main_arg2 (by decide) (by decide))).trans (V_main_arg2 m c),
    (h.arr_in c 3 rfl).trans (V_main_arg3 m c), (h.arr_in c 4 rfl).trans (V_main_arg4 m c),
    (h.arr_in c 5 rfl).trans (V_main_arg5 m c), (h.arr_in c 6 rfl).trans (V_main_arg6 m c)⟩

end Cert.Kernel.Spin

end
-- ==== Proof.AsPrinted.FrameRun.lean ====
/-
  The kernel's frame: it runs, its arguments are as they were, its semaphores at zero.
-/
module

public import proofs.«01_k».proof.Proof.AsPrinted.Pipe

@[expose] public section

noncomputable section

namespace Cert.Kernel.Spin

open Idealize.ShloMosaic Idealize.ShloMosaic.TcCoe Idealize.SL.Sem
open Idealize.ShloMosaic.Pipeline (RDat)
open Cert.Kernel.Gen _root_.Spin

variable {F : FTy → Type} [FloatOps F] (m : (ℓ : Loc nD τ sig) → Buf (Elt F) ℓ) (ρ : Dev nD → PrngReg)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => post_args m _ _ h.1 c, h.2⟩)
    (run_post m ρ (fun _ _ _ _ => True) (fun _ _ _ => True) (fun _ _ _ _ _ _ => trivial)
      (fun c t σ _ => by
        have h := fold_true (bodyAt0 (F := F) t) σ
        rw [step_eq] at h
        have e : (After (F := F) (fun _ _ _ _ => True) (fun _ _ _ => True) c t) = fun _ => True := by
          funext σ; exact eq_true ⟨trivial, fun _ _ => trivial⟩
        rw [e]; exact h) (fun _ _ => trivial))

end Cert.Kernel.Spin

end
-- ==== Proof.Mem.lean ====
/-
  Loads and stores of unit rectangles, at an index.
-/
module

public import proofs.«01_k».proof.Proof.Run
public import Idealize.ShloMosaic.Lib.Pointwise

@[expose] public section

noncomputable section

namespace Spin

open Idealize.ShloMosaic

variable {sig : RefSig} {Val : EltTy → Type} {cs : CoreSpace} {e : EltTy}

/-- In-bounds evidence of a rectangle of rank two. -/
abbrev In2 (A B a b x y : Nat) : Prop :=
  ∀ k : Fin 2, (![x, y] : Fin 2 → Nat) k + (⟨2, ![a, b]⟩ : Shape).size k ≤ (⟨2, ![A, B]⟩ : Shape).size k

/-- In-bounds evidence of a rectangle of rank three. -/
abbrev In3 (A B C a b c x y z : Nat) : Prop :=
  ∀ k : Fin 3, (![x, y, z] : Fin 3 → Nat) k + (⟨3, ![a, b, c]⟩ : Shape).size k ≤ (⟨3, ![A, B, C]⟩ : Shape).size k

/-- The first coordinate of the access stays in bounds. -/
theorem In2.l {A B a b x y : Nat} (h : In2 A B a b x y) : x + a ≤ A := h 0
/-- The second coordinate of the access stays in bounds. -/
theorem In2.r {A B a b x y : Nat} (h : In2 A B a b x y) : y + b ≤ B := h 1
/-- The first coordinate of the access stays in bounds. -/
theorem In3.l {A B C a b c x y z : Nat} (h : In3 A B C a b c x y z) : x + a ≤ A := h 0
/-- The second coordinate of the access stays in bounds. -/
theorem In3.m {A B C a b c x y z : Nat} (h : In3 A B C a b c x y z) : y + b ≤ B := h 1
/-- The third coordinate of the access stays in bounds. -/
theorem In3.r {A B C a b c x y z : Nat} (h : In3 A B C a b c x y z) : z + c ≤ C := h 2

/-- Place `(i, j)` of an access at `(x, y)` is place `(x + i, y + j)` of the buffer. -/
theorem idx2 {A B a b x y : Nat} (h : In2 A B a b x y) (i : Fin a) (j : Fin b) :
    (Rect.unit (s := ⟨2, ![A, B]⟩) ![x, y] (⟨2, ![a, b]⟩ : Shape).size h).toLoadRect.idx (ix2 i j)
      = ix2 ⟨x + i, by have := h.l; omega⟩ ⟨y + j, by have := h.r; omega⟩ := by
  funext k
  match k with
  | ⟨0, _⟩ => apply Fin.ext; show x + 1 * i.val = x + i; omega
  | ⟨1, _⟩ => apply Fin.ext; show y + 1 * j.val = y + j; omega

/-- Place `(i, j, k)` of an access at `(x, y, z)` is place `(x + i, y + j, z + k)` of the buffer. -/
theorem idx3 {A B C a b c x y z : Nat} (h : In3 A B C a b c x y z) (i : Fin a) (j : Fin b) (k : Fin c) :
    (Rect.unit (s := ⟨3, ![A, B, C]⟩) ![x, y, z] (⟨3, ![a, b, c]⟩ : Shape).size h).toLoadRect.idx (ix3 i j k)
      = ix3 ⟨x + i, by have := h.l; omega⟩ ⟨y + j, by have := h.m; omega⟩ ⟨z + k, by have := h.r; omega⟩ := by
  funext l
  match l with
  | ⟨0, _⟩ => apply Fin.ext; show x + 1 * i.val = x + i; omega
  | ⟨1, _⟩ => apply Fin.ext; show y + 1 * j.val = y + j; omega
  | ⟨2, _⟩ => apply Fin.ext; show z + 1 * k.val = z + k; omega

/-- What a store leaves at an index of rank two. -/
theorem get_put2 {A B a b x y : Nat} (m : Memref sig .tc cs ⟨2, ![A, B]⟩ e) (h : In2 A B a b x y)
    (w : (⟨2, ![a, b]⟩ : Shape).Idx → Val e) (σ : St sig Val) (r : Fin A) (d : Fin B) :
    get m (put m (Rect.unit (s := ⟨2, ![A, B]⟩) ![x, y] (⟨2, ![a, b]⟩ : Shape).size h) w Finset.univ σ) (ix2 r d)
      = if H : (x ≤ r.val ∧ r.val < x + a) ∧ (y ≤ d.val ∧ d.val < y + b) then
          w (ix2 ⟨r - x, by omega⟩ ⟨d - y, by omega⟩)
        else get m σ (ix2 r d) := by
  split
  · rename_i H
    have e : (ix2 r d : (⟨2, ![A, B]⟩ : Shape).Idx)
        = (Rect.unit (s := ⟨2, ![A, B]⟩) ![x, y] (⟨2, ![a, b]⟩ : Shape).size h).emb (ix2 ⟨r - x, by omega⟩ ⟨d - y, by omega⟩) := by
      refine Eq.trans ?_ (idx2 h ⟨r - x, by omega⟩ ⟨d - y, by omega⟩).symm
      congr 1 <;> apply Fin.ext <;> simp <;> omega
    rw [e]
    exact get_put_emb m (Rect.unit (s := ⟨2, ![A, B]⟩) ![x, y] (⟨2, ![a, b]⟩ : Shape).size h) w σ _
  · rename_i H
    refine get_put_of_not_mem m (Rect.unit (s := ⟨2, ![A, B]⟩) ![x, y] (⟨2, ![a, b]⟩ : Shape).size h) w σ fun hm => H ?_
    obtain ⟨q, -, hq⟩ := Finset.mem_map.mp hm
    have h0 : (x + 1 * (q 0).val) = r.val := congrArg Fin.val (congrFun hq 0)
    have h1 : (y + 1 * (q 1).val) = d.val := congrArg Fin.val (congrFun hq 1)
    have l0 : (q 0).val < a := (q 0).isLt
    have l1 : (q 1).val < b := (q 1).isLt
    omega

/-- What a store leaves at an index of rank three. -/
theorem get_put3 {A B C a b c x y z : Nat} (m : Memref sig .tc cs ⟨3, ![A, B, C]⟩ e) (h : In3 A B C a b c x y z)
    (w : (⟨3, ![a, b, c]⟩ : Shape).Idx → Val e) (σ : St sig Val) (r : Fin A) (d : Fin B) (f : Fin C) :
    get m (put m (Rect.unit (s := ⟨3, ![A, B, C]⟩) ![x, y, z] (⟨3, ![a, b, c]⟩ : Shape).size h) w Finset.univ σ) (ix3 r d f)
      = if H : (x ≤ r.val ∧ r.val < x + a) ∧ (y ≤ d.val ∧ d.val < y + b) ∧ (z ≤ f.val ∧ f.val < z + c) then
          w (ix3 ⟨r - x, by omega⟩ ⟨d - y, by omega⟩ ⟨f - z, by omega⟩)
        else get m σ (ix3 r d f) := by
  split
  · rename_i H
    have e : (ix3 r d f : (⟨3, ![A, B, C]⟩ : Shape).Idx)
        = (Rect.unit (s := ⟨3, ![A, B, C]⟩) ![x, y, z] (⟨3, ![a, b, c]⟩ : Shape).size h).emb
            (ix3 ⟨r - x, by omega⟩ ⟨d - y, by omega⟩ ⟨f - z, by omega⟩) := by
      refine Eq.trans ?_ (idx3 h ⟨r - x, by omega⟩ ⟨d - y, by omega⟩ ⟨f - z, by omega⟩).symm
      congr 1 <;> apply Fin.ext <;> simp <;> omega
    rw [e]
    exact get_put_emb m (Rect.unit (s := ⟨3, ![A, B, C]⟩) ![x, y, z] (⟨3, ![a, b, c]⟩ : Shape).size h) w σ _
  · rename_i H
    refine get_put_of_not_mem m (Rect.unit (s := ⟨3, ![A, B, C]⟩) ![x, y, z] (⟨3, ![a, b, c]⟩ : Shape).size h) w σ fun hm => H ?_
    obtain ⟨q, -, hq⟩ := Finset.mem_map.mp hm
    have h0 : (x + 1 * (q 0).val) = r.val := congrArg Fin.val (congrFun hq 0)
    have h1 : (y + 1 * (q 1).val) = d.val := congrArg Fin.val (congrFun hq 1)
    have h2 : (z + 1 * (q 2).val) = f.val := congrArg Fin.val (congrFun hq 2)
    have l0 : (q 0).val < a := (q 0).isLt
    have l1 : (q 1).val < b := (q 1).isLt
    have l2 : (q 2).val < c := (q 2).isLt
    omega

/-- A load of rank two at an index. -/
theorem ld2 {A B a b x y : Nat} (m : Memref sig .tc cs ⟨2, ![A, B]⟩ e) (h : In2 A B a b x y) (σ : St sig Val) (i : Fin a) (j : Fin b)
    {i' : Fin A} {j' : Fin B} (hi : i'.val = x + i.val) (hj : j'.val = y + j.val) :
    get m σ ((Rect.unit (s := ⟨2, ![A, B]⟩) ![x, y] (⟨2, ![a, b]⟩ : Shape).size h).toLoadRect.idx (ix2 i j)) = get m σ (ix2 i' j') := by
  rw [idx2]; congr 2 <;> apply Fin.ext <;> simp [hi, hj]

/-- A load of rank three at an index. -/
theorem ld3 {A B C a b c x y z : Nat} (m : Memref sig .tc cs ⟨3, ![A, B, C]⟩ e) (h : In3 A B C a b c x y z) (σ : St sig Val)
    (i : Fin a) (j : Fin b) (k : Fin c) {i' : Fin A} {j' : Fin B} {k' : Fin C} (hi : i'.val = x + i.val) (hj : j'.val = y + j.val)
    (hk : k'.val = z + k.val) :
    get m σ ((Rect.unit (s := ⟨3, ![A, B, C]⟩) ![x, y, z] (⟨3, ![a, b, c]⟩ : Shape).size h).toLoadRect.idx (ix3 i j k)) = get m σ (ix3 i' j' k') := by
  rw [idx3]; congr 2 <;> apply Fin.ext <;> simp [hi, hj, hk]

/-- A store seen inside. -/
theorem put2_in {A B a b x y : Nat} (m : Memref sig .tc cs ⟨2, ![A, B]⟩ e) (h : In2 A B a b x y)
    (w : (⟨2, ![a, b]⟩ : Shape).Idx → Val e) (σ : St sig Val) (r : Fin A) (d : Fin B) (i : Fin a) (j : Fin b)
    (hi : r.val = x + i.val) (hj : d.val = y + j.val) :
    get m (put m (Rect.unit (s := ⟨2, ![A, B]⟩) ![x, y] (⟨2, ![a, b]⟩ : Shape).size h) w Finset.univ σ) (ix2 r d) = w (ix2 i j) := by
  rw [get_put2, dif_pos (by omega)]; congr 2 <;> apply Fin.ext <;> simp [hi, hj]

/-- A store of rank three seen inside. -/
theorem put3_in {A B C a b c x y z : Nat} (m : Memref sig .tc cs ⟨3, ![A, B, C]⟩ e) (h : In3 A B C a b c x y z)
    (w : (⟨3, ![a, b, c]⟩ : Shape).Idx → Val e) (σ : St sig Val) (r : Fin A) (d : Fin B) (f : Fin C) (i : Fin a) (j : Fin b) (k : Fin c)
    (hi : r.val = x + i.val) (hj : d.val = y + j.val) (hk : f.val = z + k.val) :
    get m (put m (Rect.unit (s := ⟨3, ![A, B, C]⟩) ![x, y, z] (⟨3, ![a, b, c]⟩ : Shape).size h) w Finset.univ σ) (ix3 r d f) = w (ix3 i j k) := by
  rw [get_put3, dif_pos (by omega)]; congr 2 <;> apply Fin.ext <;> simp [hi, hj, hk]

/-- What a memref reads depends on its own buffer alone. -/
theorem get_congr {s : Shape} (m : Memref sig .tc cs s e) {σ σ' : St sig Val} (h : σ' m.view.ref = σ m.view.ref) :
    get m σ' = get m σ := by unfold get; rw [h]

/-- A store leaves every other buffer alone. -/
theorem put_other {s : Shape} (m : Memref sig .tc cs s e) (r : Rect s) (w : r.shape.Idx → Val e) (M : Finset r.shape.Idx)
    (σ : St sig Val) {b : Ref sig .tc} (h : b ≠ m.view.ref) : put m r w M σ b = σ b := by
  unfold put; exact Function.update_of_ne h _ _

end Spin

end
-- ==== Proof.Spec.lean ====
/-
  The results as functions of the arguments over the extended reals, and the few facts of arithmetic by
  which the two programs agree.
-/
module

public import Idealize.ShloMosaic.Lib.Pointwise
public import Idealize.ShloMosaic.Lib.IdealHost

@[expose] public section

noncomputable section

namespace Spin

open Idealize.ShloMosaic
open scoped BigOperators

/-- The constants: the largest codes, their negatives, the number of residuals, two over it, the decay, a half,
the offset of the norm. -/
abbrev c127 : EReal := Ideal.ofBits .f32 1123942400#32
abbrev n127 : EReal := Ideal.ofBits .f32 3271426048#32
abbrev c7 : EReal := Ideal.ofBits .f32 1088421888#32
abbrev n7 : EReal := Ideal.ofBits .f32 3235905536#32
abbrev cN : EReal := Ideal.ofBits .f32 1234173952#32
abbrev cG : EReal := Ideal.ofBits .f32 904105529#32
abbrev cM : EReal := Ideal.ofBits .f32 1063675494#32
abbrev cH : EReal := Ideal.ofBits .f32 1056964608#32
abbrev cE : EReal := Ideal.ofBits .f32 841731191#32
abbrev cBot : EReal := Ideal.ofBits .f32 4286578688#32

/-- The arguments. -/
structure D where
  x : Fin 256 → Fin 3584 → EReal
  w : Fin 4608 → Fin 3584 → EReal
  y : Fin 256 → Fin 4608 → EReal
  r : Fin 28 → Fin 128 → Fin 128 → EReal
  mc : Fin 28 → Fin 128 → Fin 128 → BitVec 8
  ms : Fin 28 → Fin 128 → EReal
  lr : Fin 28 → EReal

/-- Position `i` of block `h`. -/
def bk (h : Fin 28) (i : Fin 128) : Fin 3584 := ⟨h.val * 128 + i.val, by omega⟩
/-- The block of a position. -/
def hi (d : Fin 3584) : Fin 28 := ⟨d.val / 128, by omega⟩
/-- The place in it. -/
def lo (d : Fin 3584) : Fin 128 := ⟨d.val % 128, by omega⟩

/-- A row rotated block by block. -/
def rotv (r : Fin 28 → Fin 128 → Fin 128 → EReal) (v : Fin 3584 → EReal) (d : Fin 3584) : EReal :=
  ∑ k : Fin 128, v (bk (hi d) k) * r (hi d) k (lo d)

/-- The largest magnitude. -/
def amax {n : Nat} (v : Fin n → EReal) : EReal :=
  Finset.fold max cBot (fun x => FloatOps.absf (F := Ideal) (φ := .f32) (v x)) Finset.univ

/-- The scale from the largest magnitude. -/
def scq (q a : EReal) : EReal := if a = 0 then 1 else Ideal.div a q

/-- A code before the conversion. -/
def cod (l h s v : EReal) : EReal := min h (max l (Ideal.liftRound Ideal.roundHalfEven (Ideal.div v s)))

namespace D
variable (A : D)

def xr (s : Fin 256) : Fin 3584 → EReal := rotv A.r (A.x s)
def wr (n : Fin 4608) : Fin 3584 → EReal := rotv A.r (A.w n)
def sx (s : Fin 256) : EReal := scq c127 (amax (A.xr s))
def sw (n : Fin 4608) : EReal := scq c7 (amax (A.wr n))
def cx (s : Fin 256) (d : Fin 3584) : EReal := cod n127 c127 (A.sx s) (A.xr s d)
def cw (n : Fin 4608) (d : Fin 3584) : EReal := cod n7 c7 (A.sw n) (A.wr n d)
def er (n : Fin 4608) : EReal :=
  ∑ d, (A.wr n d - A.sw n * A.cw n d) * (A.wr n d - A.sw n * A.cw n d)
def e (s : Fin 256) (n : Fin 4608) : EReal := (∑ d, A.cx s d * A.cw n d) * A.sx s * A.sw n - A.y s n
def loss : EReal := Ideal.div (∑ s, ∑ n, A.e s n * A.e s n) cN
def pp (s : Fin 256) (d : Fin 3584) : EReal := ∑ n, A.e s n * A.sw n * A.cw n d
def qq (n : Fin 4608) (d : Fin 3584) : EReal := ∑ s, A.e s n * A.sx s * A.cx s d
/-- The weights' part of the gradient. -/
def gw (h : Fin 28) (i j : Fin 128) : EReal := ∑ n, A.w n (bk h i) * A.qq n (bk h j)
def gr (h : Fin 28) (i j : Fin 128) : EReal :=
  cG * ((∑ s, A.x s (bk h i) * A.pp s (bk h j)) + A.gw h i j)
def mb (h : Fin 28) (i j : Fin 128) : EReal :=
  cM * (FloatOps.sitofp (F := Ideal) .f32 (A.mc h i j) * A.ms h i) + A.gr h i j
def t1 (h : Fin 28) (i j : Fin 128) : EReal := ∑ k, A.mb h i k * A.r h j k
def wt (h : Fin 28) (i j : Fin 128) : EReal :=
  A.t1 h i j - cH * ∑ k, A.r h i k * ∑ l, A.r h l k * A.t1 h l j
def sk (h : Fin 28) (i j : Fin 128) : EReal := A.wt h i j - A.wt h j i
def na (h : Fin 28) : EReal := Ideal.sqrt (∑ i, ∑ j, A.sk h i j * A.sk h i j)
def am (h : Fin 28) : EReal := Ideal.div cH (A.na h + cE)
def al (h : Fin 28) : EReal := min (A.lr h) (A.am h)
def mn (h : Fin 28) (i j : Fin 128) : EReal := ∑ k, A.sk h i k * A.r h k j
def c1 (h : Fin 28) (i j : Fin 128) : EReal := ∑ k, A.sk h i k * A.mb h k j
def d1 (h : Fin 28) (i j : Fin 128) : EReal :=
  (0 - A.al h) * A.mn h i j + cH * A.al h * A.al h * A.c1 h i j
def c2 (h : Fin 28) (i j : Fin 128) : EReal := ∑ k, A.sk h i k * A.d1 h k j
def st (h : Fin 28) (i j : Fin 128) : EReal := (0 - A.al h) * A.mn h i j - cH * A.al h * A.c2 h i j
def rn (h : Fin 28) (i j : Fin 128) : EReal := A.r h i j + A.st h i j
def sm (h : Fin 28) (i : Fin 128) : EReal := scq c127 (amax (A.mn h i))
def cm (h : Fin 28) (i j : Fin 128) : EReal := cod n127 c127 (A.sm h i) (A.mn h i j)

end D

/-! ## Constants -/

/-- The constant is 127. -/
theorem c127_eq : c127 = ((127 : ℝ) : EReal) := by
  simp [c127, Ideal.ofBits, Ideal.ieee, -EReal.coe_mul]; norm_num
/-- The constant is -127. -/
theorem n127_eq : n127 = ((-127 : ℝ) : EReal) := by
  simp [n127, Ideal.ofBits, Ideal.ieee, -EReal.coe_mul, -EReal.coe_neg]; norm_num
/-- The constant is 7. -/
theorem c7_eq : c7 = ((7 : ℝ) : EReal) := by
  simp [c7, Ideal.ofBits, Ideal.ieee, -EReal.coe_mul]; norm_num
/-- The constant is -7. -/
theorem n7_eq : n7 = ((-7 : ℝ) : EReal) := by
  simp [n7, Ideal.ofBits, Ideal.ieee, -EReal.coe_mul, -EReal.coe_neg]; norm_num
/-- The constant is the least extended real. -/
theorem cBot_eq : cBot = ⊥ := by
  simp [cBot, Ideal.ofBits, Ideal.ieee]

/-! ## Codes -/

/-- An integer from -127 to 127 comes back from its eight bits. -/
theorem sitofp_fptosi_int (φ : FTy) (z : ℤ) (h1 : -127 ≤ z) (h2 : z ≤ 127) :
    FloatOps.sitofp (F := Ideal) φ (FloatOps.fptosi (F := Ideal) (φ := .f32) 8 ((z : ℝ) : EReal)) = ((z : ℝ) : EReal) := by
  show (((BitVec.ofInt 8 (Ideal.toIntClamped _ _ ((z : ℝ) : EReal))).toInt : ℝ) : EReal) = _
  have e : Ideal.toIntClamped (-((2 ^ (8 - 1) : Nat) : ℤ)) (((2 ^ (8 - 1) : Nat) : ℤ) - 1) ((z : ℝ) : EReal) = z := by
    show max _ (min _ (if (0 : ℝ) ≤ (z : ℝ) then ⌊(z : ℝ)⌋ else ⌈(z : ℝ)⌉)) = z
    rw [Int.floor_intCast, Int.ceil_intCast, ite_self]
    norm_num
    omega
  rw [e, BitVec.toInt_ofInt]
  clear e
  have hb : z.bmod (2 ^ 8) = z := by
    show (if z % (256 : ℤ) < ((256 : ℤ) + 1) / 2 then z % (256 : ℤ) else z % (256 : ℤ) - (256 : ℤ)) = z
    split <;> omega
  rw [hb]

/-- A code is an integer between its bounds. -/
theorem cod_int {l h : EReal} {a b : ℤ} (hl : l = ((a : ℝ) : EReal)) (hh : h = ((b : ℝ) : EReal)) (hab : a ≤ b) (s v : EReal) :
    ∃ z : ℤ, a ≤ z ∧ z ≤ b ∧ cod l h s v = ((z : ℝ) : EReal) := by
  subst hl hh
  unfold cod
  generalize Ideal.div v s = u
  induction u with
  | bot => exact ⟨a, le_refl _, hab, by simp; exact_mod_cast hab⟩
  | top => exact ⟨b, hab, le_refl _, by simp⟩
  | coe r =>
    refine ⟨min b (max a (Ideal.roundHalfEven r)), by omega, by omega, ?_⟩
    rw [Ideal.liftRound_coe]
    have hm : Monotone (fun z : ℤ => ((z : ℝ) : EReal)) := fun x y h => by
      show ((x : ℝ) : EReal) ≤ ((y : ℝ) : EReal)
      exact_mod_cast h
    exact (congrArg (min _) (hm.map_max (a := a)).symm).trans (hm.map_min (a := b)).symm

/-- A code between -127 and 127 comes back from its eight bits. -/
theorem cod127_round (φ : FTy) (s v : EReal) :
    FloatOps.sitofp (F := Ideal) φ (FloatOps.fptosi (F := Ideal) (φ := .f32) 8 (cod n127 c127 s v)) = cod n127 c127 s v := by
  obtain ⟨z, h1, h2, e⟩ := cod_int (l := n127) (h := c127) (a := -127) (b := 127) (by refine n127_eq.trans ?_; norm_num) (by refine c127_eq.trans ?_; norm_num) (by norm_num) s v
  rw [e]; exact sitofp_fptosi_int φ z h1 h2

/-- A code between -7 and 7 comes back from its eight bits. -/
theorem cod7_round (φ : FTy) (s v : EReal) :
    FloatOps.sitofp (F := Ideal) φ (FloatOps.fptosi (F := Ideal) (φ := .f32) 8 (cod n7 c7 s v)) = cod n7 c7 s v := by
  obtain ⟨z, h1, h2, e⟩ := cod_int (l := n7) (h := c7) (a := -7) (b := 7) (by refine n7_eq.trans ?_; norm_num) (by refine c7_eq.trans ?_; norm_num) (by norm_num) s v
  rw [e]; exact sitofp_fptosi_int φ z (by omega) (by omega)

/-! ## Largest magnitudes -/

/-- The largest magnitude is at most `u` exactly if every magnitude is. -/
theorem amax_le {n : Nat} (v : Fin n → EReal) (u : EReal) :
    amax v ≤ u ↔ ∀ x, FloatOps.absf (F := Ideal) (φ := .f32) (v x) ≤ u := by
  unfold amax
  rw [Finset.fold_max_le]
  simp [cBot_eq]

/-- A magnitude is not negative. -/
theorem absf_nonneg (v : EReal) : 0 ≤ FloatOps.absf (F := Ideal) (φ := .f32) v := by
  show (0 : EReal) ≤ max v (-v)
  rcases le_total 0 v with h | h
  · exact h.trans (le_max_left _ _)
  · exact (EReal.neg_nonneg.mpr h).trans (le_max_right _ _)

/-- The largest of 128 running magnitudes, started at zero, is the largest magnitude. -/
theorem amax_lanes (v : Fin 3584 → EReal) (a : Fin 128 → EReal)
    (h : ∀ l u, a l ≤ u ↔ 0 ≤ u ∧ ∀ d : Fin 3584, lo d = l → FloatOps.absf (F := Ideal) (φ := .f32) (v d) ≤ u) :
    Finset.fold max cBot a Finset.univ = amax v := by
  refine eq_of_forall_ge_iff fun u => ?_
  rw [amax_le, Finset.fold_max_le]
  constructor
  · intro H d; exact ((h (lo d) u).mp (H.2 _ (Finset.mem_univ _))).2 d rfl
  · intro H
    refine ⟨by simp [cBot_eq], fun l _ => (h l u).mpr ⟨?_, fun d _ => H d⟩⟩
    exact (absf_nonneg _).trans (H ⟨0, by omega⟩)

/-! ## Sums -/

/-- The first `p` summands. -/
def pre {B : Nat} (p : Nat) (f : Fin B → EReal) : EReal := ∑ b with b.val < p, f b

/-- The sum of the first zero summands is zero. -/
theorem pre_zero {B : Nat} (f : Fin B → EReal) : pre 0 f = 0 := by simp [pre]

/-- The sum of one summand more. -/
theorem pre_succ {B : Nat} (p : Nat) (hp : p < B) (f : Fin B → EReal) : pre (p + 1) f = pre p f + f ⟨p, hp⟩ := by
  unfold pre
  have : (Finset.univ.filter fun b : Fin B => b.val < p + 1) = insert ⟨p, hp⟩ (Finset.univ.filter fun b : Fin B => b.val < p) := by
    ext b; simp [Fin.ext_iff]; omega
  rw [this, Finset.sum_insert (by simp), add_comm]

/-- The sum of the first `p` summands is the whole sum if there are no more than `p`. -/
theorem pre_all {B : Nat} (p : Nat) (hp : B ≤ p) (f : Fin B → EReal) : pre p f = ∑ b, f b := by
  unfold pre
  rw [Finset.filter_true_of_mem fun b _ => lt_of_lt_of_le b.isLt hp]

/-- A sum by blocks. -/
theorem sum_blocks (B K : Nat) {N : Nat} (hN : N = B * K) (f : Fin N → EReal) :
    ∑ b : Fin B, ∑ k : Fin K, f ⟨b.val * K + k.val, by
      subst hN
      have h1 : b.val * K + k.val < b.val * K + K := by omega
      have h2 : (b.val + 1) * K ≤ B * K := Nat.mul_le_mul_right _ b.isLt
      rw [Nat.add_mul, Nat.one_mul] at h2; omega⟩ = ∑ n, f n := by
  subst hN
  rw [← Fintype.sum_prod_type']
  refine Fintype.sum_equiv finProdFinEquiv _ _ fun x => ?_
  congr 1
  apply Fin.ext
  simp [finProdFinEquiv]
  rw [Nat.mul_comm, Nat.add_comm]

/-- A sum over a pair of blocks, the second of which vanishes. -/
theorem sum_pair_left (f : Fin 256 → EReal) (h : ∀ k : Fin 256, 128 ≤ k.val → f k = 0) :
    ∑ k, f k = ∑ k : Fin 128, f ⟨k.val, by omega⟩ := by
  have := (sum_blocks 2 128 (N := 256) rfl f).symm
  rw [this, Fin.sum_univ_two]
  have z : (∑ k : Fin 128, f ⟨(1 : Fin 2).val * 128 + k.val, by have := k.isLt; show 1 * 128 + k.val < 256; omega⟩) = 0 :=
    Finset.sum_eq_zero fun k _ => h _ (by show 128 ≤ 1 * 128 + k.val; omega)
  rw [z, add_zero]
  refine Finset.sum_congr rfl fun k _ => ?_
  congr 1; apply Fin.ext; show 0 * 128 + k.val = k.val; omega

/-- The same, the first vanishing. -/
theorem sum_pair_right (f : Fin 256 → EReal) (h : ∀ k : Fin 256, k.val < 128 → f k = 0) :
    ∑ k, f k = ∑ k : Fin 128, f ⟨128 + k.val, by omega⟩ := by
  have := (sum_blocks 2 128 (N := 256) rfl f).symm
  rw [this, Fin.sum_univ_two]
  have z : (∑ k : Fin 128, f ⟨(0 : Fin 2).val * 128 + k.val, by have := k.isLt; show 0 * 128 + k.val < 256; omega⟩) = 0 :=
    Finset.sum_eq_zero fun k _ => h _ (by show 0 * 128 + k.val < 128; omega)
  rw [z, zero_add]
  refine Finset.sum_congr rfl fun k _ => ?_
  congr 1

end Spin

end
-- ==== Proof.Loc.lean ====
/-
  The step's buffers by name, the memories that agree but for some of them, and the blocks of the rotation.
-/
module

public import proofs.«01_k».proof.Proof.Mem
public import proofs.«01_k».proof.Proof.Spec
public import proofs.«01_k».proof.Proof.Body

@[expose] public section

noncomputable section

namespace Cert.KernelIdeal.Spin

open Idealize.ShloMosaic Cert.KernelIdeal.Gen _root_.Spin

/-- The names of the step's buffers. -/
inductive A where
  | a1 | a2 | a3 | a4 | a5 | a6 | a7 | a8 | a9 | a10 | a11 | a12 | a13 | a14 | a15 | a16 | a17 | a18 | a19 | a20 | a21 | a22 | a23 | a24 | a25 | a26 | a27 | a28 | a29 | a30 | a31 | a32 | a33 | a34 | a35
  deriving DecidableEq

/-- The buffer of a name. -/
def Args.rf (M : Args) : A → Ref sig .tc
  | .a1 => M.arg1.view.ref
  | .a2 => M.arg2.view.ref
  | .a3 => M.arg3.view.ref
  | .a4 => M.arg4.view.ref
  | .a5 => M.arg5.view.ref
  | .a6 => M.arg6.view.ref
  | .a7 => M.arg7.view.ref
  | .a8 => M.arg8.view.ref
  | .a9 => M.arg9.view.ref
  | .a10 => M.arg10.view.ref
  | .a11 => M.arg11.view.ref
  | .a12 => M.arg12.view.ref
  | .a13 => M.arg13.view.ref
  | .a14 => M.arg14.view.ref
  | .a15 => M.arg15.view.ref
  | .a16 => M.arg16.view.ref
  | .a17 => M.arg17.view.ref
  | .a18 => M.arg18.view.ref
  | .a19 => M.arg19.view.ref
  | .a20 => M.arg20.view.ref
  | .a21 => M.arg21.view.ref
  | .a22 => M.arg22.view.ref
  | .a23 => M.arg23.view.ref
  | .a24 => M.arg24.view.ref
  | .a25 => M.arg25.view.ref
  | .a26 => M.arg26.view.ref
  | .a27 => M.arg27.view.ref
  | .a28 => M.arg28.view.ref
  | .a29 => M.arg29.view.ref
  | .a30 => M.arg30.view.ref
  | .a31 => M.arg31.view.ref
  | .a32 => M.arg32.view.ref
  | .a33 => M.arg33.view.ref
  | .a34 => M.arg34.view.ref
  | .a35 => M.arg35.view.ref

/-- Two memories that agree but for the buffers of `l`. -/
def Same (M : Args) (l : List A) (σ σ' : St sig (Elt Ideal)) : Prop := ∀ a, a ∉ l → σ' (M.rf a) = σ (M.rf a)

variable {M : Args} {l l' : List A} {σ σ' σ'' : St sig (Elt Ideal)}

/-- A memory agrees with itself. -/
theorem Same.refl : Same M l σ σ := fun _ _ => rfl

/-- Agreement but for the buffers of `l` is transitive. -/
theorem Same.trans (h : Same M l σ σ') (h' : Same M l σ' σ'') : Same M l σ σ'' :=
  fun a ha => (h' a ha).trans (h a ha)

/-- Memories that agree but for some buffers agree but for more. -/
theorem Same.mono (h : Same M l σ σ') (hl : ∀ a, a ∈ l → a ∈ l') : Same M l' σ σ' :=
  fun a ha => h a fun h' => ha (hl a h')

/-- A store into a listed buffer. -/
theorem Same.put (hM : Function.Injective M.rf) (h : Same M l σ σ') (a : A) (ha : a ∈ l) {cs : CoreSpace} {s : Shape} {e : EltTy}
    {m : Memref sig .tc cs s e} (hm : m.view.ref = M.rf a) {r : Rect s} {w : r.shape.Idx → Elt Ideal e} :
    Same M l σ (Spin.put m r w Finset.univ σ') := fun b hb => by
  refine Eq.trans ?_ (h b hb)
  refine put_other _ _ _ _ _ fun e => hb ?_
  rw [hm] at e
  exact hM e ▸ ha

/-- What another buffer reads. -/
theorem Same.get (h : Same M l σ σ') (a : A) (ha : a ∉ l) {cs : CoreSpace} {s : Shape} {e : EltTy}
    {m : Memref sig .tc cs s e} (hm : m.view.ref = M.rf a) : Spin.get m σ' = Spin.get m σ := by
  refine get_congr m ?_
  rw [hm]; exact h a ha

/-- A store into another buffer. -/
theorem get_put_other (hM : Function.Injective M.rf) (a b : A) (hab : a ≠ b) {cs cs' : CoreSpace} {s s' : Shape} {e e' : EltTy}
    {m : Memref sig .tc cs s e} {m' : Memref sig .tc cs' s' e'} (hm : m.view.ref = M.rf a) (hm' : m'.view.ref = M.rf b)
    {r : Rect s'} {w : r.shape.Idx → Elt Ideal e'} : Spin.get m (Spin.put m' r w Finset.univ σ) = Spin.get m σ :=
  get_put_ne (by rw [hm, hm']; exact hM.ne hab) r w Finset.univ σ

/-- A pair of rotation blocks on the diagonal. -/
def bd (r : Fin 28 → Fin 128 → Fin 128 → EReal) (p : Fin 14) (i j : Fin 256) : EReal :=
  if i.val < 128 then (if j.val < 128 then r ⟨2 * p, by omega⟩ ⟨i % 128, by omega⟩ ⟨j % 128, by omega⟩ else 0)
  else (if j.val < 128 then 0 else r ⟨2 * p + 1, by omega⟩ ⟨i % 128, by omega⟩ ⟨j % 128, by omega⟩)

/-- Place `j` of pair `p`. -/
def pj (p : Fin 14) (j : Fin 256) : Fin 3584 := ⟨256 * p + j, by omega⟩

/-- Times the pair of blocks is the rotation. -/
theorem sum_bd (r : Fin 28 → Fin 128 → Fin 128 → EReal) (v : Fin 3584 → EReal) (p : Fin 14) (j : Fin 256) :
    ∑ k : Fin 256, v (pj p k) * bd r p k j = rotv r v (pj p j) := by
  unfold rotv
  by_cases hj : j.val < 128
  · rw [sum_pair_left]
    · refine Finset.sum_congr rfl fun k _ => ?_
      unfold bd
      rw [if_pos k.isLt, if_pos hj]
      congr 2
      · apply Fin.ext; show 256 * p.val + k.val = (256 * p.val + j.val) / 128 * 128 + k.val; omega
      · apply Fin.ext; show 2 * p.val = (256 * p.val + j.val) / 128; omega
      · apply Fin.ext; show k.val % 128 = k.val; omega
      · apply Fin.ext; show j.val % 128 = (256 * p.val + j.val) % 128; omega
    · intro k hk
      unfold bd
      rw [if_neg (by omega), if_pos hj, mul_zero]
  · rw [sum_pair_right]
    · refine Finset.sum_congr rfl fun k _ => ?_
      unfold bd
      rw [if_neg (by show ¬ (128 + k.val < 128); omega), if_neg hj]
      congr 2
      · apply Fin.ext; show 256 * p.val + (128 + k.val) = (256 * p.val + j.val) / 128 * 128 + k.val; omega
      · apply Fin.ext; show 2 * p.val + 1 = (256 * p.val + j.val) / 128; omega
      · apply Fin.ext; show (128 + k.val) % 128 = k.val; omega
      · apply Fin.ext; show j.val % 128 = (256 * p.val + j.val) % 128; omega
    · intro k hk
      unfold bd
      rw [if_pos hk, if_neg hj, mul_zero]

/-- One more block of columns known. -/
theorem col_step {A B n : Nat} {e : EltTy} {cs : CoreSpace} {m : Memref sig .tc cs ⟨2, ![A, B]⟩ e} {f : Fin A → Fin B → Elt Ideal e}
    {σ : St sig (Elt Ideal)} {o : Nat} (h : ∀ s d, d.val < o → Spin.get m σ (ix2 s d) = f s d)
    (hb : In2 A B A n 0 o) {w : (⟨2, ![A, n]⟩ : Shape).Idx → Elt Ideal e}
    (hw : ∀ s j, w (ix2 s j) = f s ⟨o + j.val, by have := hb.r; omega⟩) :
    ∀ s d, d.val < o + n → Spin.get m (Spin.put m (Rect.unit (s := ⟨2, ![A, B]⟩) ![0, o] (⟨2, ![A, n]⟩ : Shape).size hb) w Finset.univ σ) (ix2 s d) = f s d := by
  intro s d hd
  rw [get_put2]
  split
  · rw [hw]; congr 1; apply Fin.ext; simp; omega
  · exact h s d (by have := s.isLt; omega)

/-- One more block of rows known. -/
theorem row_step {A B n : Nat} {e : EltTy} {cs : CoreSpace} {m : Memref sig .tc cs ⟨2, ![A, B]⟩ e} {f : Fin A → Fin B → Elt Ideal e}
    {σ : St sig (Elt Ideal)} {o : Nat} (h : ∀ s d, s.val < o → Spin.get m σ (ix2 s d) = f s d)
    (hb : In2 A B n B o 0) {w : (⟨2, ![n, B]⟩ : Shape).Idx → Elt Ideal e}
    (hw : ∀ s j, w (ix2 s j) = f ⟨o + s.val, by have := hb.l; omega⟩ j) :
    ∀ s d, s.val < o + n → Spin.get m (Spin.put m (Rect.unit (s := ⟨2, ![A, B]⟩) ![o, 0] (⟨2, ![n, B]⟩ : Shape).size hb) w Finset.univ σ) (ix2 s d) = f s d := by
  intro s d hd
  rw [get_put2]
  split
  · rw [hw]; congr 1; apply Fin.ext; simp; omega
  · exact h s d (by have := d.isLt; omega)

/-- More known after a store of rank two. -/
theorem put2_known {A B a b x y : Nat} {e : EltTy} {cs : CoreSpace} (m : Memref sig .tc cs ⟨2, ![A, B]⟩ e) (f : Fin A → Fin B → Elt Ideal e)
    {P : Fin A → Fin B → Prop} (hb : In2 A B a b x y) {σ : St sig (Elt Ideal)} (h : ∀ s d, P s d → Spin.get m σ (ix2 s d) = f s d)
    {w : (⟨2, ![a, b]⟩ : Shape).Idx → Elt Ideal e}
    (hw : ∀ i j, w (ix2 i j) = f ⟨x + i, by have := hb.l; omega⟩ ⟨y + j, by have := hb.r; omega⟩) (s : Fin A) (d : Fin B)
    (hs : P s d ∨ ((x ≤ s.val ∧ s.val < x + a) ∧ (y ≤ d.val ∧ d.val < y + b))) :
    Spin.get m (Spin.put m (Rect.unit (s := ⟨2, ![A, B]⟩) ![x, y] (⟨2, ![a, b]⟩ : Shape).size hb) w Finset.univ σ) (ix2 s d) = f s d := by
  rw [get_put2]
  split
  · rw [hw]; congr 1 <;> apply Fin.ext <;> simp <;> omega
  · rename_i H
    exact h s d (hs.resolve_right H)

/-- A whole store. -/
theorem whole2 {A B : Nat} {e : EltTy} {cs : CoreSpace} {m : Memref sig .tc cs ⟨2, ![A, B]⟩ e} {σ : St sig (Elt Ideal)}
    (hb : In2 A B A B 0 0) {w : (⟨2, ![A, B]⟩ : Shape).Idx → Elt Ideal e} (i : Fin A) (j : Fin B) :
    Spin.get m (Spin.put m (Rect.unit (s := ⟨2, ![A, B]⟩) ![0, 0] (⟨2, ![A, B]⟩ : Shape).size hb) w Finset.univ σ) (ix2 i j) = w (ix2 i j) :=
  put2_in _ _ _ _ _ _ _ _ (by simp) (by simp)

/-- A whole store of rank three. -/
theorem whole3 {A B C : Nat} {e : EltTy} {cs : CoreSpace} {m : Memref sig .tc cs ⟨3, ![A, B, C]⟩ e} {σ : St sig (Elt Ideal)}
    (hb : In3 A B C A B C 0 0 0) {w : (⟨3, ![A, B, C]⟩ : Shape).Idx → Elt Ideal e} (i : Fin A) (j : Fin B) (k : Fin C) :
    Spin.get m (Spin.put m (Rect.unit (s := ⟨3, ![A, B, C]⟩) ![0, 0, 0] (⟨3, ![A, B, C]⟩ : Shape).size hb) w Finset.univ σ) (ix3 i j k) = w (ix3 i j k) :=
  put3_in _ _ _ _ _ _ _ _ _ _ (by simp) (by simp) (by simp)

/-- The running largest magnitudes after `p` pairs. -/
def AmaxI (p : Nat) (f : Fin 3584 → EReal) (a : Fin 128 → EReal) : Prop :=
  ∀ l u, a l ≤ u ↔ 0 ≤ u ∧ ∀ d : Fin 3584, d.val < 256 * p → lo d = l → FloatOps.absf (F := Ideal) (φ := .f32) (f d) ≤ u

/-- Before the first pair the running magnitudes are zero. -/
theorem amaxI_zero (f : Fin 3584 → EReal) : AmaxI 0 f fun _ => 0 := fun l u =>
  ⟨fun h => ⟨h, fun d hd => absurd hd (by omega)⟩, fun h => h.1⟩

/-- Taking the maximum with a pair's magnitudes carries the running magnitudes one pair further. -/
theorem amaxI_step {p : Fin 14} {f : Fin 3584 → EReal} {a : Fin 128 → EReal} (h : AmaxI p f a) :
    AmaxI (p + 1) f fun l => max (a l) (max (FloatOps.absf (F := Ideal) (φ := .f32) (f (pj p ⟨l.val, by omega⟩)))
      (FloatOps.absf (F := Ideal) (φ := .f32) (f (pj p ⟨128 + l.val, by omega⟩)))) := by
  intro l u
  show max _ (max _ _) ≤ u ↔ _
  rw [max_le_iff, max_le_iff, h l u]
  constructor
  · rintro ⟨⟨h0, h1⟩, h2, h3⟩
    refine ⟨h0, fun d hd hl => ?_⟩
    by_cases hd' : d.val < 256 * p.val
    · exact h1 d hd' hl
    · have hl' : d.val % 128 = l.val := congrArg Fin.val hl
      rcases (show d.val = 256 * p.val + l.val ∨ d.val = 256 * p.val + (128 + l.val) by omega) with e | e
      · rw [show d = pj p ⟨l.val, by omega⟩ from Fin.ext e]; exact h2
      · rw [show d = pj p ⟨128 + l.val, by omega⟩ from Fin.ext e]; exact h3
  · rintro ⟨h0, h1⟩
    refine ⟨⟨h0, fun d hd hl => h1 d (by omega) hl⟩, h1 _ ?_ ?_, h1 _ ?_ ?_⟩
    · show 256 * p.val + l.val < _; omega
    · apply Fin.ext; show (256 * p.val + l.val) % 128 = l.val; omega
    · show 256 * p.val + (128 + l.val) < _; omega
    · apply Fin.ext; show (256 * p.val + (128 + l.val)) % 128 = l.val; omega

/-- After the last pair the largest of the running magnitudes is the largest magnitude of the row. -/
theorem amaxI_end {f : Fin 3584 → EReal} {a : Fin 128 → EReal} (h : AmaxI 14 f a) :
    Finset.fold max cBot a Finset.univ = amax f :=
  amax_lanes f a fun l u => (h l u).trans ⟨fun ⟨h0, h1⟩ => ⟨h0, fun d => h1 d (by omega)⟩, fun ⟨h0, h1⟩ => ⟨h0, fun d _ => h1 d⟩⟩

end Cert.KernelIdeal.Spin

end
-- ==== Proof.KVal1.lean ====
/- The kernel's stages over the extended reals, at an index: the rotated rows, their scales and codes. -/
module

public import proofs.«01_k».proof.Proof.Spec
public import proofs.«01_k».proof.Proof.Body2

@[expose] public section

noncomputable section

namespace Cert.KernelIdeal.Spin

open Idealize.ShloMosaic Cert.KernelIdeal.Gen _root_.Spin

/-- A product with a pair of rotation blocks, at an index. -/
theorem rot_at (x : Vec Ideal S256x256 .bf16) (r : Vec Ideal S1x256x256 .bf16) (i j : Fin 256) :
    rot x r (ix2 i j) = ∑ k : Fin 256, x (ix2 i k) * r (ix3 0 k j) := by
  pointwise [rot]

/-- The same for the weights. -/
theorem rotW_at (x : Vec Ideal S256x256 .bf16) (r : Vec Ideal S1x256x256 .bf16) (i j : Fin 256) :
    rotW x r (ix2 i j) = ∑ k : Fin 256, x (ix2 i k) * r (ix3 0 k j) := by
  pointwise [rotW]

/-- The running magnitudes with one pair more, at an index. -/
theorem amaxStep_at (a : FVec Ideal S256x128 .f32) (v : FVec Ideal S256x256 .f32) (i : Fin 256) (l : Fin 128) :
    amaxStep a v (ix2 i l) = max (a (ix2 i l))
      (max (FloatOps.absf (F := Ideal) (φ := .f32) (v (ix2 i ⟨l.val, by omega⟩)))
        (FloatOps.absf (F := Ideal) (φ := .f32) (v (ix2 i ⟨128 + l.val, by omega⟩)))) := by
  pointwise [amaxStep]

/-- A rotation block rounded is the block itself over the extended reals. -/
theorem rdBlk_at (r : Vec Ideal S1x128x128 .f32) (z : Fin 1) (i j : Fin 128) : rdBlk r (ix3 z i j) = r (ix3 0 i j) := by
  pointwise [rdBlk]

/-- The zero block is zero. -/
theorem rdZero_at (z : Fin 1) (i j : Fin 128) : rdZero (F := Ideal) (ix3 z i j) = 0 := by
  pointwise [rdZero]

/-- The scale of a row for codes up to 127. -/
theorem scale127_at (a : FVec Ideal S256x128 .f32) (i : Fin 256) (j : Fin 1) :
    scaleOf 0x42FE0000#32 a (ix2 i j) = scq c127 (Finset.fold max cBot (fun l : Fin 128 => a (ix2 i l)) Finset.univ) := by
  pointwise [scaleOf]
  rfl

/-- The scale of a row for codes up to 7. -/
theorem scale7_at (a : FVec Ideal S256x128 .f32) (i : Fin 256) (j : Fin 1) :
    scaleOf 0x40E00000#32 a (ix2 i j) = scq c7 (Finset.fold max cBot (fun l : Fin 128 => a (ix2 i l)) Finset.univ) := by
  pointwise [scaleOf]
  rfl

/-- A scale repeated along its row. -/
theorem spread_at (s : FVec Ideal S256x1 .f32) (i : Fin 256) (j : Fin 128) : spread s (ix2 i j) = s (ix2 i 0) := by
  pointwise [spread]

/-- `colRow` at an index. -/
theorem colRow_at (s : FVec Ideal S256x1 .f32) (i : Fin 1) (j : Fin 256) : colRow s (ix2 i j) = s (ix2 j 0) := by
  pointwise [colRow, spread]

/-- `code256` at an index. -/
theorem code256_at (s : FVec Ideal S256x1 .f32) (v : Vec Ideal S256x256 .f32) (i j : Fin 256) :
    code256 s v (ix2 i j) = cod n127 c127 (s (ix2 i 0)) (v (ix2 i j)) := by
  pointwise [code256]
  rfl

/-- `code16` at an index. -/
theorem code16_at (s : FVec Ideal S256x1 .f32) (v : Vec Ideal S256x256 .f32) (i j : Fin 256) :
    code16 s v (ix2 i j) = cod n127 c127 (s (ix2 i 0)) (v (ix2 i j)) := by
  pointwise [code16, code256]
  rfl

/-- Conversion to integers goes entry by entry. -/
theorem fptosi_at {s : Shape} (v : FVec Ideal s .f32) (x : s.Idx) :
    fptosi 8 v x = FloatOps.fptosi (F := Ideal) (φ := .f32) 8 (v x) := rfl

/-- A cast to the same shape changes nothing. -/
theorem cast_id {s : Shape} {e : EltTy} (v : Vec Ideal s e) (h : s.ShapeCasts s) : shapeCast s v h = v := by
  exact shapeCast_self v h

/-- The transpose at an index. -/
theorem tr_at (v : Vec Ideal S256x256 .bf16) (i j : Fin 256) :
    transpose S256x256 [1, 0] v transposes_S256x256_p1_0_S256x256 (ix2 i j) = v (ix2 j i) := by
  pointwise []

/-- `scRows` at an index. -/
theorem scRows_at (s : FVec Ideal S256x1 .f32) (c : Fin 8) (i : Fin 32) (j : Fin 128) :
    scRows s c (ix2 i j) = s (ix2 ⟨32 * c.val + i.val, by omega⟩ 0) := by
  pointwise [scRows]

/-- `code7` at an index. -/
theorem code7_at (s v : FVec Ideal S32x128 .f32) (i : Fin 32) (j : Fin 128) :
    code7 s v (ix2 i j) = cod n7 c7 (s (ix2 i j)) (v (ix2 i j)) := by
  pointwise [code7]
  rfl

/-- `errStep` at an index. -/
theorem errStep_at (s a v : FVec Ideal S32x128 .f32) (i : Fin 32) (j : Fin 128) :
    errStep s a v (ix2 i j) = a (ix2 i j)
      + (v (ix2 i j) - s (ix2 i j) * cod n7 c7 (s (ix2 i j)) (v (ix2 i j)))
        * (v (ix2 i j) - s (ix2 i j) * cod n7 c7 (s (ix2 i j)) (v (ix2 i j))) := by
  pointwise [errStep, code7]
  rfl

/-- `laneSum` at an index. -/
theorem laneSum_at (a : FVec Ideal S32x128 .f32) (i : Fin 32) (j : Fin 1) :
    laneSum a (ix2 i j) = ∑ l : Fin 128, a (ix2 i l) := by
  pointwise [laneSum]

/-- `resid` at an index. -/
theorem resid_at (s sx : FVec Ideal S256x1 .f32) (qx qw : Vec Ideal S256x3584 .bf16) (y : Vec Ideal S256x256 .bf16) (i j : Fin 256) :
    resid s sx qx qw y (ix2 i j) =
      (∑ d : Fin 3584, qx (ix2 i d) * qw (ix2 j d)) * sx (ix2 i 0) * s (ix2 j 0) - y (ix2 i j) := by
  pointwise [resid, colRow, spread]

/-- `lossStep` at an index. -/
theorem lossStep_at (e : FVec Ideal S256x256 .f32) (l : Vec Ideal S8x256 .f32) (i : Fin 8) (j : Fin 256) :
    lossStep e l (ix2 i j) = l (ix2 i j) + ∑ k : Fin 32, e (ix2 ⟨k.val * 8 + i.val, by omega⟩ j) * e (ix2 ⟨k.val * 8 + i.val, by omega⟩ j) := by
  pointwise [lossStep]

/-- `resW` at an index. -/
theorem resW_at (s : FVec Ideal S256x1 .f32) (e : FVec Ideal S256x256 .f32) (i j : Fin 256) :
    resW s e (ix2 i j) = e (ix2 i j) * s (ix2 j 0) := by
  pointwise [resW, colRow, spread]

/-- `resX` at an index. -/
theorem resX_at (s : FVec Ideal S256x1 .f32) (e : FVec Ideal S256x256 .f32) (i j : Fin 256) :
    resX s e (ix2 i j) = e (ix2 i j) * s (ix2 i 0) := by
  pointwise [resX]

/-- `pStep` at an index. -/
theorem pStep_at (ew : FVec Ideal S256x256 .bf16) (p : Vec Ideal S256x256 .f32) (q : Vec Ideal S256x256 .bf16) (i j : Fin 256) :
    pStep ew p q (ix2 i j) = p (ix2 i j) + ∑ k : Fin 256, ew (ix2 i k) * q (ix2 k j) := by
  pointwise [pStep]

/-- `qStep` at an index. -/
theorem qStep_at (ex : FVec Ideal S256x256 .bf16) (q : Vec Ideal S256x256 .bf16) (i j : Fin 256) :
    qStep ex q (ix2 i j) = ∑ k : Fin 256, q (ix2 i k) * ex (ix2 k j) := by
  pointwise [qStep]

/-- `gStep` at an index. -/
theorem gStep_at (g : Vec Ideal S1x128x128 .f32) (q : Vec Ideal S128x256 .bf16) (w : Vec Ideal S256x128 .bf16) (i j : Fin 128) :
    gStep g q w (ix2 i j) = g (ix3 0 i j) + ∑ k : Fin 256, q (ix2 i k) * w (ix2 k j) := by
  pointwise [gStep]

/-- A matrix as a block has the same entries. -/
theorem blk_at (v : FVec Ideal S128x128 .f32) (z : Fin 1) (i j : Fin 128) :
    shapeCast S1x128x128 v shapeCasts_S128x128_S1x128x128 (ix3 z i j) = v (ix2 i j) := by
  pointwise []

/-- `errRow` at an index. -/
theorem errRow_at (e : Fin 8 → FVec Ideal S32x1 .f32) (i : Fin 1) (j : Fin 256) :
    errRow e (ix2 i j) = e ⟨j.val / 32, by omega⟩ (ix2 ⟨j.val % 32, by omega⟩ 0) := by
  have key : ∀ (a b : Fin 8) (r r' : Fin 32), a = b → r = r' → e a (ix2 r 0) = e b (ix2 r' 0) := by
    intro a b r r' h h'; rw [h, h']
  pointwise [errRow, colRow, spread]
  split_ifs <;> exact key _ _ _ _ (Fin.ext (by simp; omega)) (Fin.ext (by simp; omega))

end Cert.KernelIdeal.Spin

end
-- ==== Proof.Pro1.lean ====
/- The first loop of the prologue: the rotation's block diagonal, and the rotated activations. -/
module

public import proofs.«01_k».proof.Proof.Loc
public import proofs.«01_k».proof.Proof.KVal1

@[expose] public section

noncomputable section

namespace Cert.KernelIdeal.Spin

open Idealize.ShloMosaic Cert.KernelIdeal.Gen _root_.Spin

/-- A memory of the step. -/
abbrev Mem := St sig (Elt Ideal)

variable {M : Args} (hM : Function.Injective M.rf)

/-- The four stores of one pair of blocks. -/
def rdPut (M : Args) (p : Fin 14) (r0 r1 : Vec Ideal S1x128x128 .f32) (σ : Mem) : Mem :=
  put M.arg24 (Rect.unit (s := S14x256x256) ![p, 128, 0] S1x128x128.size (inb3 (by omega) (by omega) (by omega))) (rdZero (F := Ideal)) Finset.univ <|
  put M.arg24 (Rect.unit (s := S14x256x256) ![p, 0, 128] S1x128x128.size (inb3 (by omega) (by omega) (by omega))) (rdZero (F := Ideal)) Finset.univ <|
  put M.arg24 (Rect.unit (s := S14x256x256) ![p, 128, 128] S1x128x128.size (inb3 (by omega) (by omega) (by omega))) (rdBlk r1) Finset.univ <|
  put M.arg24 (Rect.unit (s := S14x256x256) ![p, 0, 0] S1x128x128.size (inb3 (by omega) (by omega) (by omega))) (rdBlk r0) Finset.univ σ

/-- After the four stores of pair `p`, buffer 24 holds that pair of rotation blocks on the diagonal at `p` and is unchanged elsewhere. -/
theorem get_rdPut (p : Fin 14) (r0 r1 : Vec Ideal S1x128x128 .f32) (r : Fin 28 → Fin 128 → Fin 128 → EReal) (σ : Mem)
    (h0 : ∀ i j, r0 (ix3 0 i j) = r ⟨2 * p, by omega⟩ i j) (h1 : ∀ i j, r1 (ix3 0 i j) = r ⟨2 * p + 1, by omega⟩ i j)
    (q : Fin 14) (i j : Fin 256) :
    get M.arg24 (rdPut M p r0 r1 σ) (ix3 q i j) = if q = p then bd r p i j else get M.arg24 σ (ix3 q i j) := by
  unfold rdPut
  refine (get_put3 M.arg24 _ _ _ q i j).trans ?_
  by_cases hq : q = p
  · subst hq
    rw [if_pos rfl]
    unfold bd
    by_cases hi : i.val < 128 <;> by_cases hj : j.val < 128
    · rw [dif_neg (by omega), if_pos hi, if_pos hj]
      refine (get_put3 M.arg24 _ _ _ q i j).trans ?_
      rw [dif_neg (by omega)]
      refine (get_put3 M.arg24 _ _ _ q i j).trans ?_
      rw [dif_neg (by omega)]
      refine (get_put3 M.arg24 _ _ _ q i j).trans ?_
      rw [dif_pos (by omega)]
      refine (rdBlk_at _ _ _ _).trans ((h0 _ _).trans ?_)
      congr 1
      · apply Fin.ext; show i.val - 0 = i.val % 128; omega
      · apply Fin.ext; show j.val - 0 = j.val % 128; omega
    · rw [dif_neg (by omega), if_pos hi, if_neg hj]
      refine (get_put3 M.arg24 _ _ _ q i j).trans ?_
      rw [dif_pos (by omega)]
      exact rdZero_at _ _ _
    · rw [dif_pos (by omega), if_neg hi, if_pos hj]
      exact rdZero_at _ _ _
    · rw [dif_neg (by omega), if_neg hi, if_neg hj]
      refine (get_put3 M.arg24 _ _ _ q i j).trans ?_
      rw [dif_neg (by omega)]
      refine (get_put3 M.arg24 _ _ _ q i j).trans ?_
      rw [dif_pos (by omega)]
      refine (rdBlk_at _ _ _ _).trans ((h1 _ _).trans ?_)
      congr 1
      · apply Fin.ext; show i.val - 128 = i.val % 128; omega
      · apply Fin.ext; show j.val - 128 = j.val % 128; omega
  · have hq' : ¬ q.val = p.val := fun e => hq (Fin.ext e)
    rw [dif_neg (by omega), if_neg hq]
    refine (get_put3 M.arg24 _ _ _ q i j).trans ?_
    rw [dif_neg (by omega)]
    refine (get_put3 M.arg24 _ _ _ q i j).trans ?_
    rw [dif_neg (by omega)]
    refine (get_put3 M.arg24 _ _ _ q i j).trans ?_
    rw [dif_neg (by omega)]

include hM in
theorem rdPut_same (p : Fin 14) (r0 r1 : Vec Ideal S1x128x128 .f32) (σ : Mem) : Same M [.a24] σ (rdPut M p r0 r1 σ) :=
  (((Same.refl.put hM .a24 (by decide) rfl).put hM .a24 (by decide) rfl).put hM .a24 (by decide) rfl).put hM .a24 (by decide) rfl

/-- What holds after `p` rounds. -/
structure Pro1I (M : Args) (A₀ : D) (σ₀ : Mem) (p : Nat) (a : FVec Ideal S256x128 .f32) (σ : Mem) : Prop where
  same : Same M [.a24, .a25] σ₀ σ
  rd : ∀ q : Fin 14, q.val < p → ∀ i j, get M.arg24 σ (ix3 q i j) = bd A₀.r q i j
  xr : ∀ s d, d.val < 256 * p → get M.arg25 σ (ix2 s d) = A₀.xr s d
  am : ∀ s, AmaxI p (A₀.xr s) fun l => a (ix2 s l)

include hM in
theorem pro1_step (A₀ : D) (σ₀ : Mem) (hx : ∀ s d, get M.arg1 σ₀ (ix2 s d) = A₀.x s d)
    (hr : ∀ h i j, get M.arg4 σ₀ (ix3 h i j) = A₀.r h i j)
    (p : Fin 14) (a) (σ : Mem) (K : FVec Ideal S256x128 .f32 → Mem → Prop) (hI : Pro1I M A₀ σ₀ p a σ)
    (hK : ∀ a' σ', Pro1I M A₀ σ₀ (p + 1) a' σ' → K a' σ') : pro1 stH M p a K σ := by
  refine hK _ _ ?_
  have g4 : get M.arg4 σ = get M.arg4 σ₀ := hI.same.get .a4 (by decide) rfl
  have g1 : get M.arg1 σ = get M.arg1 σ₀ := hI.same.get .a1 (by decide) rfl
  have e0 : ∀ i j, get M.arg4 σ ((Rect.unit (s := S28x128x128) ![2 * p, 0, 0] S1x128x128.size (inb3 (by omega) (by omega) (by omega))).toLoadRect.idx (ix3 0 i j)) = A₀.r ⟨2 * p, by omega⟩ i j := by
    intro i j
    rw [g4]
    refine (congrArg _ (idx3 (A := 28) (B := 128) (C := 128) (a := 1) (b := 128) (c := 128) (inb3 (by omega) (by omega) (by omega)) 0 i j)).trans ?_
    refine Eq.trans ?_ (hr _ _ _)
    congr 2 <;> apply Fin.ext <;> simp
  have e1 : ∀ (τ : Mem), get M.arg4 τ = get M.arg4 σ₀ → ∀ i j, get M.arg4 τ ((Rect.unit (s := S28x128x128) ![2 * p + 1, 0, 0] S1x128x128.size (inb3 (by omega) (by omega) (by omega))).toLoadRect.idx (ix3 0 i j)) = A₀.r ⟨2 * p + 1, by omega⟩ i j := by
    intro τ hτ i j
    rw [hτ]
    refine (congrArg _ (idx3 (A := 28) (B := 128) (C := 128) (a := 1) (b := 128) (c := 128) (inb3 (by omega) (by omega) (by omega)) 0 i j)).trans ?_
    refine Eq.trans ?_ (hr _ _ _)
    congr 2 <;> apply Fin.ext <;> simp
  set r0 : Vec Ideal S1x128x128 .f32 := fun x => get M.arg4 σ ((Rect.unit (s := S28x128x128) ![2 * p, 0, 0] S1x128x128.size (inb3 (by omega) (by omega) (by omega))).toLoadRect.idx x) with hr0
  set τ1 : Mem := put M.arg24 (Rect.unit (s := S14x256x256) ![p, 0, 0] S1x128x128.size (inb3 (by omega) (by omega) (by omega))) (rdBlk r0) Finset.univ σ with hτ1
  set r1 : Vec Ideal S1x128x128 .f32 := fun x => get M.arg4 τ1 ((Rect.unit (s := S28x128x128) ![2 * p + 1, 0, 0] S1x128x128.size (inb3 (by omega) (by omega) (by omega))).toLoadRect.idx x) with hr1
  have g4' : get M.arg4 τ1 = get M.arg4 σ₀ := (get_put_other hM .a4 .a24 (by decide) rfl rfl).trans g4
  set τ : Mem := rdPut M p r0 r1 σ with hτ
  have sτ : Same M [.a24] σ τ := rdPut_same hM p r0 r1 σ
  have vτ := get_rdPut (M := M) p r0 r1 A₀.r σ e0 (e1 τ1 g4')
  set x : Vec Ideal S256x256 .bf16 := fun q => get M.arg1 τ ((Rect.unit (s := S256x3584) ![0, 256 * p] S256x256.size (inb2 (by omega) (by omega))).toLoadRect.idx q) with hxx
  set rr : Vec Ideal S1x256x256 .bf16 := fun q => get M.arg24 τ ((Rect.unit (s := S14x256x256) ![p, 0, 0] S1x256x256.size (inb3 (by omega) (by omega) (by omega))).toLoadRect.idx q) with hrr
  have ex : ∀ i k, x (ix2 i k) = A₀.x i (pj p k) := by
    intro i k
    rw [hxx]
    show get M.arg1 τ _ = _
    rw [sτ.get .a1 (by decide) rfl, g1]
    refine (congrArg _ (idx2 (A := 256) (B := 3584) (a := 256) (b := 256) (inb2 (by omega) (by omega)) i k)).trans ?_
    refine Eq.trans ?_ (hx _ _)
    congr 2; apply Fin.ext; simp
  have er : ∀ k j, rr (ix3 0 k j) = bd A₀.r p k j := by
    intro k j
    rw [hrr]
    refine (congrArg _ (idx3 (A := 14) (B := 256) (C := 256) (a := 1) (b := 256) (c := 256) (inb3 (by omega) (by omega) (by omega)) 0 k j)).trans ?_
    refine Eq.trans ?_ ((vτ p k j).trans (if_pos rfl))
    congr 2 <;> apply Fin.ext <;> simp
  have ev : ∀ i j, rot x rr (ix2 i j) = A₀.xr i (pj p j) := by
    intro i j
    rw [rot_at]
    simp only [ex, er]
    exact sum_bd A₀.r (A₀.x i) p j
  have s' : Same M [.a24, .a25] σ (put M.arg25 (Rect.unit (s := S256x3584) ![0, 256 * p] S256x256.size (inb2 (by omega) (by omega))) (shapeCast S256x256 (rot x rr) shapeCasts_S256x256_S256x256) Finset.univ τ) :=
    (sτ.mono (by simp)).put hM .a25 (by decide) rfl
  refine ⟨hI.same.trans s', ?_, ?_, ?_⟩
  · intro q hq i j
    refine (congrFun (get_put_other hM .a24 .a25 (by decide) rfl rfl) _).trans ((vτ q i j).trans ?_)
    by_cases hqp : q = p
    · rw [if_pos hqp, hqp]
    · rw [if_neg hqp]
      exact hI.rd q (by have : q.val ≠ p.val := fun e => hqp (Fin.ext e); omega) i j
  · intro s d hd
    refine (get_put2 M.arg25 _ _ _ s d).trans ?_
    split
    · rename_i H
      rw [shapeCast_self]
      refine (ev _ _).trans ?_
      congr 1
      · apply Fin.ext; simp [pj]; omega
    · rename_i H
      refine (congrFun (sτ.get .a25 (by decide) rfl) _).trans (hI.xr s d ?_)
      have := s.isLt
      omega
  · intro s
    have := amaxI_step (hI.am s)
    show AmaxI _ _ fun l => amaxStep a (rot x rr) (ix2 s l)
    simp only [amaxStep_at, ev]
    exact this

include hM in
/-- The first loop. -/
theorem pro1_spec (A₀ : D) (σ₀ : Mem) (hx : ∀ s d, get M.arg1 σ₀ (ix2 s d) = A₀.x s d)
    (hr : ∀ h i j, get M.arg4 σ₀ (ix3 h i j) = A₀.r h i j) (K : FVec Ideal S256x128 .f32 → Mem → Prop)
    (hK : ∀ a σ, Pro1I M A₀ σ₀ 14 a σ → K a σ) :
    loop 14 (pro1 stH M) (broadcast S256x128 (Scalar.ofBits .f32 0x00000000#32)) K σ₀ := by
  refine loop_spec (Pro1I M A₀ σ₀) ?_ (fun p a σ K' hI hK' => pro1_step hM A₀ σ₀ hx hr p a σ K' hI hK') hK
  refine ⟨Same.refl, fun q hq => absurd hq (by omega), fun s d hd => absurd hd (by omega), fun s => ?_⟩
  have : (fun l : Fin 128 => (broadcast S256x128 (Scalar.ofBits .f32 0x00000000#32 : Ideal .f32) : FVec Ideal S256x128 .f32) (ix2 s l)) = fun _ => 0 := by
    funext l
    pointwise
  rw [this]
  exact amaxI_zero _

end Cert.KernelIdeal.Spin

end
-- ==== Proof.Pro2.lean ====
/- The prologue: what it leaves. -/
module

public import proofs.«01_k».proof.Proof.Pro1

@[expose] public section

noncomputable section

namespace Cert.KernelIdeal.Spin

open Idealize.ShloMosaic Cert.KernelIdeal.Gen _root_.Spin

variable {M : Args} (hM : Function.Injective M.rf)

/-- A code as an integer. -/
abbrev i8 (v : EReal) : BitVec 8 := FloatOps.fptosi (F := Ideal) (φ := .f32) 8 v

/-- What holds after `p` rounds of the second loop. -/
structure Pro2I (M : Args) (A₀ : D) (σ₀ : Mem) (p : Nat) (σ : Mem) : Prop where
  same : Same M [.a18, .a26, .a27, .a28] σ₀ σ
  c18 : ∀ s d, d.val < 256 * p → get M.arg18 σ (ix2 s d) = i8 (A₀.cx s d)
  c26 : ∀ s d, d.val < 256 * p → get M.arg26 σ (ix2 s d) = A₀.cx s d
  c27 : ∀ d s, d.val < 256 * p → get M.arg27 σ (ix2 d s) = A₀.cx s d
  c28 : ∀ d s, d.val < 256 * p → get M.arg28 σ (ix2 d s) = A₀.x s d

include hM in
theorem pro2_step (A₀ : D) (σ₀ : Mem) (hx : ∀ s d, get M.arg1 σ₀ (ix2 s d) = A₀.x s d)
    (hxr : ∀ s d, get M.arg25 σ₀ (ix2 s d) = A₀.xr s d) (sc : FVec Ideal S256x1 .f32) (hs : ∀ s, sc (ix2 s 0) = A₀.sx s)
    (p : Fin 14) (σ : Mem) (K : Unit → Mem → Prop) (hI : Pro2I M A₀ σ₀ p σ)
    (hK : ∀ a' σ', Pro2I M A₀ σ₀ (p + 1) σ' → K a' σ') : pro2 stH M sc p ⟨⟩ K σ := by
  refine hK _ _ ?_
  set v : Vec Ideal S256x256 .f32 := fun q => get M.arg25 σ ((Rect.unit (s := S256x3584) ![0, 256 * p] S256x256.size (inb2 (by omega) (by omega))).toLoadRect.idx q) with hv
  have ev : ∀ i j, v (ix2 i j) = A₀.xr i (pj p j) := by
    intro i j
    refine (ld2 (A := 256) (B := 3584) (a := 256) (b := 256) M.arg25 _ σ i j (i' := i) (j' := pj p j) (by simp) rfl).trans ?_
    rw [hI.same.get .a25 (by decide) rfl, hxr]
  have ec : ∀ i j, code256 sc v (ix2 i j) = A₀.cx i (pj p j) := by
    intro i j; rw [code256_at, hs, ev]; rfl
  have ec' : ∀ i j, code16 sc v (ix2 i j) = A₀.cx i (pj p j) := by
    intro i j; rw [code16_at, hs, ev]; rfl
  set τ1 : Mem := put M.arg18 (Rect.unit (s := S256x3584) ![0, 256 * p] S256x256.size (inb2 (by omega) (by omega))) (fptosi 8 (code256 sc v)) Finset.univ σ with hτ1
  set τ2 : Mem := put M.arg26 (Rect.unit (s := S256x3584) ![0, 256 * p] S256x256.size (inb2 (by omega) (by omega))) (shapeCast S256x256 (code16 sc v) shapeCasts_S256x256_S256x256) Finset.univ τ1 with hτ2
  set τ3 : Mem := put M.arg27 (Rect.unit (s := S3584x256) ![256 * p, 0] S256x256.size (inb2 (by omega) (by omega)))
    (shapeCast S256x256 (transpose S256x256 [1, 0] (code16 sc v) transposes_S256x256_p1_0_S256x256) shapeCasts_S256x256_S256x256) Finset.univ τ2 with hτ3
  set x : Vec Ideal S256x256 .bf16 := fun q => get M.arg1 τ3 ((Rect.unit (s := S256x3584) ![0, 256 * p] S256x256.size (inb2 (by omega) (by omega))).toLoadRect.idx q) with hxx
  have s1 : Same M [.a18, .a26, .a27, .a28] σ₀ τ1 := hI.same.put hM .a18 (by decide) rfl
  have s2 : Same M [.a18, .a26, .a27, .a28] σ₀ τ2 := s1.put hM .a26 (by decide) rfl
  have s3 : Same M [.a18, .a26, .a27, .a28] σ₀ τ3 := s2.put hM .a27 (by decide) rfl
  have ex : ∀ i j, x (ix2 i j) = A₀.x i (pj p j) := by
    intro i j
    refine (ld2 (A := 256) (B := 3584) (a := 256) (b := 256) M.arg1 _ τ3 i j (i' := i) (j' := pj p j) (by simp) rfl).trans ?_
    rw [s3.get .a1 (by decide) rfl, hx]
  refine ⟨s3.put hM .a28 (by decide) rfl, ?_, ?_, ?_, ?_⟩
  · intro s d hd
    refine (congrFun (get_put_other hM .a18 .a28 (by decide) rfl rfl) _).trans ?_
    refine (congrFun (get_put_other hM .a18 .a27 (by decide) rfl rfl) _).trans ?_
    refine (congrFun (get_put_other hM .a18 .a26 (by decide) rfl rfl) _).trans ?_
    refine col_step (A := 256) (B := 3584) (n := 256) (e := .i8) (m := M.arg18) (o := 256 * p.val) (f := fun s d => i8 (A₀.cx s d)) hI.c18 _ (fun s j => ?_) s d (by omega)
    exact congrArg i8 (ec s j)
  · intro s d hd
    refine (congrFun (get_put_other hM .a26 .a28 (by decide) rfl rfl) _).trans ?_
    refine (congrFun (get_put_other hM .a26 .a27 (by decide) rfl rfl) _).trans ?_
    refine col_step (A := 256) (B := 3584) (n := 256) (e := .bf16) (m := M.arg26) (o := 256 * p.val) (f := fun s d => A₀.cx s d) (fun s d hd => ?_) _ (fun s j => ?_) s d (by omega)
    · exact (congrFun (get_put_other hM .a26 .a18 (by decide) rfl rfl) _).trans (hI.c26 s d hd)
    · exact (congrFun (shapeCast_self _ _) _).trans (ec' s j)
  · intro d s hd
    refine (congrFun (get_put_other hM .a27 .a28 (by decide) rfl rfl) _).trans ?_
    refine row_step (A := 3584) (B := 256) (n := 256) (e := .bf16) (m := M.arg27) (o := 256 * p.val) (f := fun d s => A₀.cx s d) (fun d s hd => ?_) _ (fun j s => ?_) d s (by omega)
    · refine (congrFun (get_put_other hM .a27 .a26 (by decide) rfl rfl) _).trans ?_
      exact (congrFun (get_put_other hM .a27 .a18 (by decide) rfl rfl) _).trans (hI.c27 d s hd)
    · exact (congrFun (shapeCast_self _ _) _).trans ((tr_at _ _ _).trans (ec' s j))
  · intro d s hd
    refine row_step (A := 3584) (B := 256) (n := 256) (e := .bf16) (m := M.arg28) (o := 256 * p.val) (f := fun d s => A₀.x s d) (fun d s hd => ?_) _ (fun j s => ?_) d s (by omega)
    · refine (congrFun (get_put_other hM .a28 .a27 (by decide) rfl rfl) _).trans ?_
      refine (congrFun (get_put_other hM .a28 .a26 (by decide) rfl rfl) _).trans ?_
      exact (congrFun (get_put_other hM .a28 .a18 (by decide) rfl rfl) _).trans (hI.c28 d s hd)
    · exact (congrFun (shapeCast_self _ _) _).trans ((tr_at _ _ _).trans ((congrFun (shapeCast_self _ _) _).trans (ex s j)))

/-- What the prologue leaves. -/
structure ProI (M : Args) (A₀ : D) (σ₀ σ : Mem) : Prop where
  same : Same M [.a18, .a19, .a24, .a25, .a26, .a27, .a28, .a29, .a32, .a33, .a35] σ₀ σ
  rd : ∀ q i j, get M.arg24 σ (ix3 q i j) = bd A₀.r q i j
  c18 : ∀ s d, get M.arg18 σ (ix2 s d) = i8 (A₀.cx s d)
  c19 : ∀ z s, get M.arg19 σ (ix2 z s) = A₀.sx s
  c26 : ∀ s d, get M.arg26 σ (ix2 s d) = A₀.cx s d
  c27 : ∀ d s, get M.arg27 σ (ix2 d s) = A₀.cx s d
  c28 : ∀ d s, get M.arg28 σ (ix2 d s) = A₀.x s d
  c29 : ∀ s l, get M.arg29 σ (ix2 s l) = A₀.sx s
  c32 : ∀ s d, get M.arg32 σ (ix2 s d) = 0
  c33 : ∀ h i j, get M.arg33 σ (ix3 h i j) = 0
  c35 : ∀ s d, get M.arg35 σ (ix2 s d) = 0

include hM in
theorem prologue_spec (A₀ : D) (σ₀ : Mem) (hx : ∀ s d, get M.arg1 σ₀ (ix2 s d) = A₀.x s d)
    (hr : ∀ h i j, get M.arg4 σ₀ (ix3 h i j) = A₀.r h i j) (K : Mem → Prop) (hK : ∀ σ, ProI M A₀ σ₀ σ → K σ) :
    prologue stH M K σ₀ := by
  refine pro1_spec hM A₀ σ₀ hx hr _ fun a σ hI => ?_
  set sc := scaleOf 0x42FE0000#32 a with hsc
  have hs : ∀ s, sc (ix2 s 0) = A₀.sx s := by
    intro s; rw [hsc, scale127_at, amaxI_end (hI.am s)]; rfl
  set τ1 : Mem := put M.arg29 (Rect.unit (s := S256x128) ![0, 0] S256x128.size (inb2 (by omega) (by omega)))
    (shapeCast S256x128 (spread sc) shapeCasts_S256x128_S256x128) Finset.univ σ with hτ1
  set τ2 : Mem := put M.arg19 (Rect.unit (s := S1x256) ![0, 0] S1x256.size (inb2 (by omega) (by omega)))
    (colRow sc) Finset.univ τ1 with hτ2
  have s2 : Same M [.a19, .a29] σ τ2 := (Same.refl.put hM .a29 (by decide) rfl).put hM .a19 (by decide) rfl
  have s2' : Same M [.a24, .a25, .a19, .a29] σ₀ τ2 := (hI.same.mono (by simp)).trans (s2.mono (by simp))
  dsimp only [stH]
  refine loop_spec (σ := τ2) (fun p _ σ => Pro2I M A₀ τ2 p σ) ⟨Same.refl, fun _ d hd => absurd hd (by omega), fun _ d hd => absurd hd (by omega),
    fun d _ hd => absurd hd (by omega), fun d _ hd => absurd hd (by omega)⟩
    (fun p _ σ K' hI' hK' => pro2_step hM A₀ τ2 ?_ ?_ sc hs p σ K' hI' hK') ?_
  · intro s d
    rw [s2'.get .a1 (by decide) rfl, hx]
  · intro s d
    rw [s2.get .a25 (by decide) rfl, hI.xr s d (by omega)]
  intro _ τ hJ
  refine hK _ ?_
  have s3 : Same M [.a18, .a19, .a24, .a25, .a26, .a27, .a28, .a29, .a32, .a33, .a35] σ₀ τ := (s2'.mono (by simp)).trans (hJ.same.mono (by simp))
  set τ4 : Mem := put M.arg32 (Rect.unit (s := S256x3584) ![0, 0] S256x3584.size (inb2 (by omega) (by omega)))
    (shapeCast S256x3584 (broadcast S256x3584 (Scalar.ofBits .f32 0x00000000#32 : Ideal .f32)) shapeCasts_S256x3584_S256x3584) Finset.univ τ with hτ4
  set τ5 : Mem := put M.arg33 (Rect.unit (s := S28x128x128) ![0, 0, 0] S28x128x128.size (inb3 (by omega) (by omega) (by omega)))
    (shapeCast S28x128x128 (broadcast S28x128x128 (Scalar.ofBits .f32 0x00000000#32 : Ideal .f32)) shapeCasts_S28x128x128_S28x128x128) Finset.univ τ4 with hτ5
  set τ6 : Mem := put M.arg35 (Rect.unit (s := S8x256) ![0, 0] S8x256.size (inb2 (by omega) (by omega)))
    (shapeCast S8x256 (broadcast S8x256 (Scalar.ofBits .f32 0x00000000#32 : Ideal .f32)) shapeCasts_S8x256_S8x256) Finset.univ τ5 with hτ6
  have s6 : Same M [.a32, .a33, .a35] τ τ6 := ((Same.refl.put hM .a32 (by decide) rfl).put hM .a33 (by decide) rfl).put hM .a35 (by decide) rfl
  have s7 : Same M [.a18, .a26, .a27, .a28, .a32, .a33, .a35] τ2 τ6 := (hJ.same.mono (by simp)).trans (s6.mono (by simp))
  refine ⟨s3.trans (s6.mono (by simp)), ?_, ?_, ?_, ?_, ?_, ?_, ?_, ?_, ?_, ?_⟩
  · intro q i j
    rw [s7.get .a24 (by decide) rfl, s2.get .a24 (by decide) rfl, hI.rd q (by omega)]
  · intro s d
    rw [s6.get .a18 (by decide) rfl, hJ.c18 s d (by omega)]
  · intro z s
    rw [s7.get .a19 (by decide) rfl]
    refine (whole2 (A := 1) (B := 256) _ z s).trans ?_
    rw [colRow_at, hs]
  · intro s d
    rw [s6.get .a26 (by decide) rfl, hJ.c26 s d (by omega)]
  · intro d s
    rw [s6.get .a27 (by decide) rfl, hJ.c27 d s (by omega)]
  · intro d s
    rw [s6.get .a28 (by decide) rfl, hJ.c28 d s (by omega)]
  · intro s l
    rw [s7.get .a29 (by decide) rfl]
    refine (congrFun (get_put_other hM .a29 .a19 (by decide) rfl rfl) _).trans ?_
    refine (whole2 (A := 256) (B := 128) _ s l).trans ?_
    rw [shapeCast_self, spread_at, hs]
  · intro s d
    refine (congrFun (get_put_other hM .a32 .a35 (by decide) rfl rfl) _).trans ?_
    refine (congrFun (get_put_other hM .a32 .a33 (by decide) rfl rfl) _).trans ?_
    refine (whole2 (A := 256) (B := 3584) _ s d).trans ?_
    rw [shapeCast_self]; pointwise
  · intro h i j
    refine (congrFun (get_put_other hM .a33 .a35 (by decide) rfl rfl) _).trans ?_
    refine (whole3 (A := 28) (B := 128) (C := 128) _ h i j).trans ?_
    rw [shapeCast_self]; pointwise
  · intro s d
    refine (whole2 (A := 8) (B := 256) _ s d).trans ?_
    rw [shapeCast_self]; pointwise

end Cert.KernelIdeal.Spin

end
-- ==== Proof.Main1.lean ====
/- The main step: the rotated weights, their codes and the residual of the codes. -/
module

public import proofs.«01_k».proof.Proof.Pro2
public import proofs.«01_k».proof.Proof.Body2

@[expose] public section

noncomputable section

namespace Cert.KernelIdeal.Spin

open Idealize.ShloMosaic Cert.KernelIdeal.Gen _root_.Spin

variable {M : Args} (hM : Function.Injective M.rf)

/-- Row `s` of tile `k`. -/
def tn (k : Fin 18) (s : Fin 256) : Fin 4608 := ⟨256 * k + s, by omega⟩

/-- What holds after `p` rounds of the first loop. -/
structure Main1I (M : Args) (A₀ : D) (k : Fin 18) (σ₀ : Mem) (p : Nat) (a : FVec Ideal S256x128 .f32) (σ : Mem) : Prop where
  same : Same M [.a25] σ₀ σ
  wr : ∀ s d, d.val < 256 * p → get M.arg25 σ (ix2 s d) = A₀.wr (tn k s) d
  am : ∀ s, AmaxI p (A₀.wr (tn k s)) fun l => a (ix2 s l)

include hM in
theorem main1_step (A₀ : D) (k : Fin 18) (σ₀ : Mem) (hw : ∀ s d, get M.arg2 σ₀ (ix2 s d) = A₀.w (tn k s) d)
    (hr : ∀ q i j, get M.arg24 σ₀ (ix3 q i j) = bd A₀.r q i j)
    (p : Fin 14) (a) (σ : Mem) (K : FVec Ideal S256x128 .f32 → Mem → Prop) (hI : Main1I M A₀ k σ₀ p a σ)
    (hK : ∀ a' σ', Main1I M A₀ k σ₀ (p + 1) a' σ' → K a' σ') : main1 stH M p a K σ := by
  refine hK _ _ ?_
  set x : Vec Ideal S256x256 .bf16 := fun q => get M.arg2 σ ((Rect.unit (s := S256x3584) ![0, 256 * p] S256x256.size (inb2 (by omega) (by omega))).toLoadRect.idx q) with hxx
  set rr : Vec Ideal S1x256x256 .bf16 := fun q => get M.arg24 σ ((Rect.unit (s := S14x256x256) ![p, 0, 0] S1x256x256.size (inb3 (by omega) (by omega) (by omega))).toLoadRect.idx q) with hrr
  have ex : ∀ i j, x (ix2 i j) = A₀.w (tn k i) (pj p j) := by
    intro i j
    refine (ld2 (A := 256) (B := 3584) (a := 256) (b := 256) M.arg2 _ σ i j (i' := i) (j' := pj p j) (by simp) rfl).trans ?_
    rw [hI.same.get .a2 (by decide) rfl, hw]
  have er : ∀ i j, rr (ix3 0 i j) = bd A₀.r p i j := by
    intro i j
    refine (ld3 (A := 14) (B := 256) (C := 256) (a := 1) (b := 256) (c := 256) M.arg24 _ σ 0 i j (i' := p) (j' := i) (k' := j) (by simp) (by simp) (by simp)).trans ?_
    rw [hI.same.get .a24 (by decide) rfl, hr]
  have ev : ∀ i j, rotW x rr (ix2 i j) = A₀.wr (tn k i) (pj p j) := by
    intro i j
    rw [rotW_at]
    simp only [ex, er]
    exact sum_bd A₀.r (A₀.w (tn k i)) p j
  refine ⟨hI.same.put hM .a25 (by decide) rfl, ?_, ?_⟩
  · intro s d hd
    exact col_step (A := 256) (B := 3584) (n := 256) (e := .f32) (m := M.arg25) (o := 256 * p.val) (f := fun s d => A₀.wr (tn k s) d) hI.wr _
      (fun s j => (congrFun (shapeCast_self _ _) _).trans (ev s j)) s d (by omega)
  · intro s
    have := amaxI_step (hI.am s)
    show AmaxI _ _ fun l => amaxStep a (rotW x rr) (ix2 s l)
    simp only [amaxStep_at, ev]
    exact this

include hM in
theorem main1_spec (A₀ : D) (k : Fin 18) (σ₀ : Mem) (hw : ∀ s d, get M.arg2 σ₀ (ix2 s d) = A₀.w (tn k s) d)
    (hr : ∀ q i j, get M.arg24 σ₀ (ix3 q i j) = bd A₀.r q i j) (K : FVec Ideal S256x128 .f32 → Mem → Prop)
    (hK : ∀ a σ, Main1I M A₀ k σ₀ 14 a σ → K a σ) :
    loop 14 (main1 stH M) (broadcast S256x128 (Scalar.ofBits .f32 0x00000000#32)) K σ₀ := by
  refine loop_spec (Main1I M A₀ k σ₀) ?_ (fun p a σ K' hI hK' => main1_step hM A₀ k σ₀ hw hr p a σ K' hI hK') hK
  refine ⟨Same.refl, fun s d hd => absurd hd (by omega), fun s => ?_⟩
  have : (fun l : Fin 128 => (broadcast S256x128 (Scalar.ofBits .f32 0x00000000#32 : Ideal .f32) : FVec Ideal S256x128 .f32) (ix2 s l)) = fun _ => 0 := by
    funext l
    pointwise
  rw [this]
  exact amaxI_zero _

/-- Row `i` of row block `c`. -/
def cr (c : Fin 8) (i : Fin 32) : Fin 256 := ⟨32 * c + i, by omega⟩

/-- A squared residual of the codes. -/
def eq2 (A₀ : D) (n : Fin 4608) (d : Fin 3584) : EReal :=
  (A₀.wr n d - A₀.sw n * A₀.cw n d) * (A₀.wr n d - A₀.sw n * A₀.cw n d)

/-- What holds after `b` rounds of the inner loop of row block `c`. -/
structure Main2bI (M : Args) (A₀ : D) (k : Fin 18) (c : Fin 8) (σ₀ : Mem) (b : Nat) (a : FVec Ideal S32x128 .f32) (σ : Mem) : Prop where
  same : Same M [.a20, .a30] σ₀ σ
  c20 : ∀ s d, (s.val < 32 * c.val ∨ (s.val < 32 * c.val + 32 ∧ d.val < 128 * b)) → get M.arg20 σ (ix2 s d) = i8 (A₀.cw (tn k s) d)
  c30 : ∀ s d, (s.val < 32 * c.val ∨ (s.val < 32 * c.val + 32 ∧ d.val < 128 * b)) → get M.arg30 σ (ix2 s d) = A₀.cw (tn k s) d
  er : ∀ i l, a (ix2 i l) = pre b fun q : Fin 28 => eq2 A₀ (tn k (cr c i)) (bk q l)

include hM in
theorem main2b_step (A₀ : D) (k : Fin 18) (c : Fin 8) (sc : FVec Ideal S256x1 .f32) (hs : ∀ s, sc (ix2 s 0) = A₀.sw (tn k s)) (σ₀ : Mem)
    (hw : ∀ s d, get M.arg25 σ₀ (ix2 s d) = A₀.wr (tn k s) d)
    (b : Fin 28) (a) (σ : Mem) (K : FVec Ideal S32x128 .f32 → Mem → Prop) (hI : Main2bI M A₀ k c σ₀ b a σ)
    (hK : ∀ a' σ', Main2bI M A₀ k c σ₀ (b + 1) a' σ' → K a' σ') : main2b stH M sc c b a K σ := by
  refine hK _ _ ?_
  set v : Vec Ideal S32x128 .f32 := fun q => get M.arg25 σ ((Rect.unit (s := S256x3584) ![32 * c, 128 * b] S32x128.size (inb2 (by omega) (by omega))).toLoadRect.idx q) with hv
  have ev : ∀ i j, v (ix2 i j) = A₀.wr (tn k (cr c i)) (bk b j) := by
    intro i j
    refine (ld2 (A := 256) (B := 3584) (a := 32) (b := 128) M.arg25 _ σ i j (i' := cr c i) (j' := bk b j) rfl (by simp [bk]; omega)).trans ?_
    rw [hI.same.get .a25 (by decide) rfl, hw]
  have es : ∀ i j, scRows sc c (ix2 i j) = A₀.sw (tn k (cr c i)) := by
    intro i j; rw [scRows_at]; exact hs (cr c i)
  have ec : ∀ i j, code7 (scRows sc c) v (ix2 i j) = A₀.cw (tn k (cr c i)) (bk b j) := by
    intro i j; rw [code7_at, es, ev]; rfl
  have hbk : ∀ (j : Fin 128) (h : 128 * b.val + j.val < 3584), (⟨128 * b.val + j.val, h⟩ : Fin 3584) = bk b j := by
    intro j h; apply Fin.ext; simp [bk]; omega
  set τ1 : Mem := put M.arg20 (Rect.unit (s := S256x3584) ![32 * c, 128 * b] S32x128.size (inb2 (by omega) (by omega))) (fptosi 8 (code7 (scRows sc c) v)) Finset.univ σ with hτ1
  refine ⟨(hI.same.put hM .a20 (by decide) rfl).put hM .a30 (by decide) rfl, ?_, ?_, ?_⟩
  · intro s d hd
    refine (congrFun (get_put_other hM .a20 .a30 (by decide) rfl rfl) _).trans ?_
    refine put2_known (A := 256) (B := 3584) (a := 32) (b := 128) (e := .i8) M.arg20 (fun s d => i8 (A₀.cw (tn k s) d)) _ hI.c20 (fun i j => ?_) s d (by omega)
    rw [hbk]
    exact congrArg i8 (ec i j)
  · intro s d hd
    refine put2_known (A := 256) (B := 3584) (a := 32) (b := 128) (e := .bf16) M.arg30 (fun s d => A₀.cw (tn k s) d) (σ := τ1) _
      (fun s d h => (congrFun (get_put_other hM .a30 .a20 (by decide) rfl rfl) _).trans (hI.c30 s d h)) (fun i j => ?_) s d (by omega)
    rw [hbk]
    exact (congrFun (shapeCast_self _ _) _).trans (ec i j)
  · intro i l
    show errStep (scRows sc c) a v (ix2 i l) = _
    rw [errStep_at, pre_succ _ b.isLt, hI.er, es, ev]
    rfl

/-- What holds after `c` row blocks. -/
structure Main2I (M : Args) (A₀ : D) (k : Fin 18) (σ₀ : Mem) (c : Nat) (e : Fin 8 → FVec Ideal S32x1 .f32) (σ : Mem) : Prop where
  same : Same M [.a20, .a30] σ₀ σ
  c20 : ∀ s d, s.val < 32 * c → get M.arg20 σ (ix2 s d) = i8 (A₀.cw (tn k s) d)
  c30 : ∀ s d, s.val < 32 * c → get M.arg30 σ (ix2 s d) = A₀.cw (tn k s) d
  er : ∀ (q : Fin 8) i, q.val < c → e q (ix2 i 0) = A₀.er (tn k (cr q i))

include hM in
theorem main2_step (A₀ : D) (k : Fin 18) (sc : FVec Ideal S256x1 .f32) (hs : ∀ s, sc (ix2 s 0) = A₀.sw (tn k s)) (σ₀ : Mem)
    (hw : ∀ s d, get M.arg25 σ₀ (ix2 s d) = A₀.wr (tn k s) d)
    (c : Fin 8) (e) (σ : Mem) (K : (Fin 8 → FVec Ideal S32x1 .f32) → Mem → Prop) (hI : Main2I M A₀ k σ₀ c e σ)
    (hK : ∀ a' σ', Main2I M A₀ k σ₀ (c + 1) a' σ' → K a' σ') : main2 stH M sc c e K σ := by
  unfold main2
  refine loop_spec (Main2bI M A₀ k c σ) ?_ (fun p a σ' K' hI' hK' => main2b_step hM A₀ k c sc hs σ ?_ p a σ' K' hI' hK') ?_
  · refine ⟨Same.refl, fun s d hd => hI.c20 s d (by omega), fun s d hd => hI.c30 s d (by omega), fun i l => ?_⟩
    rw [pre_zero]; pointwise
  · intro s d
    rw [hI.same.get .a25 (by decide) rfl, hw]
  · intro a τ hJ
    refine hK _ _ ⟨hI.same.trans hJ.same, fun s d hd => hJ.c20 s d (by have := d.isLt; omega), fun s d hd => hJ.c30 s d (by have := d.isLt; omega), ?_⟩
    intro q i hq
    by_cases hqc : q = c
    · subst hqc
      rw [if_pos rfl, laneSum_at]
      simp only [hJ.er, pre_all 28 (Nat.le_refl _)]
      rw [Finset.sum_comm]
      exact sum_blocks 28 128 rfl (eq2 A₀ (tn k (cr q i)))
    · rw [if_neg hqc]
      exact hI.er q i (by have : q.val ≠ c.val := fun e => hqc (Fin.ext e); omega)

end Cert.KernelIdeal.Spin

end
-- ==== Proof.Main2.lean ====
/- The main step: the residual of the product and what is summed of it. -/
module

public import proofs.«01_k».proof.Proof.Main1

@[expose] public section

noncomputable section

namespace Cert.KernelIdeal.Spin

open Idealize.ShloMosaic Cert.KernelIdeal.Gen _root_.Spin

variable {M : Args} (hM : Function.Injective M.rf)

/-- Tile `t`'s part of `p`. -/
def pT (A₀ : D) (s : Fin 256) (d : Fin 3584) (t : Fin 18) : EReal := ∑ j, A₀.e s (tn t j) * A₀.sw (tn t j) * A₀.cw (tn t j) d
/-- Tile `t`'s part of the weights' gradient, transposed. -/
def gT (A₀ : D) (h : Fin 28) (i j : Fin 128) (t : Fin 18) : EReal := ∑ n, A₀.qq (tn t n) (bk h i) * A₀.w (tn t n) (bk h j)
/-- Tile `t`'s part of the loss. -/
def lT (A₀ : D) (i : Fin 8) (j : Fin 256) (t : Fin 18) : EReal :=
  ∑ q : Fin 32, A₀.e ⟨q.val * 8 + i.val, by omega⟩ (tn t j) * A₀.e ⟨q.val * 8 + i.val, by omega⟩ (tn t j)

/-- What the scratch holds after `n` tiles. -/
structure Inv (M : Args) (A₀ : D) (n : Nat) (σ : Mem) : Prop where
  rd : ∀ q i j, get M.arg24 σ (ix3 q i j) = bd A₀.r q i j
  c26 : ∀ s d, get M.arg26 σ (ix2 s d) = A₀.cx s d
  c27 : ∀ d s, get M.arg27 σ (ix2 d s) = A₀.cx s d
  c28 : ∀ d s, get M.arg28 σ (ix2 d s) = A₀.x s d
  c29 : ∀ s l, get M.arg29 σ (ix2 s l) = A₀.sx s
  p32 : ∀ s d, get M.arg32 σ (ix2 s d) = pre n (pT A₀ s d)
  p33 : ∀ h i j, get M.arg33 σ (ix3 h i j) = pre n (gT A₀ h i j)
  p35 : ∀ i j, get M.arg35 σ (ix2 i j) = pre n (lT A₀ i j)

/-- After the prologue the scratch holds what it should after no tiles. -/
theorem ProI.inv {A₀ : D} {σ₀ σ : Mem} (h : ProI M A₀ σ₀ σ) : Inv M A₀ 0 σ :=
  ⟨h.rd, h.c26, h.c27, h.c28, h.c29, fun s d => (h.c32 s d).trans (pre_zero _).symm, fun a i j => (h.c33 a i j).trans (pre_zero _).symm,
    fun i j => (h.c35 i j).trans (pre_zero _).symm⟩

/-- The third loop. -/
structure Main3I (M : Args) (A₀ : D) (k : Fin 18) (σ₀ : Mem) (p : Nat) (σ : Mem) : Prop where
  same : Same M [.a32] σ₀ σ
  new : ∀ s d, d.val < 256 * p → get M.arg32 σ (ix2 s d) = pre (k.val + 1) (pT A₀ s d)
  old : ∀ s d, 256 * p ≤ d.val → get M.arg32 σ (ix2 s d) = pre k.val (pT A₀ s d)

include hM in
theorem main3_step (A₀ : D) (k : Fin 18) (σ₀ : Mem) (hc : ∀ s d, get M.arg30 σ₀ (ix2 s d) = A₀.cw (tn k s) d)
    (ew : FVec Ideal S256x256 .bf16) (he : ∀ i j, ew (ix2 i j) = A₀.e i (tn k j) * A₀.sw (tn k j))
    (p : Fin 14) (σ : Mem) (K : Unit → Mem → Prop) (hI : Main3I M A₀ k σ₀ p σ)
    (hK : ∀ a' σ', Main3I M A₀ k σ₀ (p + 1) σ' → K a' σ') : main3 stH M ew p ⟨⟩ K σ := by
  refine hK _ _ ?_
  set a : Vec Ideal S256x256 .f32 := fun q => get M.arg32 σ ((Rect.unit (s := S256x3584) ![0, 256 * p] S256x256.size (inb2 (by omega) (by omega))).toLoadRect.idx q) with ha
  set qv : Vec Ideal S256x256 .bf16 := fun q => get M.arg30 σ ((Rect.unit (s := S256x3584) ![0, 256 * p] S256x256.size (inb2 (by omega) (by omega))).toLoadRect.idx q) with hqv
  have ea : ∀ i j, a (ix2 i j) = pre k.val (pT A₀ i (pj p j)) := by
    intro i j
    refine (ld2 (A := 256) (B := 3584) (a := 256) (b := 256) M.arg32 _ σ i j (i' := i) (j' := pj p j) (by simp) rfl).trans ?_
    exact hI.old _ _ (by simp [pj])
  have eq : ∀ i j, qv (ix2 i j) = A₀.cw (tn k i) (pj p j) := by
    intro i j
    refine (ld2 (A := 256) (B := 3584) (a := 256) (b := 256) M.arg30 _ σ i j (i' := i) (j' := pj p j) (by simp) rfl).trans ?_
    rw [hI.same.get .a30 (by decide) rfl, hc]
  have ev : ∀ i j, pStep ew a qv (ix2 i j) = pre (k.val + 1) (pT A₀ i (pj p j)) := by
    intro i j
    rw [pStep_at, ea, pre_succ _ k.isLt]
    simp only [he, eq]
    rfl
  refine ⟨hI.same.put hM .a32 (by decide) rfl, ?_, ?_⟩
  · intro s d hd
    exact col_step (A := 256) (B := 3584) (n := 256) (e := .f32) (m := M.arg32) (o := 256 * p.val) (f := fun s d => pre (k.val + 1) (pT A₀ s d)) hI.new _
      (fun s j => (congrFun (shapeCast_self _ _) _).trans (ev s j)) s d (by omega)
  · intro s d hd
    refine (get_put2 M.arg32 _ _ _ s d).trans ?_
    rw [dif_neg (by omega)]
    exact hI.old s d (by omega)

/-- The fourth loop. -/
structure Main4I (M : Args) (A₀ : D) (k : Fin 18) (σ₀ : Mem) (p : Nat) (σ : Mem) : Prop where
  same : Same M [.a31] σ₀ σ
  new : ∀ d j, d.val < 256 * p → get M.arg31 σ (ix2 d j) = A₀.qq (tn k j) d

include hM in
theorem main4_step (A₀ : D) (k : Fin 18) (σ₀ : Mem) (hc : ∀ d s, get M.arg27 σ₀ (ix2 d s) = A₀.cx s d)
    (ew : FVec Ideal S256x256 .bf16) (he : ∀ i j, ew (ix2 i j) = A₀.e i (tn k j) * A₀.sx i)
    (p : Fin 14) (σ : Mem) (K : Unit → Mem → Prop) (hI : Main4I M A₀ k σ₀ p σ)
    (hK : ∀ a' σ', Main4I M A₀ k σ₀ (p + 1) σ' → K a' σ') : main4 stH M ew p ⟨⟩ K σ := by
  refine hK _ _ ?_
  set qv : Vec Ideal S256x256 .bf16 := fun q => get M.arg27 σ ((Rect.unit (s := S3584x256) ![256 * p, 0] S256x256.size (inb2 (by omega) (by omega))).toLoadRect.idx q) with hqv
  have eq : ∀ i j, qv (ix2 i j) = A₀.cx j (pj p i) := by
    intro i j
    refine (ld2 (A := 3584) (B := 256) (a := 256) (b := 256) M.arg27 _ σ i j (i' := pj p i) (j' := j) rfl (by simp)).trans ?_
    rw [hI.same.get .a27 (by decide) rfl, hc]
  have ev : ∀ i j, qStep ew qv (ix2 i j) = A₀.qq (tn k j) (pj p i) := by
    intro i j
    rw [qStep_at]
    simp only [he, eq]
    exact Finset.sum_congr rfl fun s _ => mul_comm _ _
  refine ⟨hI.same.put hM .a31 (by decide) rfl, ?_⟩
  intro s d hd
  exact row_step (A := 3584) (B := 256) (n := 256) (e := .bf16) (m := M.arg31) (o := 256 * p.val) (f := fun d j => A₀.qq (tn k j) d) hI.new _
      (fun s j => (congrFun (shapeCast_self _ _) _).trans (ev s j)) s d (by omega)

/-- The fifth loop. -/
structure Main5I (M : Args) (A₀ : D) (k : Fin 18) (σ₀ : Mem) (p : Nat) (σ : Mem) : Prop where
  same : Same M [.a33] σ₀ σ
  new : ∀ h i j, h.val < p → get M.arg33 σ (ix3 h i j) = pre (k.val + 1) (gT A₀ h i j)
  old : ∀ h i j, p ≤ h.val → get M.arg33 σ (ix3 h i j) = pre k.val (gT A₀ h i j)

include hM in
theorem main5_step (A₀ : D) (k : Fin 18) (σ₀ : Mem) (hq : ∀ d j, get M.arg31 σ₀ (ix2 d j) = A₀.qq (tn k j) d)
    (hw : ∀ s d, get M.arg2 σ₀ (ix2 s d) = A₀.w (tn k s) d)
    (p : Fin 28) (σ : Mem) (K : Unit → Mem → Prop) (hI : Main5I M A₀ k σ₀ p σ)
    (hK : ∀ a' σ', Main5I M A₀ k σ₀ (p + 1) σ' → K a' σ') : main5 stH M p ⟨⟩ K σ := by
  refine hK _ _ ?_
  set g : Vec Ideal S1x128x128 .f32 := fun q => get M.arg33 σ ((Rect.unit (s := S28x128x128) ![p, 0, 0] S1x128x128.size (inb3 (by omega) (by omega) (by omega))).toLoadRect.idx q) with hg
  set qv : Vec Ideal S128x256 .bf16 := fun q => get M.arg31 σ ((Rect.unit (s := S3584x256) ![128 * p, 0] S128x256.size (inb2 (by omega) (by omega))).toLoadRect.idx q) with hqv
  set wv : Vec Ideal S256x128 .bf16 := fun q => get M.arg2 σ ((Rect.unit (s := S256x3584) ![0, 128 * p] S256x128.size (inb2 (by omega) (by omega))).toLoadRect.idx q) with hwv
  have eg : ∀ i j, g (ix3 0 i j) = pre k.val (gT A₀ p i j) := by
    intro i j
    refine (ld3 (A := 28) (B := 128) (C := 128) (a := 1) (b := 128) (c := 128) M.arg33 _ σ 0 i j (i' := p) (j' := i) (k' := j) (by simp) (by simp) (by simp)).trans ?_
    exact hI.old _ _ _ (Nat.le_refl _)
  have eq : ∀ i j, qv (ix2 i j) = A₀.qq (tn k j) (bk p i) := by
    intro i j
    refine (ld2 (A := 3584) (B := 256) (a := 128) (b := 256) M.arg31 _ σ i j (i' := bk p i) (j' := j) (by simp [bk]; omega) (by simp)).trans ?_
    rw [hI.same.get .a31 (by decide) rfl, hq]
  have ew : ∀ i j, wv (ix2 i j) = A₀.w (tn k i) (bk p j) := by
    intro i j
    refine (ld2 (A := 256) (B := 3584) (a := 256) (b := 128) M.arg2 _ σ i j (i' := i) (j' := bk p j) (by simp) (by simp [bk]; omega)).trans ?_
    rw [hI.same.get .a2 (by decide) rfl, hw]
  have ev : ∀ i j, gStep g qv wv (ix2 i j) = pre (k.val + 1) (gT A₀ p i j) := by
    intro i j
    rw [gStep_at, eg, pre_succ _ k.isLt]
    simp only [eq, ew]
    rfl
  refine ⟨hI.same.put hM .a33 (by decide) rfl, ?_, ?_⟩
  · intro h i j hh
    by_cases hp : h = p
    · subst hp
      exact (put3_in (A := 28) (B := 128) (C := 128) (a := 1) (b := 128) (c := 128) M.arg33 _ _ _ h i j 0 i j (by simp) (by simp) (by simp)).trans
        ((blk_at _ _ _ _).trans (ev i j))
    · have : h.val ≠ p.val := fun e => hp (Fin.ext e)
      refine (get_put3 M.arg33 _ _ _ h i j).trans ?_
      rw [dif_neg (by omega)]
      exact hI.new h i j (by omega)
  · intro h i j hh
    refine (get_put3 M.arg33 _ _ _ h i j).trans ?_
    rw [dif_neg (by omega)]
    exact hI.old h i j (by omega)

end Cert.KernelIdeal.Spin

end
-- ==== Proof.Main3.lean ====
/- The main step: what it leaves. -/
module

public import proofs.«01_k».proof.Proof.Main2

@[expose] public section

noncomputable section

namespace Cert.KernelIdeal.Spin

open Idealize.ShloMosaic Cert.KernelIdeal.Gen _root_.Spin

variable {M : Args} (hM : Function.Injective M.rf)

/-- A store at offsets given by an equation. -/
theorem put_off {cs : CoreSpace} {s : Shape} {e : EltTy} (m : Memref sig .tc cs s e) {o o' : Fin s.rank → Nat} (h : o = o')
    (sz : Fin s.rank → Nat) (hb : ∀ a, o a + sz a ≤ s.size a) (w : (Rect.unit (s := s) o sz hb).shape.Idx → Elt Ideal e) (σ : Mem) :
    put m (Rect.unit (s := s) o sz hb) w Finset.univ σ = put m (Rect.unit (s := s) o' sz (h ▸ hb)) w Finset.univ σ := by
  subst h; rfl

/-- What a main step leaves, from the memory it starts at. -/
structure MainI (M : Args) (A₀ : D) (k : Fin 18) (σ₀ σ : Mem) : Prop where
  same : Same M [.a15, .a16, .a20, .a21, .a25, .a30, .a31, .a32, .a33, .a35] σ₀ σ
  inv : Inv M A₀ (k.val + 1) σ
  c20 : ∀ s d, get M.arg20 σ (ix2 s d) = i8 (A₀.cw (tn k s) d)
  c16 : ∀ i j, get M.arg16 σ (ix2 i j) = A₀.e i (tn k j)
  c15 : ∀ z n, (256 * k.val ≤ n.val ∧ n.val < 256 * k.val + 256) → get M.arg15 σ (ix2 z n) = A₀.er n
  o15 : ∀ z n, ¬ (256 * k.val ≤ n.val ∧ n.val < 256 * k.val + 256) → get M.arg15 σ (ix2 z n) = get M.arg15 σ₀ (ix2 z n)
  c21 : ∀ z n, (256 * k.val ≤ n.val ∧ n.val < 256 * k.val + 256) → get M.arg21 σ (ix2 z n) = A₀.sw n
  o21 : ∀ z n, ¬ (256 * k.val ≤ n.val ∧ n.val < 256 * k.val + 256) → get M.arg21 σ (ix2 z n) = get M.arg21 σ₀ (ix2 z n)

/-- Position `j` of tile `k` is the number `256 * k + j`. -/
theorem tn_mk (k : Fin 18) (j : Fin 256) (n : Fin 4608) (h : n.val = 256 * k.val + j.val) : tn k j = n := Fin.ext h.symm

include hM in
theorem main6_spec (A₀ : D) (k : Fin 18) (i : grid0.Coords) (h2 : k0_cond2 i = 1#1) (hoff : k0_off1 i = ![0, 256 * k.val])
    (sc : FVec Ideal S256x1 .f32) (hs : ∀ s, sc (ix2 s 0) = A₀.sw (tn k s)) (e : Fin 8 → FVec Ideal S32x1 .f32)
    (he : ∀ (q : Fin 8) i, e q (ix2 i 0) = A₀.er (tn k (cr q i))) (σ₀ : Mem)
    (hw : ∀ s d, get M.arg2 σ₀ (ix2 s d) = A₀.w (tn k s) d) (hy : ∀ s j, get M.arg3 σ₀ (ix2 s j) = A₀.y s (tn k j))
    (hc : ∀ s d, get M.arg30 σ₀ (ix2 s d) = A₀.cw (tn k s) d) (hc20 : ∀ s d, get M.arg20 σ₀ (ix2 s d) = i8 (A₀.cw (tn k s) d))
    (hI : Inv M A₀ k.val σ₀) (K : Mem → Prop) (hK : ∀ σ, MainI M A₀ k σ₀ σ → K σ) : main6 stH M i h2 sc e K σ₀ := by
  set τ1 : Mem := put M.arg21 (Rect.unit (s := S1x4608) (k0_off1 i) S1x256.size (k0_off1_inb i h2)) (colRow sc) Finset.univ σ₀ with hτ1
  set τ2 : Mem := put M.arg15 (Rect.unit (s := S1x4608) (k0_off1 i) S1x256.size (k0_off1_inb i h2)) (errRow e) Finset.univ τ1 with hτ2
  have s2 : Same M [.a15, .a21] σ₀ τ2 := (Same.refl.put hM .a21 (by decide) rfl).put hM .a15 (by decide) rfl
  set sx : Vec Ideal S256x1 .f32 := fun q => get M.arg29 τ2 ((Rect.unit (s := S256x128) ![0, 0] S256x1.size (inb2 (by omega) (by omega))).toLoadRect.idx q) with hsx
  set qx : Vec Ideal S256x3584 .bf16 := fun q => get M.arg26 τ2 ((Rect.unit (s := S256x3584) ![0, 0] S256x3584.size (inb2 (by omega) (by omega))).toLoadRect.idx q) with hqx
  set qw : Vec Ideal S256x3584 .bf16 := fun q => get M.arg30 τ2 ((Rect.unit (s := S256x3584) ![0, 0] S256x3584.size (inb2 (by omega) (by omega))).toLoadRect.idx q) with hqw
  set y : Vec Ideal S256x256 .bf16 := fun q => get M.arg3 τ2 ((Rect.unit (s := S256x256) ![0, 0] S256x256.size (inb2 (by omega) (by omega))).toLoadRect.idx q) with hyv
  have esx : ∀ i, sx (ix2 i 0) = A₀.sx i := by
    intro i
    refine (ld2 (A := 256) (B := 128) (a := 256) (b := 1) M.arg29 _ τ2 i 0 (i' := i) (j' := 0) (by simp) (by simp)).trans ?_
    rw [s2.get .a29 (by decide) rfl, hI.c29]
  have eqx : ∀ i d, qx (ix2 i d) = A₀.cx i d := by
    intro i d
    refine (ld2 (A := 256) (B := 3584) (a := 256) (b := 3584) M.arg26 _ τ2 i d (i' := i) (j' := d) (by simp) (by simp)).trans ?_
    rw [s2.get .a26 (by decide) rfl, hI.c26]
  have eqw : ∀ i d, qw (ix2 i d) = A₀.cw (tn k i) d := by
    intro i d
    refine (ld2 (A := 256) (B := 3584) (a := 256) (b := 3584) M.arg30 _ τ2 i d (i' := i) (j' := d) (by simp) (by simp)).trans ?_
    rw [s2.get .a30 (by decide) rfl, hc]
  have ey : ∀ i j, y (ix2 i j) = A₀.y i (tn k j) := by
    intro i j
    refine (ld2 (A := 256) (B := 256) (a := 256) (b := 256) M.arg3 _ τ2 i j (i' := i) (j' := j) (by simp) (by simp)).trans ?_
    rw [s2.get .a3 (by decide) rfl, hy]
  set E : FVec Ideal S256x256 .f32 := resid sc sx qx qw y with hE
  have eE : ∀ i j, E (ix2 i j) = A₀.e i (tn k j) := by
    intro i j
    rw [hE, resid_at, esx, hs, ey]
    simp only [eqx, eqw]
    rfl
  set τ3 : Mem := put M.arg16 (Rect.unit (s := S256x256) ![0, 0] S256x256.size (inb2 (by omega) (by omega))) E Finset.univ τ2 with hτ3
  have s3 : Same M [.a15, .a21, .a16] σ₀ τ3 := (s2.mono (by simp)).put hM .a16 (by decide) rfl
  set l : Vec Ideal S8x256 .f32 := fun q => get M.arg35 τ3 ((Rect.unit (s := S8x256) ![0, 0] S8x256.size (inb2 (by omega) (by omega))).toLoadRect.idx q) with hl
  have el : ∀ i j, l (ix2 i j) = pre k.val (lT A₀ i j) := by
    intro i j
    refine (ld2 (A := 8) (B := 256) (a := 8) (b := 256) M.arg35 _ τ3 i j (i' := i) (j' := j) (by simp) (by simp)).trans ?_
    rw [s3.get .a35 (by decide) rfl, hI.p35]
  have eL : ∀ i j, lossStep E l (ix2 i j) = pre (k.val + 1) (lT A₀ i j) := by
    intro i j
    rw [lossStep_at, el, pre_succ _ k.isLt]
    simp only [eE]
    rfl
  set τ4 : Mem := put M.arg35 (Rect.unit (s := S8x256) ![0, 0] S8x256.size (inb2 (by omega) (by omega)))
    (shapeCast S8x256 (lossStep E l) shapeCasts_S8x256_S8x256) Finset.univ τ3 with hτ4
  have s4 : Same M [.a15, .a21, .a16, .a35] σ₀ τ4 := (s3.mono (by simp)).put hM .a35 (by decide) rfl
  dsimp only [main6, stH]
  refine loop_spec (σ := τ4) (fun p _ σ => Main3I M A₀ k τ4 p σ) ⟨Same.refl, fun _ d hd => absurd hd (by omega), fun s d _ => ?_⟩
    (fun p _ σ K' hI' hK' => main3_step hM A₀ k τ4 ?_ _ ?_ p σ K' hI' hK') ?_
  · rw [s4.get .a32 (by decide) rfl, hI.p32]
  · intro s d; rw [s4.get .a30 (by decide) rfl, hc]
  · intro a b
    refine (resW_at _ _ _ _).trans ?_
    exact congrArg₂ (· * ·) (eE a b) (hs b)
  intro _ τ5 h5
  have s5 : Same M [.a15, .a21, .a16, .a35, .a32] σ₀ τ5 := (s4.mono (by simp)).trans (h5.same.mono (by simp))
  refine loop_spec (fun p _ σ => Main4I M A₀ k τ5 p σ) ⟨Same.refl, fun d _ hd => absurd hd (by omega)⟩
    (fun p _ σ K' hI' hK' => main4_step hM A₀ k τ5 ?_ _ ?_ p σ K' hI' hK') ?_
  · intro d s; rw [s5.get .a27 (by decide) rfl, hI.c27]
  · intro a b
    refine (resX_at _ _ _ _).trans ?_
    exact congrArg₂ (· * ·) (eE a b) (esx a)
  intro _ τ6 h6
  have s6 : Same M [.a15, .a21, .a16, .a35, .a32, .a31] σ₀ τ6 := (s5.mono (by simp)).trans (h6.same.mono (by simp))
  refine loop_spec (fun p _ σ => Main5I M A₀ k τ6 p σ) ⟨Same.refl, fun d _ _ hd => absurd hd (by omega), fun h a b _ => ?_⟩
    (fun p _ σ K' hI' hK' => main5_step hM A₀ k τ6 (fun d j => h6.new d j (by omega)) ?_ p σ K' hI' hK') ?_
  · rw [s6.get .a33 (by decide) rfl, hI.p33]
  · intro s d; rw [s6.get .a2 (by decide) rfl, hw]
  intro _ τ7 h7
  have s7 : Same M [.a15, .a21, .a16, .a35, .a32, .a31, .a33] σ₀ τ7 := (s6.mono (by simp)).trans (h7.same.mono (by simp))
  have t7 : Same M [.a32, .a31, .a33] τ4 τ7 := ((h5.same.mono (by simp)).trans (h6.same.mono (by simp))).trans (h7.same.mono (by simp))
  refine hK _ ⟨s7.mono (by simp), ⟨?_, ?_, ?_, ?_, ?_, ?_, ?_, ?_⟩, ?_, ?_, ?_, ?_, ?_, ?_⟩
  · intro q a b; rw [s7.get .a24 (by decide) rfl, hI.rd]
  · intro a b; rw [s7.get .a26 (by decide) rfl, hI.c26]
  · intro a b; rw [s7.get .a27 (by decide) rfl, hI.c27]
  · intro a b; rw [s7.get .a28 (by decide) rfl, hI.c28]
  · intro a b; rw [s7.get .a29 (by decide) rfl, hI.c29]
  · intro a b
    rw [h7.same.get .a32 (by decide) rfl, h6.same.get .a32 (by decide) rfl, h5.new a b (by omega)]
  · intro q a b; exact h7.new q a b (by omega)
  · intro a b
    rw [t7.get .a35 (by decide) rfl]
    exact (whole2 (A := 8) (B := 256) _ a b).trans ((congrFun (shapeCast_self _ _) _).trans (eL a b))
  · intro a b; rw [s7.get .a20 (by decide) rfl, hc20]
  · intro a b
    rw [t7.get .a16 (by decide) rfl]
    refine (congrFun (get_put_other hM .a16 .a35 (by decide) rfl rfl) _).trans ?_
    exact (whole2 (A := 256) (B := 256) _ a b).trans (eE a b)
  · intro z n hn
    rw [t7.get .a15 (by decide) rfl]
    refine (congrFun (get_put_other hM .a15 .a35 (by decide) rfl rfl) _).trans ?_
    refine (congrFun (get_put_other hM .a15 .a16 (by decide) rfl rfl) _).trans ?_
    rw [hτ2, put_off M.arg15 hoff]
    refine (put2_in (A := 1) (B := 4608) (a := 1) (b := 256) M.arg15 _ _ _ z n 0 ⟨n.val - 256 * k.val, by omega⟩ (by simp) (by simp; omega)).trans ?_
    rw [errRow_at, he]
    congr 1
    apply Fin.ext
    simp [tn, cr]
    omega
  · intro z n hn
    rw [t7.get .a15 (by decide) rfl]
    refine (congrFun (get_put_other hM .a15 .a35 (by decide) rfl rfl) _).trans ?_
    refine (congrFun (get_put_other hM .a15 .a16 (by decide) rfl rfl) _).trans ?_
    rw [hτ2, put_off M.arg15 hoff]
    refine (get_put2 (A := 1) (B := 4608) (a := 1) (b := 256) M.arg15 _ _ _ z n).trans ?_
    rw [dif_neg (by omega)]
    exact congrFun (get_put_other hM .a15 .a21 (by decide) rfl rfl) _
  · intro z n hn
    rw [t7.get .a21 (by decide) rfl]
    refine (congrFun (get_put_other hM .a21 .a35 (by decide) rfl rfl) _).trans ?_
    refine (congrFun (get_put_other hM .a21 .a16 (by decide) rfl rfl) _).trans ?_
    refine (congrFun (get_put_other hM .a21 .a15 (by decide) rfl rfl) _).trans ?_
    rw [hτ1, put_off M.arg21 hoff]
    refine (put2_in (A := 1) (B := 4608) (a := 1) (b := 256) M.arg21 _ _ _ z n 0 ⟨n.val - 256 * k.val, by omega⟩ (by simp) (by simp; omega)).trans ?_
    rw [colRow_at, hs]
    congr 1
    apply Fin.ext
    simp [tn]
    omega
  · intro z n hn
    rw [t7.get .a21 (by decide) rfl]
    refine (congrFun (get_put_other hM .a21 .a35 (by decide) rfl rfl) _).trans ?_
    refine (congrFun (get_put_other hM .a21 .a16 (by decide) rfl rfl) _).trans ?_
    refine (congrFun (get_put_other hM .a21 .a15 (by decide) rfl rfl) _).trans ?_
    rw [hτ1, put_off M.arg21 hoff]
    refine (get_put2 (A := 1) (B := 4608) (a := 1) (b := 256) M.arg21 _ _ _ z n).trans ?_
    rw [dif_neg (by omega)]

include hM in
/-- The main step. -/
theorem main_spec (A₀ : D) (k : Fin 18) (i : grid0.Coords) (h2 : k0_cond2 i = 1#1) (hoff : k0_off1 i = ![0, 256 * k.val]) (σ₀ : Mem)
    (hw : ∀ s d, get M.arg2 σ₀ (ix2 s d) = A₀.w (tn k s) d) (hy : ∀ s j, get M.arg3 σ₀ (ix2 s j) = A₀.y s (tn k j))
    (hI : Inv M A₀ k.val σ₀) (K : Mem → Prop) (hK : ∀ σ, MainI M A₀ k σ₀ σ → K σ) : mainStep stH M i h2 K σ₀ := by
  refine main1_spec hM A₀ k σ₀ hw hI.rd _ fun a τ1 h1 => ?_
  have hs : ∀ s, scaleOf 0x40E00000#32 a (ix2 s 0) = A₀.sw (tn k s) := by
    intro s; rw [scale7_at, amaxI_end (h1.am s)]; rfl
  refine loop_spec (Main2I M A₀ k τ1) ⟨Same.refl, fun s _ hs => absurd hs (by omega), fun s _ hs => absurd hs (by omega), fun q _ hq => absurd hq (by omega)⟩
    (fun c e σ K' hI' hK' => main2_step hM A₀ k _ hs τ1 (fun s d => h1.wr s d (by omega)) c e σ K' hI' hK') fun e τ2 h2' => ?_
  have s2 : Same M [.a20, .a30, .a25] σ₀ τ2 := (h1.same.mono (by simp)).trans (h2'.same.mono (by simp))
  refine main6_spec hM A₀ k i h2 hoff _ hs e (fun q i => h2'.er q i (by omega)) τ2 ?_ ?_ (fun s d => h2'.c30 s d (by omega))
    (fun s d => h2'.c20 s d (by omega)) ⟨?_, ?_, ?_, ?_, ?_, ?_, ?_, ?_⟩ K fun σ h => hK σ ⟨(s2.mono (by simp)).trans (h.same.mono (by simp)), h.inv, h.c20, h.c16, h.c15, ?_, h.c21, ?_⟩
  · intro s d; rw [s2.get .a2 (by decide) rfl, hw]
  · intro s d; rw [s2.get .a3 (by decide) rfl, hy]
  · intro q a b; rw [s2.get .a24 (by decide) rfl, hI.rd]
  · intro a b; rw [s2.get .a26 (by decide) rfl, hI.c26]
  · intro a b; rw [s2.get .a27 (by decide) rfl, hI.c27]
  · intro a b; rw [s2.get .a28 (by decide) rfl, hI.c28]
  · intro a b; rw [s2.get .a29 (by decide) rfl, hI.c29]
  · intro a b; rw [s2.get .a32 (by decide) rfl, hI.p32]
  · intro q a b; rw [s2.get .a33 (by decide) rfl, hI.p33]
  · intro a b; rw [s2.get .a35 (by decide) rfl, hI.p35]
  · intro z n hn; rw [h.o15 z n hn, s2.get .a15 (by decide) rfl]
  · intro z n hn; rw [h.o21 z n hn, s2.get .a21 (by decide) rfl]

end Cert.KernelIdeal.Spin

end
-- ==== Proof.KVal2.lean ====
/- The kernel's tail over the extended reals, at an index. -/
module

public import proofs.«01_k».proof.Proof.Spec
public import proofs.«01_k».proof.Proof.Body3

@[expose] public section

noncomputable section

namespace Cert.KernelIdeal.Spin

open Idealize.ShloMosaic Cert.KernelIdeal.Gen _root_.Spin

/-- `tGrad` at an index. -/
theorem tGrad_at (x : Vec Ideal S128x256 .bf16) (p : Vec Ideal S256x128 .f32) (g : Vec Ideal S1x128x128 .f32) (i j : Fin 128) :
    tGrad x p g (ix2 i j) = cG * ((∑ k : Fin 256, x (ix2 i k) * p (ix2 k j)) + g (ix3 0 j i)) := by
  pointwise [tGrad]

/-- `tMom` at an index. -/
theorem tMom_at (ms : Vec Ideal S1x128 .f32) (mc : Vec Ideal S1x128x128 .i8) (g : FVec Ideal S128x128 .f32) (i j : Fin 128) :
    tMom ms mc g (ix2 i j) = cM * (FloatOps.sitofp (F := Ideal) .f32 (mc (ix3 0 i j)) * ms (ix2 0 i)) + g (ix2 i j) := by
  pointwise [tMom]

/-- `tMR` at an index. -/
theorem tMR_at (r m : FVec Ideal S128x128 .f32) (i j : Fin 128) :
    tMR r m (ix2 i j) = ∑ k : Fin 128, m (ix2 i k) * r (ix2 j k) := by
  pointwise [tMR]

/-- `tHalf` at an index. -/
theorem tHalf_at (r v : FVec Ideal S128x128 .f32) (i j : Fin 128) :
    tHalf r v (ix2 i j) = v (ix2 i j) - cH * ∑ k : Fin 128, r (ix2 i k) * ∑ l : Fin 128, r (ix2 l k) * v (ix2 l j) := by
  pointwise [tHalf]

/-- `tSkew` at an index. -/
theorem tSkew_at (r v : FVec Ideal S128x128 .f32) (i j : Fin 128) :
    tSkew r v (ix2 i j) = tHalf r v (ix2 i j) - tHalf r v (ix2 j i) := by
  pointwise [tSkew]

/-- `tNorm` at an index. -/
theorem tNorm_at (a : FVec Ideal S128x128 .f32) (i j : Fin 1) :
    tNorm a (ix2 i j) = Ideal.sqrt (∑ i : Fin 128, ∑ j : Fin 128, a (ix2 i j) * a (ix2 i j)) := by
  pointwise [tNorm]

/-- `tAmax` at an index. -/
theorem tAmax_at (a : FVec Ideal S1x1 .f32) (i j : Fin 1) : tAmax a (ix2 i j) = Ideal.div cH (a (ix2 0 0) + cE) := by
  rw [Subsingleton.elim i 0, Subsingleton.elim j 0]
  pointwise [tAmax]

/-- The one entry of a one by one matrix. -/
theorem ext_at (a : FVec Ideal S1x1 .f32) : extractAt ![0, 0] a inpos_S1x1_p0_0 = a (ix2 0 0) := by
  pointwise []

/-- `tAlpha` at an index. -/
theorem tAlpha_at (l : Ideal .f32) (a : FVec Ideal S1x1 .f32) (i j : Fin 1) : tAlpha l a (ix2 i j) = min l (tAmax a (ix2 0 0)) := by
  rw [Subsingleton.elim i 0, Subsingleton.elim j 0]
  pointwise [tAlpha]

/-- `tMul` at an index. -/
theorem tMul_at (a b : FVec Ideal S128x128 .f32) (i j : Fin 128) :
    tMul a b (ix2 i j) = ∑ k : Fin 128, a (ix2 i k) * b (ix2 k j) := by
  pointwise [tMul]

/-- `tD1` at an index. -/
theorem tD1_at (al : FVec Ideal S1x1 .f32) (u c : FVec Ideal S128x128 .f32) (i j : Fin 128) :
    tD1 al u c (ix2 i j) = (0 - al (ix2 0 0)) * u (ix2 i j) + cH * al (ix2 0 0) * al (ix2 0 0) * c (ix2 i j) := by
  pointwise [tD1, tNeg]

/-- `tStep` at an index. -/
theorem tStep_at (al : FVec Ideal S1x1 .f32) (u c : FVec Ideal S128x128 .f32) (i j : Fin 128) :
    tStep al u c (ix2 i j) = (0 - al (ix2 0 0)) * u (ix2 i j) - cH * al (ix2 0 0) * c (ix2 i j) := by
  pointwise [tStep, tNeg]

/-- `tScale` at an index. -/
theorem tScale_at (m : FVec Ideal S128x128 .f32) (i : Fin 128) (j : Fin 1) :
    tScale m (ix2 i j) = scq c127 (amax fun k : Fin 128 => m (ix2 i k)) := by
  pointwise [tScale]
  rfl

/-- `tScaleRow` at an index. -/
theorem tScaleRow_at (m : FVec Ideal S128x128 .f32) (i : Fin 1) (j : Fin 128) : tScaleRow m (ix2 i j) = tScale m (ix2 j 0) := by
  pointwise [tScaleRow]

/-- `tCode` at an index. -/
theorem tCode_at (m : FVec Ideal S128x128 .f32) (i j : Fin 128) :
    tCode m (ix2 i j) = cod n127 c127 (tScale m (ix2 i 0)) (m (ix2 i j)) := by
  pointwise [tCode]
  rfl

/-- `tMat` at an index. -/
theorem tMat_at (r : Vec Ideal S1x128x128 .f32) (i j : Fin 128) : tMat r (ix2 i j) = r (ix3 0 i j) := by
  pointwise [tMat]

/-- `tBlk` at an index. -/
theorem tBlk_at (r : FVec Ideal S128x128 .f32) (z : Fin 1) (i j : Fin 128) : tBlk r (ix3 z i j) = r (ix2 i j) := by
  pointwise [tBlk]

/-- `lossOf` at an index. -/
theorem lossOf_at (l : Vec Ideal S8x256 .f32) : lossOf l = Ideal.div (∑ i : Fin 8, ∑ j : Fin 256, l (ix2 i j)) cN := by
  pointwise [lossOf]

end Cert.KernelIdeal.Spin

end
-- ==== Proof.Tail1.lean ====
/- The tail: one block of the rotation. -/
module

public import proofs.«01_k».proof.Proof.Main3
public import proofs.«01_k».proof.Proof.KVal2

@[expose] public section

noncomputable section

namespace Cert.KernelIdeal.Spin

open Idealize.ShloMosaic Cert.KernelIdeal.Gen _root_.Spin

variable {M : Args} (hM : Function.Injective M.rf)

/-- A place of a store of rank one. -/
theorem idx1 {A : Nat} {o : Nat} (hb : ∀ a, (![o] : Fin 1 → Nat) a + (⟨1, ![1]⟩ : Shape).size a ≤ (⟨1, ![A]⟩ : Shape).size a)
    (q : (⟨1, ![1]⟩ : Shape).Idx) (h : Fin A) (hh : h.val = o) :
    (Rect.unit (s := ⟨1, ![A]⟩) ![o] (⟨1, ![1]⟩ : Shape).size hb).toLoadRect.idx q = ix1 h := by
  funext k
  match k with
  | ⟨0, _⟩ =>
    apply Fin.ext
    have : (q 0).val < 1 := (q 0).isLt
    show o + 1 * (q 0).val = h.val
    omega

/-- What a store of one value leaves. -/
theorem get_put1 {A : Nat} {o : Nat} {e : EltTy} {cs : CoreSpace} (m : Memref sig .tc cs ⟨1, ![A]⟩ e)
    (hb : ∀ a, (![o] : Fin 1 → Nat) a + (⟨1, ![1]⟩ : Shape).size a ≤ (⟨1, ![A]⟩ : Shape).size a) (v : Elt Ideal e) (σ : Mem) (h : Fin A) :
    get m (put m (Rect.unit (s := ⟨1, ![A]⟩) ![o] (⟨1, ![1]⟩ : Shape).size hb) (fun _ => v) Finset.univ σ) (ix1 h)
      = if h.val = o then v else get m σ (ix1 h) := by
  split
  · rename_i hh
    rw [← idx1 hb (ix1 0) h hh]
    exact get_put_emb m (Rect.unit (s := ⟨1, ![A]⟩) ![o] (⟨1, ![1]⟩ : Shape).size hb) (fun _ => v) σ _
  · rename_i hh
    refine get_put_of_not_mem m _ _ σ fun hm => hh ?_
    obtain ⟨q, -, hq⟩ := Finset.mem_map.mp hm
    have h0 : (o + 1 * (q 0).val) = h.val := congrArg Fin.val (congrFun hq 0)
    have l0 : (q 0).val < 1 := (q 0).isLt
    omega

/-- What a store of one block leaves. -/
theorem get_blk {N : Nat} {e : EltTy} {cs : CoreSpace} (m : Memref sig .tc cs ⟨3, ![N, 128, 128]⟩ e) (j : Fin N) (hb : In3 N 128 128 1 128 128 j 0 0)
    (w : (⟨3, ![1, 128, 128]⟩ : Shape).Idx → Elt Ideal e) (σ : Mem) (q : Fin N) (a b : Fin 128) :
    get m (put m (Rect.unit (s := ⟨3, ![N, 128, 128]⟩) ![j.val, 0, 0] (⟨3, ![1, 128, 128]⟩ : Shape).size hb) w Finset.univ σ) (ix3 q a b)
      = if q = j then w (ix3 0 a b) else get m σ (ix3 q a b) := by
  split
  · rename_i h; subst h
    exact put3_in _ _ _ _ _ _ _ _ _ _ (by simp) (by simp) (by simp)
  · rename_i h
    have : q.val ≠ j.val := fun e => h (Fin.ext e)
    rw [get_put3, dif_neg (by omega)]

/-- Block `j` of tail point `u`. -/
def hh (u : Fin 7) (j : Fin 4) : Fin 28 := ⟨4 * u + j, by omega⟩

/-- The offsets of a tail point. -/
structure Offs (i : grid0.Coords) (u : Fin 7) : Prop where
  o2 : ∀ j : Fin 4, k0_off2 i (BitVec.ofNat 32 j) = ![4 * u.val + j.val, 0, 0]
  o3 : ∀ j : Fin 4, k0_off3 i (BitVec.ofNat 32 j) = ![128 * (4 * u.val + j.val), 0]
  o4 : ∀ j : Fin 4, k0_off4 i (BitVec.ofNat 32 j) = ![0, 128 * (4 * u.val + j.val)]
  o5 : ∀ j : Fin 4, k0_off5 i (BitVec.ofNat 32 j) = ![4 * u.val + j.val, 0]
  o6 : ∀ j : Fin 4, k0_off6 i (BitVec.ofNat 32 j) = ![4 * u.val + j.val]
  o7 : ∀ j : Fin 4, k0_off7 i (BitVec.ofNat 32 j) = ![128 * (4 * u.val + j.val), 0]

/-- What the second part of one block's work leaves. -/
structure TailWI (M : Args) (A₀ : D) (u : Fin 7) (j : Fin 4) (σ₀ σ : Mem) : Prop where
  same : Same M [.a12, .a13, .a10, .a11, .a9, .a8, .a23, .a34] σ₀ σ
  n12 : ∀ h, get M.arg12 σ (ix1 h) = if h = hh u j then A₀.na h else get M.arg12 σ₀ (ix1 h)
  n13 : ∀ h, get M.arg13 σ (ix1 h) = if h = hh u j then A₀.am h else get M.arg13 σ₀ (ix1 h)
  n10 : ∀ q a b, get M.arg10 σ (ix3 q a b) = if q = j then A₀.c1 (hh u j) a b else get M.arg10 σ₀ (ix3 q a b)
  n11 : ∀ q a b, get M.arg11 σ (ix3 q a b) = if q = j then A₀.c2 (hh u j) a b else get M.arg11 σ₀ (ix3 q a b)
  n9 : ∀ q a b, get M.arg9 σ (ix3 q a b) = if q = j then A₀.st (hh u j) a b else get M.arg9 σ₀ (ix3 q a b)
  n8 : ∀ q a b, get M.arg8 σ (ix3 q a b) = if q = j then A₀.rn (hh u j) a b else get M.arg8 σ₀ (ix3 q a b)
  n23 : ∀ h a, get M.arg23 σ (ix2 h a) = if h = hh u j then A₀.sm h a else get M.arg23 σ₀ (ix2 h a)
  n34 : ∀ d b, get M.arg34 σ (ix2 d b) = if hi d = hh u j then A₀.cm (hi d) (lo d) b else get M.arg34 σ₀ (ix2 d b)

include hM in
theorem tailW_spec (A₀ : D) (i : grid0.Coords) (h3 : k0_cond3 i = 1#1) (u : Fin 7) (ho : Offs i u) (j : Fin 4)
    (r m a : FVec Ideal S128x128 .f32) (er : ∀ x y, r (ix2 x y) = A₀.r (hh u j) x y) (em : ∀ x y, m (ix2 x y) = A₀.mb (hh u j) x y)
    (ea : ∀ x y, a (ix2 x y) = A₀.sk (hh u j) x y) (σ₀ : Mem) (hlr : ∀ h, get M.arg7 σ₀ (ix1 h) = A₀.lr h)
    (K : Unit → Mem → Prop) (hK : ∀ σ, TailWI M A₀ u j σ₀ σ → K ⟨⟩ σ) : tailW stH M i h3 j r m a K σ₀ := by
  refine hK _ ?_
  set τ12 : Mem := put M.arg12 (Rect.unit (s := S28) (k0_off6 i (BitVec.ofNat 32 j)) S1.size (k0_off6_inb i h3 j)) (fun _ => extractAt ![0, 0] (tNorm a) inpos_S1x1_p0_0) Finset.univ σ₀ with hτ12
  set τ13 : Mem := put M.arg13 (Rect.unit (s := S28) (k0_off6 i (BitVec.ofNat 32 j)) S1.size (k0_off6_inb i h3 j)) (fun _ => extractAt ![0, 0] (tAmax (tNorm a)) inpos_S1x1_p0_0) Finset.univ τ12 with hτ13
  set l : Vec Ideal S1 .f32 := fun q => get M.arg7 τ13 ((Rect.unit (s := S28) (k0_off6 i (BitVec.ofNat 32 j)) S1.size (k0_off6_inb i h3 j)).toLoadRect.idx q) with hl
  set al := tAlpha (l (Shape.Idx.first (numel1_S1.symm ▸ Nat.one_pos))) (tNorm a) with hal
  set C : FVec Ideal S128x128 .f32 := tMul a m with hC
  set U : FVec Ideal S128x128 .f32 := tMul a r with hU
  set C2 : FVec Ideal S128x128 .f32 := tMul a (tD1 al U C) with hC2
  set T : FVec Ideal S128x128 .f32 := tStep al U C2 with hT
  set τ10 : Mem := put M.arg10 (Rect.unit (s := S4x128x128) ![j, 0, 0] S1x128x128.size (inb3 (by omega) (by omega) (by omega))) (tBlk C) Finset.univ τ13 with hτ10
  set τ11 : Mem := put M.arg11 (Rect.unit (s := S4x128x128) ![j, 0, 0] S1x128x128.size (inb3 (by omega) (by omega) (by omega))) (tBlk C2) Finset.univ τ10 with hτ11
  set τ9 : Mem := put M.arg9 (Rect.unit (s := S4x128x128) ![j, 0, 0] S1x128x128.size (inb3 (by omega) (by omega) (by omega))) (tBlk T) Finset.univ τ11 with hτ9
  set τ8 : Mem := put M.arg8 (Rect.unit (s := S4x128x128) ![j, 0, 0] S1x128x128.size (inb3 (by omega) (by omega) (by omega))) (tBlk (addf r T)) Finset.univ τ9 with hτ8
  set τ23 : Mem := put M.arg23 (Rect.unit (s := S28x128) (k0_off5 i (BitVec.ofNat 32 j)) S1x128.size (k0_off5_inb i h3 j)) (tScaleRow U) Finset.univ τ8 with hτ23
  set τ34 : Mem := put M.arg34 (Rect.unit (s := S3584x128) (k0_off7 i (BitVec.ofNat 32 j)) S128x128.size (k0_off7_inb i h3 j)) (shapeCast S128x128 (tCode U) shapeCasts_S128x128_S128x128) Finset.univ τ23 with hτ34
  have p12 : Same M [.a12] σ₀ τ12 := Same.refl.put hM .a12 (by decide) rfl
  have p13 : Same M [.a12, .a13] σ₀ τ13 := (p12.mono (by simp)).put hM .a13 (by decide) rfl
  have p10 : Same M [.a12, .a13, .a10] σ₀ τ10 := (p13.mono (by simp)).put hM .a10 (by decide) rfl
  have p11 : Same M [.a12, .a13, .a10, .a11] σ₀ τ11 := (p10.mono (by simp)).put hM .a11 (by decide) rfl
  have p9 : Same M [.a12, .a13, .a10, .a11, .a9] σ₀ τ9 := (p11.mono (by simp)).put hM .a9 (by decide) rfl
  have p8 : Same M [.a12, .a13, .a10, .a11, .a9, .a8] σ₀ τ8 := (p9.mono (by simp)).put hM .a8 (by decide) rfl
  have p23 : Same M [.a12, .a13, .a10, .a11, .a9, .a8, .a23] σ₀ τ23 := (p8.mono (by simp)).put hM .a23 (by decide) rfl
  have p34 : Same M [.a12, .a13, .a10, .a11, .a9, .a8, .a23, .a34] σ₀ τ34 := (p23.mono (by simp)).put hM .a34 (by decide) rfl
  have t23 : Same M [.a34] τ23 τ34 := Same.refl.put hM .a34 (by decide) rfl
  have t8 : Same M [.a23, .a34] τ8 τ34 := ((Same.refl (σ := τ8)).put hM .a23 (by decide) rfl).trans (t23.mono (by simp))
  have t9 : Same M [.a8, .a23, .a34] τ9 τ34 := ((Same.refl (σ := τ9)).put hM .a8 (by decide) rfl).trans (t8.mono (by simp))
  have t11 : Same M [.a9, .a8, .a23, .a34] τ11 τ34 := ((Same.refl (σ := τ11)).put hM .a9 (by decide) rfl).trans (t9.mono (by simp))
  have t10 : Same M [.a11, .a9, .a8, .a23, .a34] τ10 τ34 := ((Same.refl (σ := τ10)).put hM .a11 (by decide) rfl).trans (t11.mono (by simp))
  have t13 : Same M [.a10, .a11, .a9, .a8, .a23, .a34] τ13 τ34 := ((Same.refl (σ := τ13)).put hM .a10 (by decide) rfl).trans (t10.mono (by simp))
  have t12 : Same M [.a13, .a10, .a11, .a9, .a8, .a23, .a34] τ12 τ34 := ((Same.refl (σ := τ12)).put hM .a13 (by decide) rfl).trans (t13.mono (by simp))
  have eN : tNorm a (ix2 0 0) = A₀.na (hh u j) := by
    rw [tNorm_at]; simp only [ea]; rfl
  have eX : tAmax (tNorm a) (ix2 0 0) = A₀.am (hh u j) := by
    rw [tAmax_at, eN]; rfl
  have el : al (ix2 0 0) = A₀.al (hh u j) := by
    rw [hal, tAlpha_at, eX]
    have : l (Shape.Idx.first (numel1_S1.symm ▸ Nat.one_pos)) = A₀.lr (hh u j) := by
      show get M.arg7 τ13 _ = _
      rw [p13.get .a7 (by decide) rfl]
      refine Eq.trans ?_ (hlr _)
      congr 1
      have key : ∀ (o : Fin 1 → Nat) (hb : ∀ a, o a + S1.size a ≤ S28.size a), o = ![4 * u.val + j.val] → ∀ q, (Rect.unit (s := S28) o S1.size hb).toLoadRect.idx q = ix1 (hh u j) := by
        intro o hb h q; subst h; exact idx1 hb q _ rfl
      exact key _ _ (ho.o6 j) _
    rw [this]; rfl
  have eC : ∀ x y, C (ix2 x y) = A₀.c1 (hh u j) x y := by
    intro x y; rw [hC, tMul_at]; simp only [ea, em]; rfl
  have eU : ∀ x y, U (ix2 x y) = A₀.mn (hh u j) x y := by
    intro x y; rw [hU, tMul_at]; simp only [ea, er]; rfl
  have eD : ∀ x y, tD1 al U C (ix2 x y) = A₀.d1 (hh u j) x y := by
    intro x y; rw [tD1_at, el, eU, eC]; rfl
  have eC2 : ∀ x y, C2 (ix2 x y) = A₀.c2 (hh u j) x y := by
    intro x y; rw [hC2, tMul_at]; simp only [ea, eD]; rfl
  have eT : ∀ x y, T (ix2 x y) = A₀.st (hh u j) x y := by
    intro x y; rw [hT, tStep_at, el, eU, eC2]; rfl
  have eS : ∀ x, tScale U (ix2 x 0) = A₀.sm (hh u j) x := by
    intro x; rw [tScale_at]; simp only [eU]; rfl
  refine ⟨p34, ?_, ?_, ?_, ?_, ?_, ?_, ?_, ?_⟩
  · intro h
    rw [t12.get .a12 (by decide) rfl, hτ12, put_off M.arg12 (ho.o6 j)]
    refine (get_put1 (A := 28) M.arg12 _ _ _ h).trans ?_
    by_cases hq : h = hh u j
    · rw [if_pos (show h.val = 4 * u.val + j.val from congrArg Fin.val hq), if_pos hq, hq]
      exact (ext_at _).trans eN
    · rw [if_neg (show ¬ h.val = 4 * u.val + j.val from fun e => hq (Fin.ext e)), if_neg hq]
  · intro h
    rw [t13.get .a13 (by decide) rfl, hτ13, put_off M.arg13 (ho.o6 j)]
    refine (get_put1 (A := 28) M.arg13 _ _ _ h).trans ?_
    by_cases hq : h = hh u j
    · rw [if_pos (show h.val = 4 * u.val + j.val from congrArg Fin.val hq), if_pos hq, hq]
      exact (ext_at _).trans eX
    · rw [if_neg (show ¬ h.val = 4 * u.val + j.val from fun e => hq (Fin.ext e)), if_neg hq]
      exact congrFun (p12.get .a13 (by decide) rfl) _
  · intro q a b
    rw [t10.get .a10 (by decide) rfl]
    refine (get_blk (N := 4) M.arg10 j _ _ _ q a b).trans ?_
    by_cases hq : q = j
    · rw [if_pos hq, if_pos hq]
      exact (tBlk_at _ _ _ _).trans (eC a b)
    · rw [if_neg hq, if_neg hq]
      exact congrFun (p13.get .a10 (by decide) rfl) _
  · intro q a b
    rw [t11.get .a11 (by decide) rfl]
    refine (get_blk (N := 4) M.arg11 j _ _ _ q a b).trans ?_
    by_cases hq : q = j
    · rw [if_pos hq, if_pos hq]
      exact (tBlk_at _ _ _ _).trans (eC2 a b)
    · rw [if_neg hq, if_neg hq]
      exact congrFun (p10.get .a11 (by decide) rfl) _
  · intro q a b
    rw [t9.get .a9 (by decide) rfl]
    refine (get_blk (N := 4) M.arg9 j _ _ _ q a b).trans ?_
    by_cases hq : q = j
    · rw [if_pos hq, if_pos hq]
      exact (tBlk_at _ _ _ _).trans (eT a b)
    · rw [if_neg hq, if_neg hq]
      exact congrFun (p11.get .a9 (by decide) rfl) _
  · intro q a b
    rw [t8.get .a8 (by decide) rfl]
    refine (get_blk (N := 4) M.arg8 j _ _ _ q a b).trans ?_
    by_cases hq : q = j
    · rw [if_pos hq, if_pos hq]
      exact (tBlk_at _ _ _ _).trans (congrArg₂ (· + ·) (er a b) (eT a b))
    · rw [if_neg hq, if_neg hq]
      exact congrFun (p9.get .a8 (by decide) rfl) _
  · intro h a
    rw [t23.get .a23 (by decide) rfl, hτ23, put_off M.arg23 (ho.o5 j)]
    by_cases hq : h = hh u j
    · rw [if_pos hq]
      subst hq
      exact (put2_in (A := 28) (B := 128) (a := 1) (b := 128) M.arg23 _ _ _ _ a 0 a (by simp [hh]) (by simp)).trans ((tScaleRow_at _ _ _).trans (eS a))
    · rw [if_neg hq]
      refine (get_put2 (A := 28) (B := 128) (a := 1) (b := 128) M.arg23 _ _ _ h a).trans ?_
      have : h.val ≠ 4 * u.val + j.val := fun e => hq (Fin.ext e)
      rw [dif_neg (by omega)]
      exact congrFun (p8.get .a23 (by decide) rfl) _
  · intro d b
    rw [hτ34, put_off M.arg34 (ho.o7 j)]
    by_cases hq : hi d = hh u j
    · rw [if_pos hq]
      have hv : d.val / 128 = 4 * u.val + j.val := congrArg Fin.val hq
      refine (put2_in (A := 3584) (B := 128) (a := 128) (b := 128) M.arg34 _ _ _ d b (lo d) b (by simp [lo]; omega) (by simp)).trans ?_
      refine (congrFun (shapeCast_self _ _) _).trans ?_
      rw [tCode_at, eS, eU, hq]
      rfl
    · rw [if_neg hq]
      refine (get_put2 (A := 3584) (B := 128) (a := 128) (b := 128) M.arg34 _ _ _ d b).trans ?_
      have : d.val / 128 ≠ 4 * u.val + j.val := fun e => hq (Fin.ext e)
      rw [dif_neg (by omega)]
      exact congrFun (p23.get .a34 (by decide) rfl) _

end Cert.KernelIdeal.Spin

end
-- ==== Proof.Tail2.lean ====
/- The tail and the end: what they leave. -/
module

public import proofs.«01_k».proof.Proof.Tail1

@[expose] public section

noncomputable section

namespace Cert.KernelIdeal.Spin

open Idealize.ShloMosaic Cert.KernelIdeal.Gen _root_.Spin

variable {M : Args} (hM : Function.Injective M.rf)

/-- A load at offsets given by an equation. -/
theorem ld_off {cs : CoreSpace} {s : Shape} {e : EltTy} (m : Memref sig .tc cs s e) {o o' : Fin s.rank → Nat} (h : o = o')
    (sz : Fin s.rank → Nat) (hb : ∀ a, o a + sz a ≤ s.size a) (σ : Mem) (q : (Rect.unit (s := s) o sz hb).shape.Idx) :
    get m σ ((Rect.unit (s := s) o sz hb).toLoadRect.idx q) = get m σ ((Rect.unit (s := s) o' sz (h ▸ hb)).toLoadRect.idx q) := by
  subst h; rfl

/-- What holds after `n` blocks of tail point `u`. -/
structure TailI (M : Args) (A₀ : D) (u : Fin 7) (σ₀ : Mem) (n : Nat) (σ : Mem) : Prop where
  same : Same M [.a17, .a12, .a13, .a10, .a11, .a9, .a8, .a23, .a34] σ₀ σ
  n17 : ∀ q a b, q.val < n → get M.arg17 σ (ix3 q a b) = A₀.gr (hh u q) a b
  n10 : ∀ q a b, q.val < n → get M.arg10 σ (ix3 q a b) = A₀.c1 (hh u q) a b
  n11 : ∀ q a b, q.val < n → get M.arg11 σ (ix3 q a b) = A₀.c2 (hh u q) a b
  n9 : ∀ q a b, q.val < n → get M.arg9 σ (ix3 q a b) = A₀.st (hh u q) a b
  n8 : ∀ q a b, q.val < n → get M.arg8 σ (ix3 q a b) = A₀.rn (hh u q) a b
  n12 : ∀ h, (4 * u.val ≤ h.val ∧ h.val < 4 * u.val + n) → get M.arg12 σ (ix1 h) = A₀.na h
  o12 : ∀ h, ¬ (4 * u.val ≤ h.val ∧ h.val < 4 * u.val + n) → get M.arg12 σ (ix1 h) = get M.arg12 σ₀ (ix1 h)
  n13 : ∀ h, (4 * u.val ≤ h.val ∧ h.val < 4 * u.val + n) → get M.arg13 σ (ix1 h) = A₀.am h
  o13 : ∀ h, ¬ (4 * u.val ≤ h.val ∧ h.val < 4 * u.val + n) → get M.arg13 σ (ix1 h) = get M.arg13 σ₀ (ix1 h)
  n23 : ∀ h a, (4 * u.val ≤ h.val ∧ h.val < 4 * u.val + n) → get M.arg23 σ (ix2 h a) = A₀.sm h a
  o23 : ∀ h a, ¬ (4 * u.val ≤ h.val ∧ h.val < 4 * u.val + n) → get M.arg23 σ (ix2 h a) = get M.arg23 σ₀ (ix2 h a)
  n34 : ∀ d b, (4 * u.val ≤ (hi d).val ∧ (hi d).val < 4 * u.val + n) → get M.arg34 σ (ix2 d b) = A₀.cm (hi d) (lo d) b
  o34 : ∀ d b, ¬ (4 * u.val ≤ (hi d).val ∧ (hi d).val < 4 * u.val + n) → get M.arg34 σ (ix2 d b) = get M.arg34 σ₀ (ix2 d b)

/-- What a tail point reads. -/
structure TailPre (M : Args) (A₀ : D) (u : Fin 7) (σ : Mem) : Prop where
  r : ∀ h i j, get M.arg4 σ (ix3 h i j) = A₀.r h i j
  ms : ∀ h i, get M.arg6 σ (ix2 h i) = A₀.ms h i
  mc : ∀ j a b, get M.arg5 σ (ix3 j a b) = A₀.mc (hh u j) a b
  lr : ∀ h, get M.arg7 σ (ix1 h) = A₀.lr h
  x : ∀ d s, get M.arg28 σ (ix2 d s) = A₀.x s d
  p : ∀ s d, get M.arg32 σ (ix2 s d) = A₀.pp s d
  g : ∀ h i j, get M.arg33 σ (ix3 h i j) = A₀.gw h j i

include hM in
theorem tail1_step (A₀ : D) (i : grid0.Coords) (h3 : k0_cond3 i = 1#1) (u : Fin 7) (ho : Offs i u) (σ₀ : Mem) (hp : TailPre M A₀ u σ₀)
    (j : Fin 4) (σ : Mem) (K : Unit → Mem → Prop) (hI : TailI M A₀ u σ₀ j σ) (hK : ∀ a' σ', TailI M A₀ u σ₀ (j + 1) σ' → K a' σ') :
    tail1 stH M i h3 j ⟨⟩ K σ := by
  set r : Vec Ideal S1x128x128 .f32 := fun q => get M.arg4 σ ((Rect.unit (s := S28x128x128) (k0_off2 i (BitVec.ofNat 32 j)) S1x128x128.size (k0_off2_inb i h3 j)).toLoadRect.idx q) with hr
  set x : Vec Ideal S128x256 .bf16 := fun q => get M.arg28 σ ((Rect.unit (s := S3584x256) (k0_off3 i (BitVec.ofNat 32 j)) S128x256.size (k0_off3_inb i h3 j)).toLoadRect.idx q) with hx
  set p : Vec Ideal S256x128 .f32 := fun q => get M.arg32 σ ((Rect.unit (s := S256x3584) (k0_off4 i (BitVec.ofNat 32 j)) S256x128.size (k0_off4_inb i h3 j)).toLoadRect.idx q) with hpv
  set g : Vec Ideal S1x128x128 .f32 := fun q => get M.arg33 σ ((Rect.unit (s := S28x128x128) (k0_off2 i (BitVec.ofNat 32 j)) S1x128x128.size (k0_off2_inb i h3 j)).toLoadRect.idx q) with hg
  have er : ∀ a b, r (ix3 0 a b) = A₀.r (hh u j) a b := by
    intro a b
    refine (ld_off M.arg4 (ho.o2 j) _ _ σ _).trans ?_
    refine (ld3 (A := 28) (B := 128) (C := 128) (a := 1) (b := 128) (c := 128) M.arg4 _ σ 0 a b (i' := hh u j) (j' := a) (k' := b) (by simp [hh]) (by simp) (by simp)).trans ?_
    rw [hI.same.get .a4 (by decide) rfl, hp.r]
  have ex : ∀ a b, x (ix2 a b) = A₀.x b (bk (hh u j) a) := by
    intro a b
    refine (ld_off M.arg28 (ho.o3 j) _ _ σ _).trans ?_
    refine (ld2 (A := 3584) (B := 256) (a := 128) (b := 256) M.arg28 _ σ a b (i' := bk (hh u j) a) (j' := b) (by simp [hh, bk]; omega) (by simp)).trans ?_
    rw [hI.same.get .a28 (by decide) rfl, hp.x]
  have ep : ∀ a b, p (ix2 a b) = A₀.pp a (bk (hh u j) b) := by
    intro a b
    refine (ld_off M.arg32 (ho.o4 j) _ _ σ _).trans ?_
    refine (ld2 (A := 256) (B := 3584) (a := 256) (b := 128) M.arg32 _ σ a b (i' := a) (j' := bk (hh u j) b) (by simp) (by simp [hh, bk]; omega)).trans ?_
    rw [hI.same.get .a32 (by decide) rfl, hp.p]
  have eg : ∀ a b, g (ix3 0 a b) = A₀.gw (hh u j) b a := by
    intro a b
    refine (ld_off M.arg33 (ho.o2 j) _ _ σ _).trans ?_
    refine (ld3 (A := 28) (B := 128) (C := 128) (a := 1) (b := 128) (c := 128) M.arg33 _ σ 0 a b (i' := hh u j) (j' := a) (k' := b) (by simp [hh]) (by simp) (by simp)).trans ?_
    rw [hI.same.get .a33 (by decide) rfl, hp.g]
  set G : FVec Ideal S128x128 .f32 := tGrad x p g with hG
  have eG : ∀ a b, G (ix2 a b) = A₀.gr (hh u j) a b := by
    intro a b
    rw [hG, tGrad_at, eg]
    simp only [ex, ep]
    rfl
  set τ : Mem := put M.arg17 (Rect.unit (s := S4x128x128) ![j, 0, 0] S1x128x128.size (inb3 (by omega) (by omega) (by omega))) (tBlk G) Finset.univ σ with hτ
  have sτ : Same M [.a17] σ τ := Same.refl.put hM .a17 (by decide) rfl
  set ms : Vec Ideal S1x128 .f32 := fun q => get M.arg6 τ ((Rect.unit (s := S28x128) (k0_off5 i (BitVec.ofNat 32 j)) S1x128.size (k0_off5_inb i h3 j)).toLoadRect.idx q) with hms
  set mc : Vec Ideal S1x128x128 .i8 := fun q => get M.arg5 τ ((Rect.unit (s := S4x128x128) ![j, 0, 0] S1x128x128.size (inb3 (by omega) (by omega) (by omega))).toLoadRect.idx q) with hmc
  have ems : ∀ a, ms (ix2 0 a) = A₀.ms (hh u j) a := by
    intro a
    refine (ld_off M.arg6 (ho.o5 j) _ _ τ _).trans ?_
    refine (ld2 (A := 28) (B := 128) (a := 1) (b := 128) M.arg6 _ τ 0 a (i' := hh u j) (j' := a) (by simp [hh]) (by simp)).trans ?_
    rw [sτ.get .a6 (by decide) rfl, hI.same.get .a6 (by decide) rfl, hp.ms]
  have emc : ∀ a b, mc (ix3 0 a b) = A₀.mc (hh u j) a b := by
    intro a b
    refine (ld3 (A := 4) (B := 128) (C := 128) (a := 1) (b := 128) (c := 128) M.arg5 _ τ 0 a b (i' := j) (j' := a) (k' := b) (by simp) (by simp) (by simp)).trans ?_
    rw [sτ.get .a5 (by decide) rfl, hI.same.get .a5 (by decide) rfl, hp.mc]
  have em : ∀ a b, tMom ms mc G (ix2 a b) = A₀.mb (hh u j) a b := by
    intro a b
    rw [tMom_at, ems, emc, eG]; rfl
  have eR : ∀ a b, tMat r (ix2 a b) = A₀.r (hh u j) a b := by
    intro a b; rw [tMat_at, er]
  have eT1 : ∀ a b, tMR (tMat r) (tMom ms mc G) (ix2 a b) = A₀.t1 (hh u j) a b := by
    intro a b; rw [tMR_at]; simp only [eR, em]; rfl
  have eW : ∀ a b, tHalf (tMat r) (tMR (tMat r) (tMom ms mc G)) (ix2 a b) = A₀.wt (hh u j) a b := by
    intro a b; rw [tHalf_at]; simp only [eR, eT1]; rfl
  have eS : ∀ a b, tSkew (tMat r) (tMR (tMat r) (tMom ms mc G)) (ix2 a b) = A₀.sk (hh u j) a b := by
    intro a b; rw [tSkew_at, eW, eW]; rfl
  refine tailW_spec hM A₀ i h3 u ho j (tMat r) (tMom ms mc G) (tSkew (tMat r) (tMR (tMat r) (tMom ms mc G))) eR em eS τ ?_ K fun σ' h => hK _ _ ?_
  · intro h; rw [sτ.get .a7 (by decide) rfl, hI.same.get .a7 (by decide) rfl, hp.lr]
  have hj : ∀ h : Fin 28, h ≠ hh u j → h.val ≠ 4 * u.val + j.val := fun h hn e => hn (Fin.ext e)
  have hjv : (hh u j).val = 4 * u.val + j.val := rfl
  refine ⟨(hI.same.mono (by simp)).trans ((sτ.mono (by simp)).trans (h.same.mono (by simp))), ?_, ?_, ?_, ?_, ?_, ?_, ?_, ?_, ?_, ?_, ?_, ?_, ?_⟩
  · intro q a b hq
    rw [h.same.get .a17 (by decide) rfl]
    refine (get_blk (N := 4) M.arg17 j _ _ _ q a b).trans ?_
    by_cases hqj : q = j
    · rw [if_pos hqj, hqj]; exact (tBlk_at _ _ _ _).trans (eG a b)
    · rw [if_neg hqj]; exact hI.n17 q a b (by have : q.val ≠ j.val := fun e => hqj (Fin.ext e); omega)
  · intro q a b hq
    rw [h.n10 q a b]
    by_cases hqj : q = j
    · rw [if_pos hqj, hqj]
    · rw [if_neg hqj, sτ.get .a10 (by decide) rfl]
      exact hI.n10 q a b (by have : q.val ≠ j.val := fun e => hqj (Fin.ext e); omega)
  · intro q a b hq
    rw [h.n11 q a b]
    by_cases hqj : q = j
    · rw [if_pos hqj, hqj]
    · rw [if_neg hqj, sτ.get .a11 (by decide) rfl]
      exact hI.n11 q a b (by have : q.val ≠ j.val := fun e => hqj (Fin.ext e); omega)
  · intro q a b hq
    rw [h.n9 q a b]
    by_cases hqj : q = j
    · rw [if_pos hqj, hqj]
    · rw [if_neg hqj, sτ.get .a9 (by decide) rfl]
      exact hI.n9 q a b (by have : q.val ≠ j.val := fun e => hqj (Fin.ext e); omega)
  · intro q a b hq
    rw [h.n8 q a b]
    by_cases hqj : q = j
    · rw [if_pos hqj, hqj]
    · rw [if_neg hqj, sτ.get .a8 (by decide) rfl]
      exact hI.n8 q a b (by have : q.val ≠ j.val := fun e => hqj (Fin.ext e); omega)
  · intro q hq
    rw [h.n12 q]
    by_cases hqj : q = hh u j
    · rw [if_pos hqj]
    · rw [if_neg hqj, sτ.get .a12 (by decide) rfl]
      exact hI.n12 q (by have := hj _ hqj; omega)
  · intro q hq
    rw [h.n12 q]
    by_cases hqj : q = hh u j
    · exact absurd (by rw [hqj, hjv]; omega) hq
    · rw [if_neg hqj, sτ.get .a12 (by decide) rfl]
      exact hI.o12 q (by omega)
  · intro q hq
    rw [h.n13 q]
    by_cases hqj : q = hh u j
    · rw [if_pos hqj]
    · rw [if_neg hqj, sτ.get .a13 (by decide) rfl]
      exact hI.n13 q (by have := hj _ hqj; omega)
  · intro q hq
    rw [h.n13 q]
    by_cases hqj : q = hh u j
    · exact absurd (by rw [hqj, hjv]; omega) hq
    · rw [if_neg hqj, sτ.get .a13 (by decide) rfl]
      exact hI.o13 q (by omega)
  · intro q a hq
    rw [h.n23 q a]
    by_cases hqj : q = hh u j
    · rw [if_pos hqj]
    · rw [if_neg hqj, sτ.get .a23 (by decide) rfl]
      exact hI.n23 q a (by have := hj _ hqj; omega)
  · intro q a hq
    rw [h.n23 q a]
    by_cases hqj : q = hh u j
    · exact absurd (by rw [hqj, hjv]; omega) hq
    · rw [if_neg hqj, sτ.get .a23 (by decide) rfl]
      exact hI.o23 q a (by omega)
  · intro q a hq
    rw [h.n34 q a]
    by_cases hqj : (hi q) = hh u j
    · rw [if_pos hqj]
    · rw [if_neg hqj, sτ.get .a34 (by decide) rfl]
      exact hI.n34 q a (by have := hj _ hqj; omega)
  · intro q a hq
    rw [h.n34 q a]
    by_cases hqj : (hi q) = hh u j
    · exact absurd (by rw [hqj, hjv]; omega) hq
    · rw [if_neg hqj, sτ.get .a34 (by decide) rfl]
      exact hI.o34 q a (by omega)

include hM in
/-- The tail. -/
theorem tail_spec (A₀ : D) (i : grid0.Coords) (h3 : k0_cond3 i = 1#1) (u : Fin 7) (ho : Offs i u) (σ₀ : Mem) (hp : TailPre M A₀ u σ₀)
    (K : Mem → Prop) (hK : ∀ σ, TailI M A₀ u σ₀ 4 σ → K σ) : tailStep stH M i h3 K σ₀ := by
  unfold tailStep
  refine loop_spec (fun n _ σ => TailI M A₀ u σ₀ n σ) ?_ (fun j _ σ K' hI hK' => tail1_step hM A₀ i h3 u ho σ₀ hp j σ K' hI hK') fun _ σ h => hK σ h
  refine ⟨Same.refl, fun _ _ _ h => absurd h (by omega), fun _ _ _ h => absurd h (by omega), fun _ _ _ h => absurd h (by omega),
    fun _ _ _ h => absurd h (by omega), fun _ _ _ h => absurd h (by omega), fun _ h => absurd h (by omega), fun _ _ => rfl,
    fun _ h => absurd h (by omega), fun _ _ => rfl, fun _ _ h => absurd h (by omega), fun _ _ _ => rfl,
    fun _ _ h => absurd h (by omega), fun _ _ _ => rfl⟩

/-- What the end leaves. -/
structure EndI (M : Args) (A₀ : D) (σ₀ : Mem) (n : Nat) (σ : Mem) : Prop where
  same : Same M [.a14, .a22] σ₀ σ
  c14 : ∀ a b, get M.arg14 σ (ix2 a b) = A₀.loss
  c22 : ∀ h d, d.val < 128 * n → get M.arg22 σ (ix2 h d) = i8 (A₀.cm h ⟨d.val / 128, by omega⟩ ⟨d.val % 128, by omega⟩)

/-- The loss from the running sums. -/
theorem loss_sum (A₀ : D) : (∑ i : Fin 8, ∑ j : Fin 256, pre 18 (lT A₀ i j)) = ∑ s, ∑ n, A₀.e s n * A₀.e s n := by
  simp only [pre_all 18 (Nat.le_refl _), lT]
  have e1 : ∀ s : Fin 256, (∑ n, A₀.e s n * A₀.e s n) = ∑ t : Fin 18, ∑ j : Fin 256, A₀.e s (tn t j) * A₀.e s (tn t j) := by
    intro s
    rw [← sum_blocks 18 256 rfl fun n => A₀.e s n * A₀.e s n]
    refine Finset.sum_congr rfl fun t _ => Finset.sum_congr rfl fun j _ => ?_
    have : (⟨t.val * 256 + j.val, by omega⟩ : Fin 4608) = tn t j := Fin.ext (by show t.val * 256 + j.val = 256 * t.val + j.val; omega)
    rw [this]
  simp only [e1]
  rw [← sum_blocks 32 8 rfl fun s : Fin 256 => ∑ t : Fin 18, ∑ j : Fin 256, A₀.e s (tn t j) * A₀.e s (tn t j)]
  rw [Finset.sum_comm (s := (Finset.univ : Finset (Fin 32)))]
  refine Finset.sum_congr rfl fun i _ => ?_
  rw [Finset.sum_comm]
  rw [Finset.sum_comm (s := (Finset.univ : Finset (Fin 32)))]
  refine Finset.sum_congr rfl fun t _ => ?_
  rw [Finset.sum_comm]

include hM in
/-- The end. -/
theorem end_spec (A₀ : D) (σ₀ : Mem) (hl : ∀ i j, get M.arg35 σ₀ (ix2 i j) = pre 18 (lT A₀ i j))
    (hm : ∀ d b, get M.arg34 σ₀ (ix2 d b) = A₀.cm (hi d) (lo d) b)
    (K : Mem → Prop) (hK : ∀ σ, EndI M A₀ σ₀ 128 σ → K σ) : endStep stH M K σ₀ := by
  set l : Vec Ideal S8x256 .f32 := fun q => get M.arg35 σ₀ ((Rect.unit (s := S8x256) ![0, 0] S8x256.size (inb2 (by omega) (by omega))).toLoadRect.idx q) with hlv
  have el : ∀ i j, l (ix2 i j) = pre 18 (lT A₀ i j) := by
    intro i j
    exact (ld2 (A := 8) (B := 256) (a := 8) (b := 256) M.arg35 _ σ₀ i j (i' := i) (j' := j) (by simp) (by simp)).trans (hl i j)
  have eL : lossOf l = A₀.loss := by
    rw [lossOf_at]
    simp only [el]
    rw [loss_sum]; rfl
  set τ : Mem := put M.arg14 (Rect.unit (s := S1x1) ![0, 0] S1x1.size (inb2 (by omega) (by omega))) (fun _ => lossOf l) Finset.univ σ₀ with hτ
  dsimp only [endStep, stH]
  refine loop_spec (σ := τ) (fun n _ σ => EndI M A₀ σ₀ n σ) ⟨Same.refl.put hM .a14 (by decide) rfl, fun a b => ?_, fun _ d hd => absurd hd (by omega)⟩
    (fun k _ σ K' hI hK' => hK' _ _ ⟨hI.same.put hM .a22 (by decide) rfl, fun a b => ?_, fun h d hd => ?_⟩) fun _ σ h => hK σ h
  · exact (whole2 (A := 1) (B := 1) _ a b).trans eL
  · exact (congrFun (get_put_other hM .a14 .a22 (by decide) rfl rfl) _).trans (hI.c14 a b)
  · refine col_step (A := 28) (B := 16384) (n := 128) (e := .i8) (m := M.arg22) (o := 128 * k.val)
      (f := fun h d => i8 (A₀.cm h ⟨d.val / 128, by omega⟩ ⟨d.val % 128, by omega⟩)) hI.c22 _ (fun h j => ?_) h d (by omega)
    refine congrArg i8 ?_
    have ei : (⟨![k, 0], S28x128.size, ![128, 1], Fin.forall_fin_two.mpr
      ⟨.inr (by show k.val + 128 * 27 < 3584; omega), .inr (by show 0 + 1 * 127 < 128; omega)⟩⟩ : LoadRect S3584x128).idx (ix2 h j) = ix2 ⟨k.val + 128 * h.val, by omega⟩ j := by
      funext a
      match a with
      | ⟨0, _⟩ => rfl
      | ⟨1, _⟩ => apply Fin.ext; show 0 + 1 * j.val = j.val; omega
    refine (congrArg (get M.arg34 σ) ei).trans ?_
    rw [hI.same.get .a34 (by decide) rfl, hm]
    congr 1 <;> apply Fin.ext <;> simp [hi, lo] <;> omega

end Cert.KernelIdeal.Spin

end
-- ==== Proof.Off.lean ====
/- The step's conditions and offsets at a point. -/
module

public import proofs.«01_k».proof.Proof.Bufs

@[expose] public section

set_option maxRecDepth 16384

noncomputable section

namespace Cert.KernelIdeal.Spin

open Idealize.ShloMosaic Cert.KernelIdeal.Gen _root_.Spin
open Idealize.ShloMosaic.Pipeline (Cfg)

/-- The first branch is taken at step 0 alone. -/
theorem cond1_iff : ∀ t : Fin cfg0.N, k0_cond1 (grid0.coords t) = 1#1 ↔ t.val = 0 := by decide
/-- The second branch is taken before step 18. -/
theorem cond2_iff : ∀ t : Fin cfg0.N, k0_cond2 (grid0.coords t) = 1#1 ↔ t.val < 18 := by decide
/-- The third branch is taken from step 18 on. -/
theorem cond3_iff : ∀ t : Fin cfg0.N, k0_cond3 (grid0.coords t) = 1#1 ↔ 18 ≤ t.val := by decide
/-- The fourth branch is taken at step 24 alone. -/
theorem cond4_iff : ∀ t : Fin cfg0.N, k0_cond4 (grid0.coords t) = 1#1 ↔ t.val = 24 := by decide
/-- The places of offset 1 at step `t`. -/
theorem off1_eq : ∀ t : Fin cfg0.N, k0_off1 (grid0.coords t) = ![0, 256 * t.val] := by decide
/-- The places of offset 2 at step `t`, block `j` of the step. -/
theorem off2_eq : ∀ (t : Fin cfg0.N) (j : Fin 4), 18 ≤ t.val → k0_off2 (grid0.coords t) (BitVec.ofNat 32 j) = ![4 * (t.val - 18) + j, 0, 0] := by decide
/-- The places of offset 3 at step `t`, block `j` of the step. -/
theorem off3_eq : ∀ (t : Fin cfg0.N) (j : Fin 4), 18 ≤ t.val → k0_off3 (grid0.coords t) (BitVec.ofNat 32 j) = ![128 * (4 * (t.val - 18) + j), 0] := by decide
/-- The places of offset 4 at step `t`, block `j` of the step. -/
theorem off4_eq : ∀ (t : Fin cfg0.N) (j : Fin 4), 18 ≤ t.val → k0_off4 (grid0.coords t) (BitVec.ofNat 32 j) = ![0, 128 * (4 * (t.val - 18) + j)] := by decide
/-- The places of offset 5 at step `t`, block `j` of the step. -/
theorem off5_eq : ∀ (t : Fin cfg0.N) (j : Fin 4), 18 ≤ t.val → k0_off5 (grid0.coords t) (BitVec.ofNat 32 j) = ![4 * (t.val - 18) + j, 0] := by decide
/-- The places of offset 6 at step `t`, block `j` of the step. -/
theorem off6_eq : ∀ (t : Fin cfg0.N) (j : Fin 4), 18 ≤ t.val → k0_off6 (grid0.coords t) (BitVec.ofNat 32 j) = ![4 * (t.val - 18) + j] := by decide
/-- The places of offset 7 at step `t`, block `j` of the step. -/
theorem off7_eq : ∀ (t : Fin cfg0.N) (j : Fin 4), 18 ≤ t.val → k0_off7 (grid0.coords t) (BitVec.ofNat 32 j) = ![128 * (4 * (t.val - 18) + j), 0] := by decide

end Cert.KernelIdeal.Spin

end
-- ==== Proof.Ins.lean ====
/- The arguments as the windows' blocks show them. -/
module

public import proofs.«01_k».proof.Proof.Tail2
public import proofs.«01_k».proof.Proof.Off
public import proofs.«01_k».proof.Proof.Pipe
public import Idealize.ShloMosaic.Lib.Pipeline.ValueKit

@[expose] public section

set_option maxRecDepth 16384

noncomputable section

namespace Cert.KernelIdeal.Spin

open Idealize.ShloMosaic Idealize.ShloMosaic.TcCoe Cert.KernelIdeal.Gen _root_.Spin
open Idealize.ShloMosaic.Pipeline (Cfg)

/-- A buffer of a device's memory. -/
abbrev MemT := (ℓ : Loc nD τ sig) → Buf (Elt Ideal) ℓ

variable (m : MemT)

/-- The arguments in a memory. -/
def args (c : Dev nD) : D where
  x s d := (m ((c.tc : Thread nD τ).loc main_arg0) : S1x256x3584.Idx → EReal) (ix3 0 s d)
  w n d := (m ((c.tc : Thread nD τ).loc main_arg1) : S4608x3584.Idx → EReal) (ix2 n d)
  y s n := (m ((c.tc : Thread nD τ).loc main_arg2) : S1x256x4608.Idx → EReal) (ix3 0 s n)
  r h i j := (m ((c.tc : Thread nD τ).loc main_arg3) : S28x128x128.Idx → EReal) (ix3 h i j)
  mc h i j := (m ((c.tc : Thread nD τ).loc main_arg4) : S28x128x128.Idx → BitVec 8) (ix3 h i j)
  ms h i := (m ((c.tc : Thread nD τ).loc main_arg5) : S28x128.Idx → EReal) (ix2 h i)
  lr h := (m ((c.tc : Thread nD τ).loc main_arg6) : S28.Idx → EReal) (ix1 h)

/-- At step `t` window 0 is at block `0, 0`. -/
theorem index0 : ∀ t : Fin cfg0.N, win0_0.index t = ![0, 0] := by decide
/-- At step `t` window 3 is at block `0, 0, 0`. -/
theorem index3 : ∀ t : Fin cfg0.N, win0_3.index t = ![0, 0, 0] := by decide
/-- At step `t` window 5 is at block `0, 0`. -/
theorem index5 : ∀ t : Fin cfg0.N, win0_5.index t = ![0, 0] := by decide
/-- At step `t` window 6 is at block `0`. -/
theorem index6 : ∀ t : Fin cfg0.N, win0_6.index t = ![0] := by decide
/-- At step `t` window 1 is at block `min t.val 17, 0`. -/
theorem index1 : ∀ t : Fin cfg0.N, win0_1.index t = ![min t.val 17, 0] := by decide
/-- At step `t` window 2 is at block `0, min t.val 17`. -/
theorem index2 : ∀ t : Fin cfg0.N, win0_2.index t = ![0, min t.val 17] := by decide
/-- At step `t` window 4 is at block `t.val - 18, 0, 0`. -/
theorem index4 : ∀ t : Fin cfg0.N, win0_4.index t = ![t.val - 18, 0, 0] := by decide

variable {m} {P : PTy Ideal} {Scr : Dev nD → Nat → Mem → Prop} {c : Dev nD} {t : Fin cfg0.N} {σ : Mem}

/-- The first window holds the activations. -/
theorem Before.x (h : Before m P Scr c t σ) (s : Fin 256) (d : Fin 3584) : get (argsAt t).arg1 σ (ix2 s d) = (args m c).x s d := by
  obtain ⟨d0, hd⟩ := h.inp 0 rfl
  refine (congrFun hd _).trans ((win0_0.fill_xinj _ d0 _ (ix2 s d)).trans ?_)
  blk_simp [iblk]; entry_read; pointwise
  unfold args
  blk_ext [index0]

/-- The second holds the step's rows of the weights. -/
theorem Before.w (h : Before m P Scr c t σ) (k : Fin 18) (hk : t.val = k.val) (s : Fin 256) (d : Fin 3584) :
    get (argsAt t).arg2 σ (ix2 s d) = (args m c).w (tn k s) d := by
  obtain ⟨d0, hd⟩ := h.inp 1 rfl
  refine (congrFun hd _).trans ((win0_1.fill_xinj _ d0 _ (ix2 s d)).trans ?_)
  blk_simp [iblk]
  rw [V_main_arg1]
  refine congrArg (m _) (funext fun a => Fin.ext ?_)
  match a with
  | ⟨0, _⟩ => blk_simp [index1, tn]; simp; omega
  | ⟨1, _⟩ => blk_simp [index1, tn]

/-- The third holds the step's columns of the targets. -/
theorem Before.y (h : Before m P Scr c t σ) (k : Fin 18) (hk : t.val = k.val) (s : Fin 256) (d : Fin 256) :
    get (argsAt t).arg3 σ (ix2 s d) = (args m c).y s (tn k d) := by
  obtain ⟨d0, hd⟩ := h.inp 2 rfl
  refine (congrFun hd _).trans ((win0_2.fill_xinj _ d0 _ (ix2 s d)).trans ?_)
  blk_simp [iblk]; entry_read; pointwise
  unfold args
  blk_ext [index2, tn]

/-- The fourth holds the rotation. -/
theorem Before.r (h : Before m P Scr c t σ) (a : Fin 28) (i j : Fin 128) : get (argsAt t).arg4 σ (ix3 a i j) = (args m c).r a i j := by
  obtain ⟨d0, hd⟩ := h.inp 3 rfl
  refine (congrFun hd _).trans ((win0_3.fill_xinj _ d0 _ (ix3 a i j)).trans ?_)
  blk_simp [iblk]
  rw [V_main_arg3]
  refine congrArg (m _) (funext fun a => Fin.ext ?_)
  match a with
  | ⟨0, _⟩ => blk_simp [index3]
  | ⟨1, _⟩ => blk_simp [index3]
  | ⟨2, _⟩ => blk_simp [index3]

/-- The fifth holds the step's blocks of momentum codes. -/
theorem Before.mc (h : Before m P Scr c t σ) (u : Fin 7) (hu : t.val = 18 + u.val) (q : Fin 4) (i j : Fin 128) :
    get (argsAt t).arg5 σ (ix3 q i j) = (args m c).mc (hh u q) i j := by
  obtain ⟨d0, hd⟩ := h.inp 4 rfl
  refine (congrFun hd _).trans ((win0_4.fill_xinj _ d0 _ (ix3 q i j)).trans ?_)
  blk_simp [iblk]
  rw [V_main_arg4]
  refine congrArg (m _) (funext fun a => Fin.ext ?_)
  match a with
  | ⟨0, _⟩ => blk_simp [index4, hh]; simp; omega
  | ⟨1, _⟩ => blk_simp [index4, hh]
  | ⟨2, _⟩ => blk_simp [index4, hh]

/-- The sixth holds the momentum scales. -/
theorem Before.ms (h : Before m P Scr c t σ) (a : Fin 28) (i : Fin 128) : get (argsAt t).arg6 σ (ix2 a i) = (args m c).ms a i := by
  obtain ⟨d0, hd⟩ := h.inp 5 rfl
  refine (congrFun hd _).trans ((win0_5.fill_xinj _ d0 _ (ix2 a i)).trans ?_)
  blk_simp [iblk]
  rw [V_main_arg5]
  refine congrArg (m _) (funext fun a => Fin.ext ?_)
  match a with
  | ⟨0, _⟩ => blk_simp [index5]
  | ⟨1, _⟩ => blk_simp [index5]

/-- The seventh holds the learning rates. -/
theorem Before.lr (h : Before m P Scr c t σ) (a : Fin 28) : get (argsAt t).arg7 σ (ix1 a) = (args m c).lr a := by
  obtain ⟨d0, hd⟩ := h.inp 6 rfl
  refine (congrFun hd _).trans ((win0_6.fill_xinj _ d0 _ (ix1 a)).trans ?_)
  blk_simp [iblk]
  rw [V_main_arg6]
  refine congrArg (m _) (funext fun a => Fin.ext ?_)
  match a with
  | ⟨0, _⟩ => blk_simp [index6]

/-- The names in order. -/
def names : List A := [.a1, .a2, .a3, .a4, .a5, .a6, .a7, .a8, .a9, .a10, .a11, .a12, .a13, .a14, .a15, .a16, .a17, .a18, .a19, .a20, .a21, .a22, .a23, .a24, .a25, .a26, .a27, .a28, .a29, .a30, .a31, .a32, .a33, .a34, .a35]

/-- A name's window, or its scratch buffer. -/
def code : A → Fin 23 ⊕ Fin 12
  | .a1 => .inl 0
  | .a2 => .inl 1
  | .a3 => .inl 2
  | .a4 => .inl 3
  | .a5 => .inl 4
  | .a6 => .inl 5
  | .a7 => .inl 6
  | .a8 => .inl 7
  | .a9 => .inl 8
  | .a10 => .inl 9
  | .a11 => .inl 10
  | .a12 => .inl 11
  | .a13 => .inl 12
  | .a14 => .inl 13
  | .a15 => .inl 14
  | .a16 => .inl 15
  | .a17 => .inl 16
  | .a18 => .inl 17
  | .a19 => .inl 18
  | .a20 => .inl 19
  | .a21 => .inl 20
  | .a22 => .inl 21
  | .a23 => .inl 22
  | .a24 => .inr 0
  | .a25 => .inr 1
  | .a26 => .inr 2
  | .a27 => .inr 3
  | .a28 => .inr 4
  | .a29 => .inr 5
  | .a30 => .inr 6
  | .a31 => .inr 7
  | .a32 => .inr 8
  | .a33 => .inr 9
  | .a34 => .inr 10
  | .a35 => .inr 11

def decode : Fin 23 ⊕ Fin 12 → A
  | .inl w => names.getD w.val .a1
  | .inr s => names.getD (23 + s.val) .a1

/-- Decoding the code of a name gives the name. -/
theorem decode_code (a : A) : decode (code a) = a := by cases a <;> rfl

/-- The scratch buffers. -/
def scrRef : Fin 12 → Ref sig .tc
  | 0 => cc0_scratch0 | 1 => cc0_scratch1 | 2 => cc0_scratch2 | 3 => cc0_scratch3 | 4 => cc0_scratch4 | 5 => cc0_scratch5
  | 6 => cc0_scratch6 | 7 => cc0_scratch7 | 8 => cc0_scratch8 | 9 => cc0_scratch9 | 10 => cc0_scratch10 | 11 => cc0_scratch11

/-- Scratch buffers of different numbers are different. -/
theorem scrRef_inj : Function.Injective scrRef := by decide
/-- Each scratch buffer is among the scoped buffers that stage no window. -/
theorem scrRef_mem : ∀ s, scrRef s ∈ S0 := by decide

/-- The step's buffers are different. -/
theorem args_inj (t : Fin cfg0.N) : Function.Injective (argsAt t).rf := by
  have e : ∀ a, (argsAt t).rf a = Sum.elim (stg t) scrRef (code a) := by intro a; cases a <;> rfl
  have hi : Function.Injective (Sum.elim (stg t) scrRef) :=
    Function.Injective.sumElim (stg_inj t) scrRef_inj fun w s h => stg_not_mem t w (h ▸ scrRef_mem s)
  intro a b h
  rw [e, e] at h
  rw [← decode_code a, ← decode_code b, hi h]

end Cert.KernelIdeal.Spin

end
-- ==== Proof.Steps.lean ====
/- What holds between the steps, and the steps. -/
module

public import proofs.«01_k».proof.Proof.Ins

@[expose] public section

set_option maxRecDepth 16384

noncomputable section

namespace Cert.KernelIdeal.Spin

open Idealize.ShloMosaic Idealize.ShloMosaic.TcCoe Cert.KernelIdeal.Gen _root_.Spin
open Idealize.ShloMosaic.Pipeline (Cfg)

/-- The tile of the weights at a point. -/
def tk (t : Nat) : Fin 18 := ⟨min t 17, by omega⟩
/-- The tail's step at a point. -/
def tu (t : Nat) : Fin 7 := ⟨min (t - 18) 6, by omega⟩

/-- What result 0 holds after point `t`. -/
def Q8 (A₀ : D) (t : Nat) (X : S4x128x128.Idx → EReal) : Prop := 18 ≤ t → ∀ q a b, X (ix3 q a b) = A₀.rn (hh (tu t) q) a b

/-- What result 1 holds after point `t`. -/
def Q9 (A₀ : D) (t : Nat) (X : S4x128x128.Idx → EReal) : Prop := 18 ≤ t → ∀ q a b, X (ix3 q a b) = A₀.st (hh (tu t) q) a b

/-- What result 2 holds after point `t`. -/
def Q10 (A₀ : D) (t : Nat) (X : S4x128x128.Idx → EReal) : Prop := 18 ≤ t → ∀ q a b, X (ix3 q a b) = A₀.c1 (hh (tu t) q) a b

/-- What result 3 holds after point `t`. -/
def Q11 (A₀ : D) (t : Nat) (X : S4x128x128.Idx → EReal) : Prop := 18 ≤ t → ∀ q a b, X (ix3 q a b) = A₀.c2 (hh (tu t) q) a b

/-- What result 4 holds after point `t`. -/
def Q12 (A₀ : D) (t : Nat) (X : S28.Idx → EReal) : Prop := ∀ h, h.val + 72 < 4 * (t + 1) → X (ix1 h) = A₀.na h

/-- What result 5 holds after point `t`. -/
def Q13 (A₀ : D) (t : Nat) (X : S28.Idx → EReal) : Prop := ∀ h, h.val + 72 < 4 * (t + 1) → X (ix1 h) = A₀.am h

/-- What result 6 holds after point `t`. -/
def Q14 (A₀ : D) (t : Nat) (X : S1x1.Idx → EReal) : Prop := t = 24 → ∀ a b, X (ix2 a b) = A₀.loss

/-- What result 7 holds after point `t`. -/
def Q15 (A₀ : D) (t : Nat) (X : S1x4608.Idx → EReal) : Prop := ∀ z n, n.val < 256 * min (t + 1) 18 → X (ix2 z n) = A₀.er n

/-- What result 8 holds after point `t`. -/
def Q16 (A₀ : D) (t : Nat) (X : S256x256.Idx → EReal) : Prop := ∀ i j, X (ix2 i j) = A₀.e i (tn (tk t) j)

/-- What result 9 holds after point `t`. -/
def Q17 (A₀ : D) (t : Nat) (X : S4x128x128.Idx → EReal) : Prop := 18 ≤ t → ∀ q a b, X (ix3 q a b) = A₀.gr (hh (tu t) q) a b

/-- What result 10 holds after point `t`. -/
def Q18 (A₀ : D) (t : Nat) (X : S256x3584.Idx → BitVec 8) : Prop := ∀ s d, X (ix2 s d) = i8 (A₀.cx s d)

/-- What result 11 holds after point `t`. -/
def Q19 (A₀ : D) (t : Nat) (X : S1x256.Idx → EReal) : Prop := ∀ z s, X (ix2 z s) = A₀.sx s

/-- What result 12 holds after point `t`. -/
def Q20 (A₀ : D) (t : Nat) (X : S256x3584.Idx → BitVec 8) : Prop := ∀ s d, X (ix2 s d) = i8 (A₀.cw (tn (tk t) s) d)

/-- What result 13 holds after point `t`. -/
def Q21 (A₀ : D) (t : Nat) (X : S1x4608.Idx → EReal) : Prop := ∀ z n, n.val < 256 * min (t + 1) 18 → X (ix2 z n) = A₀.sw n

/-- What result 14 holds after point `t`. -/
def Q22 (A₀ : D) (t : Nat) (X : S28x16384.Idx → BitVec 8) : Prop := t = 24 → ∀ h d, X (ix2 h d) = i8 (A₀.cm h ⟨d.val / 128, by omega⟩ ⟨d.val % 128, by omega⟩)

/-- What result 15 holds after point `t`. -/
def Q23 (A₀ : D) (t : Nat) (X : S28x128.Idx → EReal) : Prop := ∀ h i, h.val + 72 < 4 * (t + 1) → X (ix2 h i) = A₀.sm h i

/-- What is asked of the results' blocks. -/
def PP (m : MemT) : PTy Ideal := fun c w => match w with
  | 7 => fun t X => Q8 (args m c) t.val X
  | 8 => fun t X => Q9 (args m c) t.val X
  | 9 => fun t X => Q10 (args m c) t.val X
  | 10 => fun t X => Q11 (args m c) t.val X
  | 11 => fun t X => Q12 (args m c) t.val X
  | 12 => fun t X => Q13 (args m c) t.val X
  | 13 => fun t X => Q14 (args m c) t.val X
  | 14 => fun t X => Q15 (args m c) t.val X
  | 15 => fun t X => Q16 (args m c) t.val X
  | 16 => fun t X => Q17 (args m c) t.val X
  | 17 => fun t X => Q18 (args m c) t.val X
  | 18 => fun t X => Q19 (args m c) t.val X
  | 19 => fun t X => Q20 (args m c) t.val X
  | 20 => fun t X => Q21 (args m c) t.val X
  | 21 => fun t X => Q22 (args m c) t.val X
  | 22 => fun t X => Q23 (args m c) t.val X
  | _ => fun _ _ => True

/-- All of them after a point. -/
structure Res (M : Args) (A₀ : D) (t : Nat) (σ : Mem) : Prop where
  r8 : Q8 A₀ t (get M.arg8 σ)
  r9 : Q9 A₀ t (get M.arg9 σ)
  r10 : Q10 A₀ t (get M.arg10 σ)
  r11 : Q11 A₀ t (get M.arg11 σ)
  r12 : Q12 A₀ t (get M.arg12 σ)
  r13 : Q13 A₀ t (get M.arg13 σ)
  r14 : Q14 A₀ t (get M.arg14 σ)
  r15 : Q15 A₀ t (get M.arg15 σ)
  r16 : Q16 A₀ t (get M.arg16 σ)
  r17 : Q17 A₀ t (get M.arg17 σ)
  r18 : Q18 A₀ t (get M.arg18 σ)
  r19 : Q19 A₀ t (get M.arg19 σ)
  r20 : Q20 A₀ t (get M.arg20 σ)
  r21 : Q21 A₀ t (get M.arg21 σ)
  r22 : Q22 A₀ t (get M.arg22 σ)
  r23 : Q23 A₀ t (get M.arg23 σ)

/-- What holds of all results after a step is what is asked of every output window's block. -/
theorem Res.all {m : MemT} {c : Dev nD} {t : Fin cfg0.N} {σ : Mem} (h : Res (argsAt t) (args m c) t.val σ) :
    ∀ w : Fin 23, (cfg0.win w).isOut = true → PP m c w t (get ((cfg0.win w).stage (cfg0.slots t w)) σ)
  | 0, hw => Bool.noConfusion hw
  | 1, hw => Bool.noConfusion hw
  | 2, hw => Bool.noConfusion hw
  | 3, hw => Bool.noConfusion hw
  | 4, hw => Bool.noConfusion hw
  | 5, hw => Bool.noConfusion hw
  | 6, hw => Bool.noConfusion hw
  | 7, _ => h.r8
  | 8, _ => h.r9
  | 9, _ => h.r10
  | 10, _ => h.r11
  | 11, _ => h.r12
  | 12, _ => h.r13
  | 13, _ => h.r14
  | 14, _ => h.r15
  | 15, _ => h.r16
  | 16, _ => h.r17
  | 17, _ => h.r18
  | 18, _ => h.r19
  | 19, _ => h.r20
  | 20, _ => h.r21
  | 21, _ => h.r22
  | 22, _ => h.r23
  | ⟨n + 23, hn⟩, _ => absurd hn (by omega)

/-- What is kept of the results before a step. -/
structure Old (M : Args) (A₀ : D) (t : Nat) (σ : Mem) : Prop where
  r18 : ∀ s d, get M.arg18 σ (ix2 s d) = i8 (A₀.cx s d)
  r19 : ∀ z s, get M.arg19 σ (ix2 z s) = A₀.sx s
  r15 : ∀ z n, n.val < 256 * min t 18 → get M.arg15 σ (ix2 z n) = A₀.er n
  r21 : ∀ z n, n.val < 256 * min t 18 → get M.arg21 σ (ix2 z n) = A₀.sw n
  r16 : 18 ≤ t → ∀ i j, get M.arg16 σ (ix2 i j) = A₀.e i (tn 17 j)
  r20 : 18 ≤ t → ∀ s d, get M.arg20 σ (ix2 s d) = i8 (A₀.cw (tn 17 s) d)
  r12 : ∀ h, h.val + 72 < 4 * t → get M.arg12 σ (ix1 h) = A₀.na h
  r13 : ∀ h, h.val + 72 < 4 * t → get M.arg13 σ (ix1 h) = A₀.am h
  r23 : ∀ h i, h.val + 72 < 4 * t → get M.arg23 σ (ix2 h i) = A₀.sm h i

/-- Window 11 is not written back before step 24. -/
theorem fl11 : ∀ t : Fin cfg0.N, t.val < 24 → (cfg0.win 11).flush t = false := by decide
/-- Window 12 is not written back before step 24. -/
theorem fl12 : ∀ t : Fin cfg0.N, t.val < 24 → (cfg0.win 12).flush t = false := by decide
/-- Window 14 is not written back before step 24. -/
theorem fl14 : ∀ t : Fin cfg0.N, t.val < 24 → (cfg0.win 14).flush t = false := by decide
/-- Window 17 is not written back before step 24. -/
theorem fl17 : ∀ t : Fin cfg0.N, t.val < 24 → (cfg0.win 17).flush t = false := by decide
/-- Window 18 is not written back before step 24. -/
theorem fl18 : ∀ t : Fin cfg0.N, t.val < 24 → (cfg0.win 18).flush t = false := by decide
/-- Window 20 is not written back before step 24. -/
theorem fl20 : ∀ t : Fin cfg0.N, t.val < 24 → (cfg0.win 20).flush t = false := by decide
/-- Window 22 is not written back before step 24. -/
theorem fl22 : ∀ t : Fin cfg0.N, t.val < 24 → (cfg0.win 22).flush t = false := by decide
/-- Window 15 is not written back from step 17 on before step 24. -/
theorem fl15 : ∀ t : Fin cfg0.N, 17 ≤ t.val → t.val < 24 → (cfg0.win 15).flush t = false := by decide
/-- Window 19 is not written back from step 17 on before step 24. -/
theorem fl19 : ∀ t : Fin cfg0.N, 17 ≤ t.val → t.val < 24 → (cfg0.win 19).flush t = false := by decide

/-- A scratch buffer's memory of a block. -/
abbrev t0 : Fin cfg0.N := ⟨0, by decide⟩

/-- What the scratch holds after `n` points. -/
def SS (m : MemT) (c : Dev nD) (n : Nat) (σ : Mem) : Prop := n ≠ 0 →
  Inv (argsAt t0) (args m c) (min n 18) σ ∧
    ∀ d b, (hi d).val + 72 < 4 * n → get (argsAt t0).arg34 σ (ix2 d b) = (args m c).cm (hi d) (lo d) b

/-- What the scratch holds after `n` tiles does not depend on the step whose windows are named beside it. -/
theorem Inv.move {t : Fin cfg0.N} (t' : Fin cfg0.N) {A₀ : D} {n : Nat} {σ : Mem} (h : Inv (argsAt t) A₀ n σ) : Inv (argsAt t') A₀ n σ :=
  ⟨h.rd, h.c26, h.c27, h.c28, h.c29, h.p32, h.p33, h.p35⟩

/-- Memories that agree on a buffer read the same of it. -/
theorem get_congr {cs : CoreSpace} {s : Shape} {e : EltTy} {m : Memref sig .tc cs s e} {σ σ' : Mem}
    (h : σ' m.view.ref = σ m.view.ref) : get m σ' = get m σ := by
  unfold _root_.Spin.get; rw [h]

/-- What is said of the scratch holds in any memory that agrees on the scoped buffers that stage no window. -/
theorem SS_loc (m : MemT) (c : Dev nD) (n : Nat) (σ σ' : Mem) (h : ∀ b ∈ S0, σ' b = σ b) (hs : SS m c n σ) : SS m c n σ' := by
  intro hn
  obtain ⟨hI, h34⟩ := hs hn
  have g : ∀ k : Fin 12, σ' (scrRef k) = σ (scrRef k) := fun k => h _ (scrRef_mem k)
  refine ⟨⟨?_, ?_, ?_, ?_, ?_, ?_, ?_, ?_⟩, ?_⟩
  · rw [get_congr (m := (argsAt t0).arg24) (g 0)]; exact hI.rd
  · rw [get_congr (m := (argsAt t0).arg26) (g 2)]; exact hI.c26
  · rw [get_congr (m := (argsAt t0).arg27) (g 3)]; exact hI.c27
  · rw [get_congr (m := (argsAt t0).arg28) (g 4)]; exact hI.c28
  · rw [get_congr (m := (argsAt t0).arg29) (g 5)]; exact hI.c29
  · rw [get_congr (m := (argsAt t0).arg32) (g 8)]; exact hI.p32
  · rw [get_congr (m := (argsAt t0).arg33) (g 9)]; exact hI.p33
  · rw [get_congr (m := (argsAt t0).arg35) (g 11)]; exact hI.p35
  · rw [get_congr (m := (argsAt t0).arg34) (g 10)]; exact h34

variable {m : MemT} {c : Dev nD} {t : Fin cfg0.N} {σ : Mem}

/-- Before every step but the first, what is kept of the results is in place. -/
theorem Before.old (h : Before m (PP m) (SS m) c t σ) (ht : t.val ≠ 0) : Old (argsAt t) (args m c) t.val σ := by
  have hN : t.val < 25 := t.isLt
  have e1 : t.val - 1 + 1 = t.val := by omega
  have o18 : Q18 (args m c) (t.val - 1) (get (argsAt t).arg18 σ) := h.out 17 ht rfl (fl17 _ (by show t.val - 1 < 24; omega))
  have o19 : Q19 (args m c) (t.val - 1) (get (argsAt t).arg19 σ) := h.out 18 ht rfl (fl18 _ (by show t.val - 1 < 24; omega))
  have o15 : Q15 (args m c) (t.val - 1) (get (argsAt t).arg15 σ) := h.out 14 ht rfl (fl14 _ (by show t.val - 1 < 24; omega))
  have o21 : Q21 (args m c) (t.val - 1) (get (argsAt t).arg21 σ) := h.out 20 ht rfl (fl20 _ (by show t.val - 1 < 24; omega))
  have o12 : Q12 (args m c) (t.val - 1) (get (argsAt t).arg12 σ) := h.out 11 ht rfl (fl11 _ (by show t.val - 1 < 24; omega))
  have o13 : Q13 (args m c) (t.val - 1) (get (argsAt t).arg13 σ) := h.out 12 ht rfl (fl12 _ (by show t.val - 1 < 24; omega))
  have o23 : Q23 (args m c) (t.val - 1) (get (argsAt t).arg23 σ) := h.out 22 ht rfl (fl22 _ (by show t.val - 1 < 24; omega))
  have ek : 18 ≤ t.val → tk (t.val - 1) = 17 := fun h => Fin.ext (by show min (t.val - 1) 17 = 17; omega)
  refine ⟨o18, o19, ?_, ?_, fun h18 => ?_, fun h18 => ?_, ?_, ?_, ?_⟩
  · intro z n hn; exact o15 z n (by rw [e1]; exact hn)
  · intro z n hn; exact o21 z n (by rw [e1]; exact hn)
  · have o16 : Q16 (args m c) (t.val - 1) (get (argsAt t).arg16 σ) :=
      h.out 15 ht rfl (fl15 _ (by show 17 ≤ t.val - 1; omega) (by show t.val - 1 < 24; omega))
    intro i j; rw [o16 i j, ek h18]
  · have o20 : Q20 (args m c) (t.val - 1) (get (argsAt t).arg20 σ) :=
      h.out 19 ht rfl (fl19 _ (by show 17 ≤ t.val - 1; omega) (by show t.val - 1 < 24; omega))
    intro i j; rw [o20 i j, ek h18]
  · intro h hh; exact o12 h (by rw [e1]; exact hh)
  · intro h hh; exact o13 h (by rw [e1]; exact hh)
  · intro h i hh; exact o23 h i (by rw [e1]; exact hh)

/-- A step of the weights. -/
theorem main_case (ht : t.val < 18) (σ₁ : Mem)
    (hw : ∀ s d, get (argsAt t).arg2 σ₁ (ix2 s d) = (args m c).w (tn (tk t.val) s) d)
    (hy : ∀ s j, get (argsAt t).arg3 σ₁ (ix2 s j) = (args m c).y s (tn (tk t.val) j))
    (hI : Inv (argsAt t) (args m c) t.val σ₁) (ho : Old (argsAt t) (args m c) t.val σ₁) :
    st2 stH (argsAt t) (grid0.coords t) (After (PP m) (SS m) c t) σ₁ := by
  have ek : (tk t.val).val = t.val := by show min t.val 17 = t.val; omega
  unfold st2
  rw [dif_pos ((cond2_iff t).2 ht)]
  refine main_spec (args_inj t) (args m c) (tk t.val) _ _ ((off1_eq t).trans (by rw [ek])) σ₁ hw hy (by rw [ek]; exact hI) _ fun σ h => ?_
  unfold st3
  rw [dif_neg (fun e => absurd ((cond3_iff t).1 e) (by omega))]
  unfold st4
  rw [dif_neg (fun e => absurd ((cond4_iff t).1 e) (by omega))]
  have hinv := h.inv
  rw [ek] at hinv
  refine ⟨fun _ => ⟨?_, fun d b hd => absurd hd (by omega)⟩, Res.all ?_⟩
  · rw [show min (t.val + 1) 18 = t.val + 1 by omega]; exact hinv.move t0
  · refine ⟨?_, ?_, ?_, ?_, ?_, ?_, ?_, ?_, h.c16, ?_, ?_, ?_, h.c20, ?_, ?_, ?_⟩
    · intro h18; omega
    · intro h18; omega
    · intro h18; omega
    · intro h18; omega
    · intro a ha; omega
    · intro a ha; omega
    · intro h24; omega
    · intro z n hn
      by_cases hq : 256 * (tk t.val).val ≤ n.val ∧ n.val < 256 * (tk t.val).val + 256
      · exact h.c15 z n hq
      · rw [h.o15 z n hq]; exact ho.r15 z n (by omega)
    · intro h18; omega
    · intro s d; rw [h.same.get .a18 (by decide) rfl]; exact ho.r18 s d
    · intro s d; rw [h.same.get .a19 (by decide) rfl]; exact ho.r19 s d
    · intro z n hn
      by_cases hq : 256 * (tk t.val).val ≤ n.val ∧ n.val < 256 * (tk t.val).val + 256
      · exact h.c21 z n hq
      · rw [h.o21 z n hq]; exact ho.r21 z n (by omega)
    · intro h24; omega
    · intro a b ha; omega

/-- The sums of the products are whole after eighteen points. -/
theorem pT_all (A₀ : D) (s : Fin 256) (d : Fin 3584) : pre 18 (pT A₀ s d) = A₀.pp s d := by
  rw [pre_all 18 (Nat.le_refl _)]
  unfold D.pp
  rw [← sum_blocks 18 256 rfl fun n => A₀.e s n * A₀.sw n * A₀.cw n d]
  refine Finset.sum_congr rfl fun t _ => ?_
  unfold pT
  refine Finset.sum_congr rfl fun j _ => ?_
  have : (⟨t.val * 256 + j.val, by omega⟩ : Fin 4608) = tn t j := Fin.ext (by show t.val * 256 + j.val = 256 * t.val + j.val; omega)
  rw [this]

/-- The parts of all eighteen tiles sum to the weights' part of the gradient, transposed. -/
theorem gT_all (A₀ : D) (h : Fin 28) (i j : Fin 128) : pre 18 (gT A₀ h i j) = A₀.gw h j i := by
  rw [pre_all 18 (Nat.le_refl _)]
  unfold D.gw
  rw [← sum_blocks 18 256 rfl fun n => A₀.w n (bk h j) * A₀.qq n (bk h i)]
  refine Finset.sum_congr rfl fun t _ => ?_
  unfold gT
  refine Finset.sum_congr rfl fun n _ => ?_
  have : (⟨t.val * 256 + n.val, by omega⟩ : Fin 4608) = tn t n := Fin.ext (by show t.val * 256 + n.val = 256 * t.val + n.val; omega)
  rw [this, mul_comm]

/-- From step 18 on, the offsets are those of a tail point. -/
theorem offs (h : 18 ≤ t.val) : Offs (grid0.coords t) (tu t.val) := by
  have hN : t.val < 25 := t.isLt
  have e : t.val - 18 = (tu t.val).val := by show t.val - 18 = min (t.val - 18) 6; omega
  refine ⟨fun j => ?_, fun j => ?_, fun j => ?_, fun j => ?_, fun j => ?_, fun j => ?_⟩ <;> rw [← e]
  · exact off2_eq t j h
  · exact off3_eq t j h
  · exact off4_eq t j h
  · exact off5_eq t j h
  · exact off6_eq t j h
  · exact off7_eq t j h

/-- A step of the tail. -/
theorem tail_case (hb : Before m (PP m) (SS m) c t σ) (ht : 18 ≤ t.val) :
    st3 stH (argsAt t) (grid0.coords t) (After (PP m) (SS m) c t) σ := by
  have hN : t.val < 25 := t.isLt
  have eu : (tu t.val).val = t.val - 18 := by show min (t.val - 18) 6 = _; omega
  have ek : tk t.val = 17 := Fin.ext (by show min t.val 17 = 17; omega)
  have ho := hb.old (by omega)
  obtain ⟨hI0, h34⟩ := hb.scr (by omega)
  rw [show min t.val 18 = 18 by omega] at hI0
  have hI : Inv (argsAt t) (args m c) 18 σ := hI0.move t
  unfold st3
  rw [dif_pos ((cond3_iff t).2 ht)]
  refine tail_spec (args_inj t) (args m c) _ _ (tu t.val) (offs ht) σ ⟨hb.r, hb.ms, hb.mc (tu t.val) (by omega), hb.lr, hI.c28,
    fun s d => (hI.p32 s d).trans (pT_all _ _ _), fun h i j => (hI.p33 h i j).trans (gT_all _ _ _ _)⟩ _ fun σ' h => ?_
  have hInv : Inv (argsAt t) (args m c) 18 σ' := by
    refine ⟨?_, ?_, ?_, ?_, ?_, ?_, ?_, ?_⟩
    · rw [h.same.get .a24 (by decide) rfl]; exact hI.rd
    · rw [h.same.get .a26 (by decide) rfl]; exact hI.c26
    · rw [h.same.get .a27 (by decide) rfl]; exact hI.c27
    · rw [h.same.get .a28 (by decide) rfl]; exact hI.c28
    · rw [h.same.get .a29 (by decide) rfl]; exact hI.c29
    · rw [h.same.get .a32 (by decide) rfl]; exact hI.p32
    · rw [h.same.get .a33 (by decide) rfl]; exact hI.p33
    · rw [h.same.get .a35 (by decide) rfl]; exact hI.p35
  have hq : ∀ q : Fin 4, q.val < 4 := fun q => q.isLt
  have n34 : ∀ d b, (hi d).val + 72 < 4 * (t.val + 1) → get (argsAt t).arg34 σ' (ix2 d b) = (args m c).cm (hi d) (lo d) b := by
    intro d b hd
    by_cases hc : 4 * (tu t.val).val ≤ (hi d).val ∧ (hi d).val < 4 * (tu t.val).val + 4
    · exact h.n34 d b hc
    · rw [h.o34 d b hc]; exact h34 d b (by omega)
  have n12 : ∀ a, a.val + 72 < 4 * (t.val + 1) → get (argsAt t).arg12 σ' (ix1 a) = (args m c).na a := by
    intro a ha
    by_cases hc : 4 * (tu t.val).val ≤ a.val ∧ a.val < 4 * (tu t.val).val + 4
    · exact h.n12 a hc
    · rw [h.o12 a hc]; exact ho.r12 a (by omega)
  have n13 : ∀ a, a.val + 72 < 4 * (t.val + 1) → get (argsAt t).arg13 σ' (ix1 a) = (args m c).am a := by
    intro a ha
    by_cases hc : 4 * (tu t.val).val ≤ a.val ∧ a.val < 4 * (tu t.val).val + 4
    · exact h.n13 a hc
    · rw [h.o13 a hc]; exact ho.r13 a (by omega)
  have n23 : ∀ a b, a.val + 72 < 4 * (t.val + 1) → get (argsAt t).arg23 σ' (ix2 a b) = (args m c).sm a b := by
    intro a b ha
    by_cases hc : 4 * (tu t.val).val ≤ a.val ∧ a.val < 4 * (tu t.val).val + 4
    · exact h.n23 a b hc
    · rw [h.o23 a b hc]; exact ho.r23 a b (by omega)
  have n15 : ∀ z n, n.val < 256 * min (t.val + 1) 18 → get (argsAt t).arg15 σ' (ix2 z n) = (args m c).er n := by
    intro z n hn; rw [h.same.get .a15 (by decide) rfl]; exact ho.r15 z n (by omega)
  have n21 : ∀ z n, n.val < 256 * min (t.val + 1) 18 → get (argsAt t).arg21 σ' (ix2 z n) = (args m c).sw n := by
    intro z n hn; rw [h.same.get .a21 (by decide) rfl]; exact ho.r21 z n (by omega)
  have n16 : ∀ i j, get (argsAt t).arg16 σ' (ix2 i j) = (args m c).e i (tn (tk t.val) j) := by
    intro i j; rw [ek, h.same.get .a16 (by decide) rfl]; exact ho.r16 ht i j
  have n20 : ∀ i j, get (argsAt t).arg20 σ' (ix2 i j) = i8 ((args m c).cw (tn (tk t.val) i) j) := by
    intro i j; rw [ek, h.same.get .a20 (by decide) rfl]; exact ho.r20 ht i j
  have n18 : ∀ s d, get (argsAt t).arg18 σ' (ix2 s d) = i8 ((args m c).cx s d) := by
    intro s d; rw [h.same.get .a18 (by decide) rfl]; exact ho.r18 s d
  have n19 : ∀ s d, get (argsAt t).arg19 σ' (ix2 s d) = (args m c).sx d := by
    intro s d; rw [h.same.get .a19 (by decide) rfl]; exact ho.r19 s d
  unfold st4
  by_cases h24 : t.val = 24
  · rw [dif_pos ((cond4_iff t).2 h24)]
    refine end_spec (args_inj t) (args m c) σ' hInv.p35 (fun d b => n34 d b (by have := (hi d).isLt; omega)) _ fun σ'' g => ?_
    refine ⟨fun _ => ⟨?_, ?_⟩, Res.all ?_⟩
    · rw [show min (t.val + 1) 18 = 18 by omega]
      refine Inv.move (t := t) t0 ⟨?_, ?_, ?_, ?_, ?_, ?_, ?_, ?_⟩
      · rw [g.same.get .a24 (by decide) rfl]; exact hInv.rd
      · rw [g.same.get .a26 (by decide) rfl]; exact hInv.c26
      · rw [g.same.get .a27 (by decide) rfl]; exact hInv.c27
      · rw [g.same.get .a28 (by decide) rfl]; exact hInv.c28
      · rw [g.same.get .a29 (by decide) rfl]; exact hInv.c29
      · rw [g.same.get .a32 (by decide) rfl]; exact hInv.p32
      · rw [g.same.get .a33 (by decide) rfl]; exact hInv.p33
      · rw [g.same.get .a35 (by decide) rfl]; exact hInv.p35
    · intro d b hd
      refine (congrFun (g.same.get (m := (argsAt t).arg34) .a34 (by decide) rfl) _).trans (n34 d b hd)
    · refine ⟨fun _ q a b => ?_, fun _ q a b => ?_, fun _ q a b => ?_, fun _ q a b => ?_, ?_, ?_, fun _ => g.c14, ?_, ?_, fun _ q a b => ?_, ?_, ?_, ?_, ?_, fun _ a d => g.c22 a d (by omega), ?_⟩
      · rw [g.same.get .a8 (by decide) rfl]; exact h.n8 q a b (hq q)
      · rw [g.same.get .a9 (by decide) rfl]; exact h.n9 q a b (hq q)
      · rw [g.same.get .a10 (by decide) rfl]; exact h.n10 q a b (hq q)
      · rw [g.same.get .a11 (by decide) rfl]; exact h.n11 q a b (hq q)
      · rw [g.same.get .a12 (by decide) rfl]; exact n12
      · rw [g.same.get .a13 (by decide) rfl]; exact n13
      · rw [g.same.get .a15 (by decide) rfl]; exact n15
      · rw [g.same.get .a16 (by decide) rfl]; exact n16
      · rw [g.same.get .a17 (by decide) rfl]; exact h.n17 q a b (hq q)
      · rw [g.same.get .a18 (by decide) rfl]; exact n18
      · rw [g.same.get .a19 (by decide) rfl]; exact n19
      · rw [g.same.get .a20 (by decide) rfl]; exact n20
      · rw [g.same.get .a21 (by decide) rfl]; exact n21
      · rw [g.same.get .a23 (by decide) rfl]; exact n23
  · rw [dif_neg (fun e => h24 ((cond4_iff t).1 e))]
    refine ⟨fun _ => ⟨?_, n34⟩, Res.all ?_⟩
    · rw [show min (t.val + 1) 18 = 18 by omega]; exact hInv.move t0
    · exact ⟨fun _ q a b => h.n8 q a b (hq q), fun _ q a b => h.n9 q a b (hq q), fun _ q a b => h.n10 q a b (hq q),
        fun _ q a b => h.n11 q a b (hq q), n12, n13, fun e => absurd e h24, n15, n16, fun _ q a b => h.n17 q a b (hq q), n18, n19, n20, n21,
        fun e => absurd e h24, n23⟩

/-- One step. -/
theorem step_ok (m : MemT) (c : Dev nD) (t : Fin cfg0.N) (σ : Mem) (hb : Before m (PP m) (SS m) c t σ) :
    st1 stH (argsAt t) (grid0.coords t) (After (PP m) (SS m) c t) σ := by
  unfold st1
  by_cases h0 : t.val = 0
  · rw [dif_pos ((cond1_iff t).2 h0)]
    refine prologue_spec (args_inj t) (args m c) σ hb.x hb.r _ fun σ₁ h => ?_
    have ek : t.val = (tk t.val).val := by show t.val = min t.val 17; omega
    refine main_case (by omega) σ₁ (fun s d => ?_) (fun s d => ?_) (by rw [h0]; exact h.inv) ⟨h.c18, h.c19, fun _ _ _ => by omega, fun _ _ _ => by omega,
      fun _ => by omega, fun _ => by omega, fun _ _ => by omega, fun _ _ => by omega, fun _ _ _ => by omega⟩
    · rw [h.same.get .a2 (by decide) rfl]; exact hb.w _ ek s d
    · rw [h.same.get .a3 (by decide) rfl]; exact hb.y _ ek s d
  · rw [dif_neg (fun e => h0 ((cond1_iff t).1 e))]
    by_cases h18 : t.val < 18
    · have ek : t.val = (tk t.val).val := by show t.val = min t.val 17; omega
      have hI := (hb.scr h0).1
      rw [show min t.val 18 = t.val by omega] at hI
      exact main_case h18 σ (hb.w _ ek) (hb.y _ ek) (hI.move t) (hb.old h0)
    · unfold st2
      rw [dif_neg (fun e => h18 ((cond2_iff t).1 e))]
      exact tail_case hb (by omega)

end Cert.KernelIdeal.Spin

end
-- ==== Proof.Results.lean ====
/- The results as functions of the arguments. -/
module

public import proofs.«01_k».proof.Proof.Spec
public import Idealize.ShloMosaic.Lib.Pointwise

@[expose] public section

noncomputable section

namespace Spin

open Idealize.ShloMosaic

/-- The momentum's codes in a row of a block. -/
def gcm (A₀ : D) (h : Fin 28) (d : Fin 16384) : BitVec 8 :=
  FloatOps.fptosi (F := Ideal) (φ := .f32) 8 (A₀.cm h ⟨d.val / 128, by omega⟩ ⟨d.val % 128, by omega⟩)

/-- Result 0. -/
def G8 (A₀ : D) : ((⟨3, ![28, 128, 128]⟩ : Shape).Idx) → EReal := fun q => A₀.rn (q 0) (q 1) (q 2)

/-- Result 1. -/
def G9 (A₀ : D) : ((⟨3, ![28, 128, 128]⟩ : Shape).Idx) → EReal := fun q => A₀.st (q 0) (q 1) (q 2)

/-- Result 2. -/
def G10 (A₀ : D) : ((⟨3, ![28, 128, 128]⟩ : Shape).Idx) → EReal := fun q => A₀.c1 (q 0) (q 1) (q 2)

/-- Result 3. -/
def G11 (A₀ : D) : ((⟨3, ![28, 128, 128]⟩ : Shape).Idx) → EReal := fun q => A₀.c2 (q 0) (q 1) (q 2)

/-- Result 4. -/
def G12 (A₀ : D) : ((⟨1, ![28]⟩ : Shape).Idx) → EReal := fun q => A₀.na (q 0)

/-- Result 5. -/
def G13 (A₀ : D) : ((⟨1, ![28]⟩ : Shape).Idx) → EReal := fun q => A₀.am (q 0)

/-- Result 6. -/
def G14 (A₀ : D) : ((⟨2, ![1, 1]⟩ : Shape).Idx) → EReal := fun _ => A₀.loss

/-- Result 7. -/
def G15 (A₀ : D) : ((⟨2, ![1, 4608]⟩ : Shape).Idx) → EReal := fun q => A₀.er (q 1)

/-- Result 8. -/
def G16 (A₀ : D) : ((⟨2, ![256, 4608]⟩ : Shape).Idx) → EReal := fun q => A₀.e (q 0) (q 1)

/-- Result 9. -/
def G17 (A₀ : D) : ((⟨3, ![28, 128, 128]⟩ : Shape).Idx) → EReal := fun q => A₀.gr (q 0) (q 1) (q 2)

/-- Result 10. -/
def G18 (A₀ : D) : ((⟨2, ![256, 3584]⟩ : Shape).Idx) → BitVec 8 := fun q => FloatOps.fptosi (F := Ideal) (φ := .f32) 8 (A₀.cx (q 0) (q 1))

/-- Result 11. -/
def G19 (A₀ : D) : ((⟨2, ![1, 256]⟩ : Shape).Idx) → EReal := fun q => A₀.sx (q 1)

/-- Result 12. -/
def G20 (A₀ : D) : ((⟨2, ![4608, 3584]⟩ : Shape).Idx) → BitVec 8 := fun q => FloatOps.fptosi (F := Ideal) (φ := .f32) 8 (A₀.cw (q 0) (q 1))

/-- Result 13. -/
def G21 (A₀ : D) : ((⟨2, ![1, 4608]⟩ : Shape).Idx) → EReal := fun q => A₀.sw (q 1)

/-- Result 14. -/
def G22 (A₀ : D) : ((⟨2, ![28, 16384]⟩ : Shape).Idx) → BitVec 8 := fun q => gcm A₀ (q 0) (q 1)

/-- Result 15. -/
def G23 (A₀ : D) : ((⟨2, ![28, 128]⟩ : Shape).Idx) → EReal := fun q => A₀.sm (q 0) (q 1)

end Spin

end
-- ==== Proof.Fin.lean ====
/- The kernel's results after the run. -/
module

public import proofs.«01_k».proof.Proof.Steps
public import proofs.«01_k».proof.Proof.Results

@[expose] public section

set_option maxRecDepth 16384

noncomputable section

namespace Cert.KernelIdeal.Spin

open Idealize.ShloMosaic Idealize.ShloMosaic.TcCoe Idealize.SL.Sem Cert.KernelIdeal.Gen _root_.Spin
open Idealize.ShloMosaic.Pipeline (Cfg Dat RDat)

/-- At step `t` window 7 is at block `t.val - 18, 0, 0`. -/
theorem index7 : ∀ t : Fin cfg0.N, win0_7.index t = ![t.val - 18, 0, 0] := by decide
/-- Window 7 is written back only from step 18 on. -/
theorem flushed7 : ∀ t : Fin cfg0.N, (cfg0.win 7).flush t = true → 18 ≤ t.val := by decide
/-- At step `t` window 8 is at block `t.val - 18, 0, 0`. -/
theorem index8 : ∀ t : Fin cfg0.N, win0_8.index t = ![t.val - 18, 0, 0] := by decide
/-- Window 8 is written back only from step 18 on. -/
theorem flushed8 : ∀ t : Fin cfg0.N, (cfg0.win 8).flush t = true → 18 ≤ t.val := by decide
/-- At step `t` window 9 is at block `t.val - 18, 0, 0`. -/
theorem index9 : ∀ t : Fin cfg0.N, win0_9.index t = ![t.val - 18, 0, 0] := by decide
/-- Window 9 is written back only from step 18 on. -/
theorem flushed9 : ∀ t : Fin cfg0.N, (cfg0.win 9).flush t = true → 18 ≤ t.val := by decide
/-- At step `t` window 10 is at block `t.val - 18, 0, 0`. -/
theorem index10 : ∀ t : Fin cfg0.N, win0_10.index t = ![t.val - 18, 0, 0] := by decide
/-- Window 10 is written back only from step 18 on. -/
theorem flushed10 : ∀ t : Fin cfg0.N, (cfg0.win 10).flush t = true → 18 ≤ t.val := by decide
/-- At step `t` window 11 is at block `0`. -/
theorem index11 : ∀ t : Fin cfg0.N, win0_11.index t = ![0] := by decide
/-- Window 11 is written back only at step 24. -/
theorem flushed11 : ∀ t : Fin cfg0.N, (cfg0.win 11).flush t = true → t.val = 24 := by decide
/-- At step `t` window 12 is at block `0`. -/
theorem index12 : ∀ t : Fin cfg0.N, win0_12.index t = ![0] := by decide
/-- Window 12 is written back only at step 24. -/
theorem flushed12 : ∀ t : Fin cfg0.N, (cfg0.win 12).flush t = true → t.val = 24 := by decide
/-- At step `t` window 13 is at block `0, 0`. -/
theorem index13 : ∀ t : Fin cfg0.N, win0_13.index t = ![0, 0] := by decide
/-- Window 13 is written back only at step 24. -/
theorem flushed13 : ∀ t : Fin cfg0.N, (cfg0.win 13).flush t = true → t.val = 24 := by decide
/-- At step `t` window 14 is at block `0, 0`. -/
theorem index14 : ∀ t : Fin cfg0.N, win0_14.index t = ![0, 0] := by decide
/-- Window 14 is written back only at step 24. -/
theorem flushed14 : ∀ t : Fin cfg0.N, (cfg0.win 14).flush t = true → t.val = 24 := by decide
/-- At step `t` window 15 is at block `0, min t.val 17`. -/
theorem index15 : ∀ t : Fin cfg0.N, win0_15.index t = ![0, min t.val 17] := by decide
/-- At step `t` window 16 is at block `t.val - 18, 0, 0`. -/
theorem index16 : ∀ t : Fin cfg0.N, win0_16.index t = ![t.val - 18, 0, 0] := by decide
/-- Window 16 is written back only from step 18 on. -/
theorem flushed16 : ∀ t : Fin cfg0.N, (cfg0.win 16).flush t = true → 18 ≤ t.val := by decide
/-- At step `t` window 17 is at block `0, 0`. -/
theorem index17 : ∀ t : Fin cfg0.N, win0_17.index t = ![0, 0] := by decide
/-- Window 17 is written back only at step 24. -/
theorem flushed17 : ∀ t : Fin cfg0.N, (cfg0.win 17).flush t = true → t.val = 24 := by decide
/-- At step `t` window 18 is at block `0, 0`. -/
theorem index18 : ∀ t : Fin cfg0.N, win0_18.index t = ![0, 0] := by decide
/-- Window 18 is written back only at step 24. -/
theorem flushed18 : ∀ t : Fin cfg0.N, (cfg0.win 18).flush t = true → t.val = 24 := by decide
/-- At step `t` window 19 is at block `min t.val 17, 0`. -/
theorem index19 : ∀ t : Fin cfg0.N, win0_19.index t = ![min t.val 17, 0] := by decide
/-- At step `t` window 20 is at block `0, 0`. -/
theorem index20 : ∀ t : Fin cfg0.N, win0_20.index t = ![0, 0] := by decide
/-- Window 20 is written back only at step 24. -/
theorem flushed20 : ∀ t : Fin cfg0.N, (cfg0.win 20).flush t = true → t.val = 24 := by decide
/-- At step `t` window 21 is at block `0, 0`. -/
theorem index21 : ∀ t : Fin cfg0.N, win0_21.index t = ![0, 0] := by decide
/-- Window 21 is written back only at step 24. -/
theorem flushed21 : ∀ t : Fin cfg0.N, (cfg0.win 21).flush t = true → t.val = 24 := by decide
/-- At step `t` window 22 is at block `0, 0`. -/
theorem index22 : ∀ t : Fin cfg0.N, win0_22.index t = ![0, 0] := by decide
/-- Window 22 is written back only at step 24. -/
theorem flushed22 : ∀ t : Fin cfg0.N, (cfg0.win 22).flush t = true → t.val = 24 := by decide

/-- Equal places give equal values of a function of three places. -/
theorem cg3 {α β γ δ : Type} (f : α → β → γ → δ) {a a' : α} {b b' : β} {c c' : γ} (h : a = a') (h1 : b = b') (h2 : c = c') : f a b c = f a' b' c' := by
  subst h; subst h1; subst h2; rfl

/-- Equal places give equal values of a function of two places. -/
theorem cg2 {α β δ : Type} (f : α → β → δ) {a a' : α} {b b' : β} (h : a = a') (h1 : b = b') : f a b = f a' b' := by
  subst h; subst h1; rfl

variable {m : MemT} {c : Dev nD} (after : (w' : Fin cfg0.W) → Fin cfg0.N → (cfg0.win w').block.Idx → Elt Ideal (cfg0.win w').elt)

/-- Result 0 after the run. -/
theorem fin8 (hL : ∀ u, (cfg0.win 7).flush u = true → PP m c 7 u (after 7 u)) :
    ((rdat m (PP m) (SS m) c).withAfter after).arrAt 7 cfg0.N = G8 (args m c) := by
  refine Dat.arrAt_eq_of_covers _ 7 _ (by decide +kernel) fun t hf y => ?_
  · have hQ : Q8 (args m c) t.val (after 7 t) := hL t hf
    have h18 := flushed7 t hf
    have hN : t.val < 25 := t.isLt
    have ey : (y : S4x128x128.Idx) = ix3 (y 0) (y 1) (y 2) := eq_ix3 _
    refine (congrArg (after 7 t) ey).trans ((hQ h18 (y 0) (y 1) (y 2)).trans ?_)
    exact cg3 ((args m c).rn) (Fin.ext (by blk_simp [index7, hh, tu]; simp; omega)) (Fin.ext (by blk_simp [index7])) (Fin.ext (by blk_simp [index7]))

/-- Result 1 after the run. -/
theorem fin9 (hL : ∀ u, (cfg0.win 8).flush u = true → PP m c 8 u (after 8 u)) :
    ((rdat m (PP m) (SS m) c).withAfter after).arrAt 8 cfg0.N = G9 (args m c) := by
  refine Dat.arrAt_eq_of_covers _ 8 _ (by decide +kernel) fun t hf y => ?_
  · have hQ : Q9 (args m c) t.val (after 8 t) := hL t hf
    have h18 := flushed8 t hf
    have hN : t.val < 25 := t.isLt
    have ey : (y : S4x128x128.Idx) = ix3 (y 0) (y 1) (y 2) := eq_ix3 _
    refine (congrArg (after 8 t) ey).trans ((hQ h18 (y 0) (y 1) (y 2)).trans ?_)
    exact cg3 ((args m c).st) (Fin.ext (by blk_simp [index8, hh, tu]; simp; omega)) (Fin.ext (by blk_simp [index8])) (Fin.ext (by blk_simp [index8]))

/-- Result 2 after the run. -/
theorem fin10 (hL : ∀ u, (cfg0.win 9).flush u = true → PP m c 9 u (after 9 u)) :
    ((rdat m (PP m) (SS m) c).withAfter after).arrAt 9 cfg0.N = G10 (args m c) := by
  refine Dat.arrAt_eq_of_covers _ 9 _ (by decide +kernel) fun t hf y => ?_
  · have hQ : Q10 (args m c) t.val (after 9 t) := hL t hf
    have h18 := flushed9 t hf
    have hN : t.val < 25 := t.isLt
    have ey : (y : S4x128x128.Idx) = ix3 (y 0) (y 1) (y 2) := eq_ix3 _
    refine (congrArg (after 9 t) ey).trans ((hQ h18 (y 0) (y 1) (y 2)).trans ?_)
    exact cg3 ((args m c).c1) (Fin.ext (by blk_simp [index9, hh, tu]; simp; omega)) (Fin.ext (by blk_simp [index9])) (Fin.ext (by blk_simp [index9]))

/-- Result 3 after the run. -/
theorem fin11 (hL : ∀ u, (cfg0.win 10).flush u = true → PP m c 10 u (after 10 u)) :
    ((rdat m (PP m) (SS m) c).withAfter after).arrAt 10 cfg0.N = G11 (args m c) := by
  refine Dat.arrAt_eq_of_covers _ 10 _ (by decide +kernel) fun t hf y => ?_
  · have hQ : Q11 (args m c) t.val (after 10 t) := hL t hf
    have h18 := flushed10 t hf
    have hN : t.val < 25 := t.isLt
    have ey : (y : S4x128x128.Idx) = ix3 (y 0) (y 1) (y 2) := eq_ix3 _
    refine (congrArg (after 10 t) ey).trans ((hQ h18 (y 0) (y 1) (y 2)).trans ?_)
    exact cg3 ((args m c).c2) (Fin.ext (by blk_simp [index10, hh, tu]; simp; omega)) (Fin.ext (by blk_simp [index10])) (Fin.ext (by blk_simp [index10]))

/-- Result 4 after the run. -/
theorem fin12 (hL : ∀ u, (cfg0.win 11).flush u = true → PP m c 11 u (after 11 u)) :
    ((rdat m (PP m) (SS m) c).withAfter after).arrAt 11 cfg0.N = G12 (args m c) := by
  refine Dat.arrAt_eq_of_covers _ 11 _ (by decide +kernel) fun t hf y => ?_
  · have hQ : Q12 (args m c) t.val (after 11 t) := hL t hf
    have h24 := flushed11 t hf
    have ey : (y : S28.Idx) = ix1 (y 0) := eq_ix1 _
    refine (congrArg (after 11 t) ey).trans ((hQ (y 0) (by have : (y 0).val < 28 := (y 0).isLt; omega)).trans ?_)
    exact congrArg ((args m c).na) (Fin.ext (by blk_simp [index11]))

/-- Result 5 after the run. -/
theorem fin13 (hL : ∀ u, (cfg0.win 12).flush u = true → PP m c 12 u (after 12 u)) :
    ((rdat m (PP m) (SS m) c).withAfter after).arrAt 12 cfg0.N = G13 (args m c) := by
  refine Dat.arrAt_eq_of_covers _ 12 _ (by decide +kernel) fun t hf y => ?_
  · have hQ : Q13 (args m c) t.val (after 12 t) := hL t hf
    have h24 := flushed12 t hf
    have ey : (y : S28.Idx) = ix1 (y 0) := eq_ix1 _
    refine (congrArg (after 12 t) ey).trans ((hQ (y 0) (by have : (y 0).val < 28 := (y 0).isLt; omega)).trans ?_)
    exact congrArg ((args m c).am) (Fin.ext (by blk_simp [index12]))

/-- Result 6 after the run. -/
theorem fin14 (hL : ∀ u, (cfg0.win 13).flush u = true → PP m c 13 u (after 13 u)) :
    ((rdat m (PP m) (SS m) c).withAfter after).arrAt 13 cfg0.N = G14 (args m c) := by
  refine Dat.arrAt_eq_of_covers _ 13 _ (by decide +kernel) fun t hf y => ?_
  · have hQ : Q14 (args m c) t.val (after 13 t) := hL t hf
    have h24 := flushed13 t hf
    have ey : (y : S1x1.Idx) = ix2 (y 0) (y 1) := eq_ix2 _
    refine (congrArg (after 13 t) ey).trans ((hQ h24 (y 0) (y 1)).trans ?_)
    exact rfl

/-- Result 7 after the run. -/
theorem fin15 (hL : ∀ u, (cfg0.win 14).flush u = true → PP m c 14 u (after 14 u)) :
    ((rdat m (PP m) (SS m) c).withAfter after).arrAt 14 cfg0.N = G15 (args m c) := by
  refine Dat.arrAt_eq_of_covers _ 14 _ (by decide +kernel) fun t hf y => ?_
  · have hQ : Q15 (args m c) t.val (after 14 t) := hL t hf
    have h24 := flushed14 t hf
    have ey : (y : S1x4608.Idx) = ix2 (y 0) (y 1) := eq_ix2 _
    refine (congrArg (after 14 t) ey).trans ((hQ (y 0) (y 1) (by have : (y 1).val < 4608 := (y 1).isLt; omega)).trans ?_)
    exact congrArg ((args m c).er) (Fin.ext (by blk_simp [index14]))

/-- Result 8 after the run. -/
theorem fin16 (hL : ∀ u, (cfg0.win 15).flush u = true → PP m c 15 u (after 15 u)) :
    ((rdat m (PP m) (SS m) c).withAfter after).arrAt 15 cfg0.N = G16 (args m c) := by
  refine Dat.arrAt_eq_of_covers _ 15 _ (by decide +kernel) fun t hf y => ?_
  · have hQ : Q16 (args m c) t.val (after 15 t) := hL t hf
    have hN : t.val < 25 := t.isLt
    have ey : (y : S256x256.Idx) = ix2 (y 0) (y 1) := eq_ix2 _
    refine (congrArg (after 15 t) ey).trans ((hQ (y 0) (y 1)).trans ?_)
    exact cg2 ((args m c).e) (Fin.ext (by blk_simp [index15])) (Fin.ext (by blk_simp [index15, tn, tk]; simp; omega))

/-- Result 9 after the run. -/
theorem fin17 (hL : ∀ u, (cfg0.win 16).flush u = true → PP m c 16 u (after 16 u)) :
    ((rdat m (PP m) (SS m) c).withAfter after).arrAt 16 cfg0.N = G17 (args m c) := by
  refine Dat.arrAt_eq_of_covers _ 16 _ (by decide +kernel) fun t hf y => ?_
  · have hQ : Q17 (args m c) t.val (after 16 t) := hL t hf
    have h18 := flushed16 t hf
    have hN : t.val < 25 := t.isLt
    have ey : (y : S4x128x128.Idx) = ix3 (y 0) (y 1) (y 2) := eq_ix3 _
    refine (congrArg (after 16 t) ey).trans ((hQ h18 (y 0) (y 1) (y 2)).trans ?_)
    exact cg3 ((args m c).gr) (Fin.ext (by blk_simp [index16, hh, tu]; simp; omega)) (Fin.ext (by blk_simp [index16])) (Fin.ext (by blk_simp [index16]))

/-- Result 10 after the run. -/
theorem fin18 (hL : ∀ u, (cfg0.win 17).flush u = true → PP m c 17 u (after 17 u)) :
    ((rdat m (PP m) (SS m) c).withAfter after).arrAt 17 cfg0.N = G18 (args m c) := by
  refine Dat.arrAt_eq_of_covers _ 17 _ (by decide +kernel) fun t hf y => ?_
  · have hQ : Q18 (args m c) t.val (after 17 t) := hL t hf
    have h24 := flushed17 t hf
    have ey : (y : S256x3584.Idx) = ix2 (y 0) (y 1) := eq_ix2 _
    refine (congrArg (after 17 t) ey).trans ((hQ (y 0) (y 1)).trans ?_)
    exact cg2 (fun s d => i8 ((args m c).cx s d)) (Fin.ext (by blk_simp [index17])) (Fin.ext (by blk_simp [index17]))

/-- Result 11 after the run. -/
theorem fin19 (hL : ∀ u, (cfg0.win 18).flush u = true → PP m c 18 u (after 18 u)) :
    ((rdat m (PP m) (SS m) c).withAfter after).arrAt 18 cfg0.N = G19 (args m c) := by
  refine Dat.arrAt_eq_of_covers _ 18 _ (by decide +kernel) fun t hf y => ?_
  · have hQ : Q19 (args m c) t.val (after 18 t) := hL t hf
    have h24 := flushed18 t hf
    have ey : (y : S1x256.Idx) = ix2 (y 0) (y 1) := eq_ix2 _
    refine (congrArg (after 18 t) ey).trans ((hQ (y 0) (y 1)).trans ?_)
    exact congrArg ((args m c).sx) (Fin.ext (by blk_simp [index18]))

/-- Result 12 after the run. -/
theorem fin20 (hL : ∀ u, (cfg0.win 19).flush u = true → PP m c 19 u (after 19 u)) :
    ((rdat m (PP m) (SS m) c).withAfter after).arrAt 19 cfg0.N = G20 (args m c) := by
  refine Dat.arrAt_eq_of_covers _ 19 _ (by decide +kernel) fun t hf y => ?_
  · have hQ : Q20 (args m c) t.val (after 19 t) := hL t hf
    have hN : t.val < 25 := t.isLt
    have ey : (y : S256x3584.Idx) = ix2 (y 0) (y 1) := eq_ix2 _
    refine (congrArg (after 19 t) ey).trans ((hQ (y 0) (y 1)).trans ?_)
    exact cg2 (fun s d => i8 ((args m c).cw s d)) (Fin.ext (by blk_simp [index19, tn, tk]; simp; omega)) (Fin.ext (by blk_simp [index19]))

/-- Result 13 after the run. -/
theorem fin21 (hL : ∀ u, (cfg0.win 20).flush u = true → PP m c 20 u (after 20 u)) :
    ((rdat m (PP m) (SS m) c).withAfter after).arrAt 20 cfg0.N = G21 (args m c) := by
  refine Dat.arrAt_eq_of_covers _ 20 _ (by decide +kernel) fun t hf y => ?_
  · have hQ : Q21 (args m c) t.val (after 20 t) := hL t hf
    have h24 := flushed20 t hf
    have ey : (y : S1x4608.Idx) = ix2 (y 0) (y 1) := eq_ix2 _
    refine (congrArg (after 20 t) ey).trans ((hQ (y 0) (y 1) (by have : (y 1).val < 4608 := (y 1).isLt; omega)).trans ?_)
    exact congrArg ((args m c).sw) (Fin.ext (by blk_simp [index20]))

/-- Result 14 after the run. -/
theorem fin22 (hL : ∀ u, (cfg0.win 21).flush u = true → PP m c 21 u (after 21 u)) :
    ((rdat m (PP m) (SS m) c).withAfter after).arrAt 21 cfg0.N = G22 (args m c) := by
  refine Dat.arrAt_eq_of_covers _ 21 _ (by decide +kernel) fun t hf y => ?_
  · have hQ : Q22 (args m c) t.val (after 21 t) := hL t hf
    have h24 := flushed21 t hf
    have ey : (y : S28x16384.Idx) = ix2 (y 0) (y 1) := eq_ix2 _
    refine (congrArg (after 21 t) ey).trans ((hQ h24 (y 0) (y 1)).trans ?_)
    exact cg2 (gcm (args m c)) (Fin.ext (by blk_simp [index21])) (Fin.ext (by blk_simp [index21]))

/-- Result 15 after the run. -/
theorem fin23 (hL : ∀ u, (cfg0.win 22).flush u = true → PP m c 22 u (after 22 u)) :
    ((rdat m (PP m) (SS m) c).withAfter after).arrAt 22 cfg0.N = G23 (args m c) := by
  refine Dat.arrAt_eq_of_covers _ 22 _ (by decide +kernel) fun t hf y => ?_
  · have hQ : Q23 (args m c) t.val (after 22 t) := hL t hf
    have h24 := flushed22 t hf
    have ey : (y : S28x128.Idx) = ix2 (y 0) (y 1) := eq_ix2 _
    refine (congrArg (after 22 t) ey).trans ((hQ (y 0) (y 1) (by have : (y 0).val < 28 := (y 0).isLt; omega)).trans ?_)
    exact cg2 ((args m c).sm) (Fin.ext (by blk_simp [index22])) (Fin.ext (by blk_simp [index22]))

/-- What a flushing step leaves in a result's buffer satisfies that result's invariant. -/
theorem leaves_post {m : MemT} {c : Dev nD} {after : (w' : Fin cfg0.W) → Fin cfg0.N → (cfg0.win w').block.Idx → Elt Ideal (cfg0.win w').elt}
    (hL : ∀ w u, (cfg0.win w).flush u = true → (rdat m (PP m) (SS m) c).Leaves w u (after w u))
    (w : Fin cfg0.W) (hw : (cfg0.win w).isOut = true) (u : Fin cfg0.N) (hf : (cfg0.win w).flush u = true) : PP m c w u (after w u) := by
  obtain ⟨Y, -, hY⟩ := hL w u hf
  have : (if (cfg0.win w).isOut then PP m c w u (after w u) else after w u = Y) := hY
  rw [if_pos hw] at this; exact this

/-- After a run, result 1 is `G8` of the arguments. -/
theorem mem8 (m : MemT) (r : PUnit × MemSt nD τ sig (Elt Ideal)) (h : RDat.FramePost cfg0 (rdat m (PP m) (SS m)) (V m) r) (c : Dev nD) :
    r.2.mem ((c.tc : Thread nD τ).loc main_v2_0) = G8 (args m c) := by
  obtain ⟨after, hL, hA⟩ := RDat.FramePost.exists_exact h c
  exact (hA 7).trans (fin8 after (leaves_post hL 7 rfl))

/-- After a run, result 2 is `G9` of the arguments. -/
theorem mem9 (m : MemT) (r : PUnit × MemSt nD τ sig (Elt Ideal)) (h : RDat.FramePost cfg0 (rdat m (PP m) (SS m)) (V m) r) (c : Dev nD) :
    r.2.mem ((c.tc : Thread nD τ).loc main_v2_1) = G9 (args m c) := by
  obtain ⟨after, hL, hA⟩ := RDat.FramePost.exists_exact h c
  exact (hA 8).trans (fin9 after (leaves_post hL 8 rfl))

/-- After a run, result 3 is `G10` of the arguments. -/
theorem mem10 (m : MemT) (r : PUnit × MemSt nD τ sig (Elt Ideal)) (h : RDat.FramePost cfg0 (rdat m (PP m) (SS m)) (V m) r) (c : Dev nD) :
    r.2.mem ((c.tc : Thread nD τ).loc main_v2_2) = G10 (args m c) := by
  obtain ⟨after, hL, hA⟩ := RDat.FramePost.exists_exact h c
  exact (hA 9).trans (fin10 after (leaves_post hL 9 rfl))

/-- After a run, result 4 is `G11` of the arguments. -/
theorem mem11 (m : MemT) (r : PUnit × MemSt nD τ sig (Elt Ideal)) (h : RDat.FramePost cfg0 (rdat m (PP m) (SS m)) (V m) r) (c : Dev nD) :
    r.2.mem ((c.tc : Thread nD τ).loc main_v2_3) = G11 (args m c) := by
  obtain ⟨after, hL, hA⟩ := RDat.FramePost.exists_exact h c
  exact (hA 10).trans (fin11 after (leaves_post hL 10 rfl))

/-- After a run, result 5 is `G12` of the arguments. -/
theorem mem12 (m : MemT) (r : PUnit × MemSt nD τ sig (Elt Ideal)) (h : RDat.FramePost cfg0 (rdat m (PP m) (SS m)) (V m) r) (c : Dev nD) :
    r.2.mem ((c.tc : Thread nD τ).loc main_v2_4) = G12 (args m c) := by
  obtain ⟨after, hL, hA⟩ := RDat.FramePost.exists_exact h c
  exact (hA 11).trans (fin12 after (leaves_post hL 11 rfl))

/-- After a run, result 6 is `G13` of the arguments. -/
theorem mem13 (m : MemT) (r : PUnit × MemSt nD τ sig (Elt Ideal)) (h : RDat.FramePost cfg0 (rdat m (PP m) (SS m)) (V m) r) (c : Dev nD) :
    r.2.mem ((c.tc : Thread nD τ).loc main_v2_5) = G13 (args m c) := by
  obtain ⟨after, hL, hA⟩ := RDat.FramePost.exists_exact h c
  exact (hA 12).trans (fin13 after (leaves_post hL 12 rfl))

/-- After a run, result 7 is `G14` of the arguments. -/
theorem mem14 (m : MemT) (r : PUnit × MemSt nD τ sig (Elt Ideal)) (h : RDat.FramePost cfg0 (rdat m (PP m) (SS m)) (V m) r) (c : Dev nD) :
    r.2.mem ((c.tc : Thread nD τ).loc main_v2_6) = G14 (args m c) := by
  obtain ⟨after, hL, hA⟩ := RDat.FramePost.exists_exact h c
  exact (hA 13).trans (fin14 after (leaves_post hL 13 rfl))

/-- After a run, result 8 is `G15` of the arguments. -/
theorem mem15 (m : MemT) (r : PUnit × MemSt nD τ sig (Elt Ideal)) (h : RDat.FramePost cfg0 (rdat m (PP m) (SS m)) (V m) r) (c : Dev nD) :
    r.2.mem ((c.tc : Thread nD τ).loc main_v2_7) = G15 (args m c) := by
  obtain ⟨after, hL, hA⟩ := RDat.FramePost.exists_exact h c
  exact (hA 14).trans (fin15 after (leaves_post hL 14 rfl))

/-- After a run, result 9 is `G16` of the arguments. -/
theorem mem16 (m : MemT) (r : PUnit × MemSt nD τ sig (Elt Ideal)) (h : RDat.FramePost cfg0 (rdat m (PP m) (SS m)) (V m) r) (c : Dev nD) :
    r.2.mem ((c.tc : Thread nD τ).loc main_v2_8) = G16 (args m c) := by
  obtain ⟨after, hL, hA⟩ := RDat.FramePost.exists_exact h c
  exact (hA 15).trans (fin16 after (leaves_post hL 15 rfl))

/-- After a run, result 10 is `G17` of the arguments. -/
theorem mem17 (m : MemT) (r : PUnit × MemSt nD τ sig (Elt Ideal)) (h : RDat.FramePost cfg0 (rdat m (PP m) (SS m)) (V m) r) (c : Dev nD) :
    r.2.mem ((c.tc : Thread nD τ).loc main_v2_9) = G17 (args m c) := by
  obtain ⟨after, hL, hA⟩ := RDat.FramePost.exists_exact h c
  exact (hA 16).trans (fin17 after (leaves_post hL 16 rfl))

/-- After a run, result 11 is `G18` of the arguments. -/
theorem mem18 (m : MemT) (r : PUnit × MemSt nD τ sig (Elt Ideal)) (h : RDat.FramePost cfg0 (rdat m (PP m) (SS m)) (V m) r) (c : Dev nD) :
    r.2.mem ((c.tc : Thread nD τ).loc main_v2_10) = G18 (args m c) := by
  obtain ⟨after, hL, hA⟩ := RDat.FramePost.exists_exact h c
  exact (hA 17).trans (fin18 after (leaves_post hL 17 rfl))

/-- After a run, result 12 is `G19` of the arguments. -/
theorem mem19 (m : MemT) (r : PUnit × MemSt nD τ sig (Elt Ideal)) (h : RDat.FramePost cfg0 (rdat m (PP m) (SS m)) (V m) r) (c : Dev nD) :
    r.2.mem ((c.tc : Thread nD τ).loc main_v2_11) = G19 (args m c) := by
  obtain ⟨after, hL, hA⟩ := RDat.FramePost.exists_exact h c
  exact (hA 18).trans (fin19 after (leaves_post hL 18 rfl))

/-- After a run, result 13 is `G20` of the arguments. -/
theorem mem20 (m : MemT) (r : PUnit × MemSt nD τ sig (Elt Ideal)) (h : RDat.FramePost cfg0 (rdat m (PP m) (SS m)) (V m) r) (c : Dev nD) :
    r.2.mem ((c.tc : Thread nD τ).loc main_v2_12) = G20 (args m c) := by
  obtain ⟨after, hL, hA⟩ := RDat.FramePost.exists_exact h c
  exact (hA 19).trans (fin20 after (leaves_post hL 19 rfl))

/-- After a run, result 14 is `G21` of the arguments. -/
theorem mem21 (m : MemT) (r : PUnit × MemSt nD τ sig (Elt Ideal)) (h : RDat.FramePost cfg0 (rdat m (PP m) (SS m)) (V m) r) (c : Dev nD) :
    r.2.mem ((c.tc : Thread nD τ).loc main_v2_13) = G21 (args m c) := by
  obtain ⟨after, hL, hA⟩ := RDat.FramePost.exists_exact h c
  exact (hA 20).trans (fin21 after (leaves_post hL 20 rfl))

/-- After a run, result 15 is `G22` of the arguments. -/
theorem mem22 (m : MemT) (r : PUnit × MemSt nD τ sig (Elt Ideal)) (h : RDat.FramePost cfg0 (rdat m (PP m) (SS m)) (V m) r) (c : Dev nD) :
    r.2.mem ((c.tc : Thread nD τ).loc main_v2_14) = G22 (args m c) := by
  obtain ⟨after, hL, hA⟩ := RDat.FramePost.exists_exact h c
  exact (hA 21).trans (fin22 after (leaves_post hL 21 rfl))

/-- After a run, result 16 is `G23` of the arguments. -/
theorem mem23 (m : MemT) (r : PUnit × MemSt nD τ sig (Elt Ideal)) (h : RDat.FramePost cfg0 (rdat m (PP m) (SS m)) (V m) r) (c : Dev nD) :
    r.2.mem ((c.tc : Thread nD τ).loc main_v2_15) = G23 (args m c) := by
  obtain ⟨after, hL, hA⟩ := RDat.FramePost.exists_exact h c
  exact (hA 22).trans (fin23 after (leaves_post hL 22 rfl))

/-- The kernel's run: each result is its function of the arguments. -/
theorem kernel_run (m : MemT) (ρ : Dev nD → PrngReg) : θ_run defs (onTc (τ := τ) (main (F := Ideal))) ⟨m, fun _ => 0, ρ⟩ (fun r => ∀ c : Dev nD,
      r.2.mem ((c.tc : Thread nD τ).loc main_v2_0) = G8 (args m c)
      ∧ r.2.mem ((c.tc : Thread nD τ).loc main_v2_1) = G9 (args m c)
      ∧ r.2.mem ((c.tc : Thread nD τ).loc main_v2_2) = G10 (args m c)
      ∧ r.2.mem ((c.tc : Thread nD τ).loc main_v2_3) = G11 (args m c)
      ∧ r.2.mem ((c.tc : Thread nD τ).loc main_v2_4) = G12 (args m c)
      ∧ r.2.mem ((c.tc : Thread nD τ).loc main_v2_5) = G13 (args m c)
      ∧ r.2.mem ((c.tc : Thread nD τ).loc main_v2_6) = G14 (args m c)
      ∧ r.2.mem ((c.tc : Thread nD τ).loc main_v2_7) = G15 (args m c)
      ∧ r.2.mem ((c.tc : Thread nD τ).loc main_v2_8) = G16 (args m c)
      ∧ r.2.mem ((c.tc : Thread nD τ).loc main_v2_9) = G17 (args m c)
      ∧ r.2.mem ((c.tc : Thread nD τ).loc main_v2_10) = G18 (args m c)
      ∧ r.2.mem ((c.tc : Thread nD τ).loc main_v2_11) = G19 (args m c)
      ∧ r.2.mem ((c.tc : Thread nD τ).loc main_v2_12) = G20 (args m c)
      ∧ r.2.mem ((c.tc : Thread nD τ).loc main_v2_13) = G21 (args m c)
      ∧ r.2.mem ((c.tc : Thread nD τ).loc main_v2_14) = G22 (args m c)
      ∧ r.2.mem ((c.tc : Thread nD τ).loc main_v2_15) = G23 (args m c)) :=
  (θ_run defs _ _).mono (fun r h c => ⟨mem8 m r h.1 c, mem9 m r h.1 c, mem10 m r h.1 c, mem11 m r h.1 c, mem12 m r h.1 c, mem13 m r h.1 c, mem14 m r h.1 c, mem15 m r h.1 c, mem16 m r h.1 c, mem17 m r h.1 c, mem18 m r h.1 c, mem19 m r h.1 c, mem20 m r h.1 c, mem21 m r h.1 c, mem22 m r h.1 c, mem23 m r h.1 c⟩)
    (run_post m ρ (PP m) (SS m) (fun c t σ σ' => SS_loc m c t σ σ') (fun c t σ hb => step_ok m c t σ hb) (fun c σ => fun h => absurd rfl h))

end Cert.KernelIdeal.Spin

end
-- ==== Proof.RVal1.lean ====
/-
  The reference's stages over the extended reals, at an index: the rotated rows, their scales and codes.
-/
module

public import proofs.«01_k».proof.Proof.Spec
public import proofs.«01_k».proof.Proof.Gen.ReferenceIdeal.Frame

@[expose] public section

noncomputable section

namespace Cert.ReferenceIdeal.Spin

open Idealize.ShloMosaic Cert.ReferenceIdeal.Gen _root_.Spin

/-- A block array read as matrices. -/
abbrev fR (R : Vec Ideal S28x128x128 .f32) : Fin 28 → Fin 128 → Fin 128 → EReal := fun h i j => R (ix3 h i j)

/-- Each row of the activations rotated, at an index. -/
theorem p8 (R : Vec Ideal S28x128x128 .f32) (X : Vec Ideal S256x3584 .bf16) (i : Fin 256) (j : Fin 3584) :
    k0_pay8 (F := Ideal) R X (ix2 i j) = rotv (fR R) (fun d => X (ix2 i d)) j := by
  pointwise [k0_pay8, k0_pay5, k0_pay7]
  rfl

/-- The activations' scales at an index. -/
theorem p10 (R : Vec Ideal S28x128x128 .f32) (X : Vec Ideal S256x3584 .bf16) (i : Fin 256) (j : Fin 1) :
    k0_pay10 (F := Ideal) R X (ix2 i j) = scq c127 (amax fun d => k0_pay8 (F := Ideal) R X (ix2 i d)) := by
  pointwise [k0_pay10]
  rfl

/-- The activations' codes, in eight bits. -/
theorem p11 (R : Vec Ideal S28x128x128 .f32) (X : Vec Ideal S256x3584 .bf16) (i : Fin 256) (j : Fin 3584) :
    k0_pay11 (F := Ideal) R X (ix2 i j) = FloatOps.fptosi (F := Ideal) (φ := .f32) 8
      (cod n127 c127 (k0_pay10 (F := Ideal) R X (ix2 i 0)) (k0_pay8 (F := Ideal) R X (ix2 i j))) := by
  pointwise [k0_pay11]
  rfl

/-- The weights' codes, in eight bits, from the weights over their scales. -/
theorem p14 (Y : FVec Ideal S4608x3584 .f32) (i : Fin 4608) (j : Fin 3584) :
    k0_pay14 (F := Ideal) Y (ix2 i j) = FloatOps.fptosi (F := Ideal) (φ := .f32) 8
      (min c7 (max n7 (Ideal.liftRound Ideal.roundHalfEven (Y (ix2 i j))))) := by
  pointwise [k0_pay14]

/-- A column of 4608 values as a row. -/
theorem p15 (s : FVec Ideal S4608x1 .f32) (i : Fin 1) (j : Fin 4608) : k0_pay15 (F := Ideal) s (ix2 i j) = s (ix2 j 0) := by
  pointwise [k0_pay15]

/-- A column of 256 values as a row. -/
theorem p23 (s : FVec Ideal S256x1 .f32) (i : Fin 1) (j : Fin 256) : k0_pay23 (F := Ideal) s (ix2 i j) = s (ix2 j 0) := by
  pointwise [k0_pay23]

/-- A column of 4608 values as a row. -/
theorem p24 (s : FVec Ideal S4608x1 .f32) (i : Fin 1) (j : Fin 4608) : k0_pay24 (F := Ideal) s (ix2 i j) = s (ix2 j 0) := by
  pointwise [k0_pay24]

end Cert.ReferenceIdeal.Spin

end
-- ==== Proof.RVal2.lean ====
/- The rotated weights of the reference, their scales and codes. -/
module

public import proofs.«01_k».proof.Proof.RVal1

@[expose] public section

noncomputable section

namespace Cert.ReferenceIdeal.Spin

open Idealize.ShloMosaic Cert.ReferenceIdeal.Gen _root_.Spin

/-- Each row of the weights rotated, at an index. -/
theorem p9 (R : Vec Ideal S28x128x128 .f32) (X : Vec Ideal S4608x3584 .bf16) (i : Fin 4608) (j : Fin 3584) :
    k0_pay9 (F := Ideal) R X (ix2 i j) = rotv (fR R) (fun d => X (ix2 i d)) j := by
  pointwise [k0_pay9, k0_pay6, k0_pay7]
  rfl

/-- The largest magnitude of a row of weights. -/
theorem max12 (V : FVec Ideal S4608x3584 .f32) (i : Fin 4608) :
    multiReduction .maximumf [1] S4608 (absf V) 0xFF800000#32 reduces_S4608x3584_S4608 (.inl rfl) rfl (ix1 i) = amax fun d => V (ix2 i d) := by
  pointwise
  rfl

/-- The scale of a row from its largest magnitude. -/
theorem sel12 (V : FVec Ideal S4608 .f32) (i : Fin 4608) (j : Fin 1) :
    (select (cmpf .oeq (shapeCast S4608x1 V shapeCasts_S4608_S4608x1) (broadcast S4608x1 (Scalar.ofBits .f32 0x00000000#32)))
      (broadcast S4608x1 (Scalar.ofBits .f32 0x3F800000#32))
      (divf (shapeCast S4608x1 V shapeCasts_S4608_S4608x1) (broadcast S4608x1 (Scalar.ofBits .f32 0x40E00000#32))) : FVec Ideal S4608x1 .f32) (ix2 i j)
      = scq c7 (V (ix1 i)) := by
  pointwise
  rfl

/-- The weights' scales at an index. -/
theorem p12 (R : Vec Ideal S28x128x128 .f32) (X : Vec Ideal S4608x3584 .bf16) (i : Fin 4608) (j : Fin 1) :
    k0_pay12 (F := Ideal) R X (ix2 i j) = scq c7 (amax fun d => k0_pay9 (F := Ideal) R X (ix2 i d)) :=
  (sel12 _ i j).trans (congrArg (scq c7) (max12 (k0_pay9 (F := Ideal) R X) i))

/-- A row divided by its scale. -/
theorem div13 (V : FVec Ideal S4608x3584 .f32) (U : FVec Ideal S4608x1 .f32) (i : Fin 4608) (j : Fin 3584) :
    divf V (broadcastTo S4608x3584 U broadcasts_S4608x1_S4608x3584) (ix2 i j) = Ideal.div (V (ix2 i j)) (U (ix2 i 0)) := by
  pointwise

/-- The weights over their scales at an index. -/
theorem p13 (R : Vec Ideal S28x128x128 .f32) (X : Vec Ideal S4608x3584 .bf16) (i : Fin 4608) (j : Fin 3584) :
    k0_pay13 (F := Ideal) R X (ix2 i j) = Ideal.div (k0_pay9 (F := Ideal) R X (ix2 i j)) (k0_pay12 (F := Ideal) R X (ix2 i 0)) :=
  div13 (k0_pay9 (F := Ideal) R X) (k0_pay12 (F := Ideal) R X) i j

end Cert.ReferenceIdeal.Spin

end
-- ==== Proof.RVal3.lean ====
/- The residuals of the reference, and their gradient. -/
module

public import proofs.«01_k».proof.Proof.RVal1

@[expose] public section

noncomputable section

namespace Cert.ReferenceIdeal.Spin

open Idealize.ShloMosaic Cert.ReferenceIdeal.Gen _root_.Spin

/-- The squared errors of a row's codes, summed. -/
theorem p16 (V : FVec Ideal S4608x3584 .f32) (s : FVec Ideal S4608x1 .f32) (Y : FVec Ideal S4608x3584 .f32) (i : Fin 4608) (j : Fin 1) :
    k0_pay16 (F := Ideal) V s Y (ix2 i j) = ∑ d,
      (V (ix2 i d) - s (ix2 i 0) * FloatOps.sitofp (F := Ideal) .f32 (k0_pay14 (F := Ideal) Y (ix2 i d)))
        * (V (ix2 i d) - s (ix2 i 0) * FloatOps.sitofp (F := Ideal) .f32 (k0_pay14 (F := Ideal) Y (ix2 i d))) := by
  pointwise [k0_pay16]

/-- The residuals at an index. -/
theorem p19 (sx : FVec Ideal S256x1 .f32) (qx : IVec S256x3584 8) (sw : FVec Ideal S4608x1 .f32)
    (Y : FVec Ideal S4608x3584 .f32) (y : Vec Ideal S256x4608 .bf16) (i : Fin 256) (j : Fin 4608) :
    k0_pay19 (F := Ideal) sx qx sw Y y (ix2 i j) =
      (∑ d, FloatOps.sitofp (F := Ideal) .bf16 (qx (ix2 i d)) * FloatOps.sitofp (F := Ideal) .bf16 (k0_pay14 (F := Ideal) Y (ix2 j d)))
        * sx (ix2 i 0) * sw (ix2 j 0) - y (ix2 i j) := by
  pointwise [k0_pay19, k0_pay17, k0_pay18, k0_pay15]

/-- The loss. -/
theorem p20 (sx : FVec Ideal S256x1 .f32) (qx : IVec S256x3584 8) (sw : FVec Ideal S4608x1 .f32)
    (Y : FVec Ideal S4608x3584 .f32) (y : Vec Ideal S256x4608 .bf16) (i : Fin 1) (j : Fin 1) :
    k0_pay20 (F := Ideal) sx qx sw Y y (ix2 i j) =
      Ideal.div (∑ s, ∑ n, k0_pay19 (F := Ideal) sx qx sw Y y (ix2 s n) * k0_pay19 (F := Ideal) sx qx sw Y y (ix2 s n)) cN := by
  pointwise [k0_pay20]

end Cert.ReferenceIdeal.Spin

end
-- ==== Proof.RVal4.lean ====
/- The gradient of the reference. -/
module

public import proofs.«01_k».proof.Proof.RVal1

@[expose] public section

noncomputable section

namespace Cert.ReferenceIdeal.Spin

open Idealize.ShloMosaic Cert.ReferenceIdeal.Gen _root_.Spin

/-- The gradient before its factor at an index. -/
theorem p21 (X : Vec Ideal S256x3584 .bf16) (W : Vec Ideal S4608x3584 .bf16)
    (sx : FVec Ideal S256x1 .f32) (qx : IVec S256x3584 8) (sw : FVec Ideal S4608x1 .f32)
    (Y : FVec Ideal S4608x3584 .f32) (y : Vec Ideal S256x4608 .bf16) (h : Fin 28) (i j : Fin 128) :
    k0_pay21 (F := Ideal) (k0_pay5 (F := Ideal) X) (k0_pay6 (F := Ideal) W) sx qx sw Y y (ix3 h i j) =
      (∑ s, X (ix2 s (bk h i)) * ∑ n, k0_pay19 (F := Ideal) sx qx sw Y y (ix2 s n) * sw (ix2 n 0)
          * FloatOps.sitofp (F := Ideal) .bf16 (k0_pay14 (F := Ideal) Y (ix2 n (bk h j))))
        + ∑ n, W (ix2 n (bk h i)) * ∑ s, k0_pay19 (F := Ideal) sx qx sw Y y (ix2 s n) * sx (ix2 s 0)
          * FloatOps.sitofp (F := Ideal) .bf16 (qx (ix2 s (bk h j))) := by
  pointwise [k0_pay21, k0_pay17, k0_pay18, k0_pay15, k0_pay5, k0_pay6]
  rfl

/-- A block times the factor of the gradient. -/
theorem p22 (V : FVec Ideal S28x128x128 .f32) (h : Fin 28) (i j : Fin 128) : k0_pay22 (F := Ideal) V (ix3 h i j) = cG * V (ix3 h i j) := by
  pointwise [k0_pay22]

end Cert.ReferenceIdeal.Spin

end
-- ==== Proof.RVal5.lean ====
/- The rotation step of the reference. -/
module

public import proofs.«01_k».proof.Proof.RVal1

@[expose] public section

noncomputable section

namespace Cert.ReferenceIdeal.Spin

open Idealize.ShloMosaic Cert.ReferenceIdeal.Gen _root_.Spin

/-- The momentum with the new gradient, at an index. -/
theorem p25 (V : FVec Ideal S28x128x128 .f32) (mc : Vec Ideal S28x128x128 .i8) (ms : Vec Ideal S28x128 .f32) (h : Fin 28) (i j : Fin 128) :
    k0_pay25 (F := Ideal) V mc ms (ix3 h i j) =
      cM * (FloatOps.sitofp (F := Ideal) .f32 (mc (ix3 h i j)) * ms (ix2 h i)) + cG * V (ix3 h i j) := by
  pointwise [k0_pay25, k0_pay22]

/-- The momentum with the new gradient times the transposed rotation, at an index. -/
theorem p26 (R : Vec Ideal S28x128x128 .f32) (V : FVec Ideal S28x128x128 .f32) (mc : Vec Ideal S28x128x128 .i8)
    (ms : Vec Ideal S28x128 .f32) (h : Fin 28) (i j : Fin 128) :
    k0_pay26 (F := Ideal) R V mc ms (ix3 h i j) = ∑ k, k0_pay25 (F := Ideal) V mc ms (ix3 h i k) * R (ix3 h j k) := by
  pointwise [k0_pay26]

/-- The rotation times the transposed rotation times that product, at an index. -/
theorem p27 (R : Vec Ideal S28x128x128 .f32) (V : FVec Ideal S28x128x128 .f32) (mc : Vec Ideal S28x128x128 .i8)
    (ms : Vec Ideal S28x128 .f32) (h : Fin 28) (i j : Fin 128) :
    k0_pay27 (F := Ideal) R V mc ms (ix3 h i j) =
      ∑ k, R (ix3 h i k) * ∑ l, R (ix3 h l k) * k0_pay26 (F := Ideal) R V mc ms (ix3 h l j) := by
  pointwise [k0_pay27]

variable (a b : FVec Ideal S28x128x128 .f32) (c : Ideal .f32)

/-- The skew direction at an index. -/
theorem p28 (h : Fin 28) (i j : Fin 128) :
    k0_pay28 (F := Ideal) a b c (ix3 h i j) = (a (ix3 h i j) - c * b (ix3 h i j)) - (a (ix3 h j i) - c * b (ix3 h j i)) := by
  pointwise [k0_pay28]

/-- The norm of the skew direction. -/
theorem p29 (h : Fin 28) : k0_pay29 (F := Ideal) a b c (ix1 h) =
    Ideal.sqrt (∑ i, ∑ j, k0_pay28 (F := Ideal) a b c (ix3 h i j) * k0_pay28 (F := Ideal) a b c (ix3 h i j)) := by
  pointwise [k0_pay29]

/-- The cap on the step size. -/
theorem p30 (h : Fin 28) : k0_pay30 (F := Ideal) a b c (ix1 h) = Ideal.div cH (k0_pay29 (F := Ideal) a b c (ix1 h) + cE) := by
  pointwise [k0_pay30]

/-- The step size: the smaller of the learning rate and its cap. -/
theorem p31 (l : Vec Ideal S28 .f32) (h : Fin 28) (i j : Fin 1) :
    k0_pay31 (F := Ideal) a b c l (ix3 h i j) = min (l (ix1 h)) (k0_pay30 (F := Ideal) a b c (ix1 h)) := by
  pointwise [k0_pay31]

/-- The new momentum, which is the skew direction times the rotation. -/
theorem p32 (R : Vec Ideal S28x128x128 .f32) (h : Fin 28) (i j : Fin 128) :
    k0_pay32 (F := Ideal) R a b c (ix3 h i j) = ∑ k, k0_pay28 (F := Ideal) a b c (ix3 h i k) * R (ix3 h k j) := by
  pointwise [k0_pay32]

/-- The skew direction times `m`. -/
theorem p33 (m : FVec Ideal S28x128x128 .f32) (h : Fin 28) (i j : Fin 128) :
    k0_pay33 (F := Ideal) m a b c (ix3 h i j) = ∑ k, k0_pay28 (F := Ideal) a b c (ix3 h i k) * m (ix3 h k j) := by
  pointwise [k0_pay33]

/-- The skew direction times the first approximation of the rotation's change. -/
theorem p34 (R : Vec Ideal S28x128x128 .f32) (m : FVec Ideal S28x128x128 .f32) (l : Vec Ideal S28 .f32) (h : Fin 28) (i j : Fin 128) :
    k0_pay34 (F := Ideal) R m a b c l (ix3 h i j) = ∑ k, k0_pay28 (F := Ideal) a b c (ix3 h i k) *
      ((0 - k0_pay31 (F := Ideal) a b c l (ix3 h 0 0)) * k0_pay32 (F := Ideal) R a b c (ix3 h k j)
        + cH * k0_pay31 (F := Ideal) a b c l (ix3 h 0 0) * k0_pay31 (F := Ideal) a b c l (ix3 h 0 0) * k0_pay33 (F := Ideal) m a b c (ix3 h k j)) := by
  pointwise [k0_pay34]

/-- The change of the rotation, at an index. -/
theorem p35 (R : Vec Ideal S28x128x128 .f32) (m : FVec Ideal S28x128x128 .f32) (l : Vec Ideal S28 .f32) (h : Fin 28) (i j : Fin 128) :
    k0_pay35 (F := Ideal) R m a b c l (ix3 h i j) =
      (0 - k0_pay31 (F := Ideal) a b c l (ix3 h 0 0)) * k0_pay32 (F := Ideal) R a b c (ix3 h i j)
        - cH * k0_pay31 (F := Ideal) a b c l (ix3 h 0 0) * k0_pay34 (F := Ideal) R m a b c l (ix3 h i j) := by
  pointwise [k0_pay35]

/-- The largest magnitude of a row of the new momentum. -/
theorem p36 (R : Vec Ideal S28x128x128 .f32) (h : Fin 28) (i : Fin 128) (j : Fin 1) :
    k0_pay36 (F := Ideal) R a b c (ix3 h i j) = amax fun k => k0_pay32 (F := Ideal) R a b c (ix3 h i k) := by
  pointwise [k0_pay36]
  rfl

/-- The bit that says whether that magnitude is zero. -/
theorem p37 (R : Vec Ideal S28x128x128 .f32) (h : Fin 28) (i : Fin 128) (j : Fin 1) :
    k0_pay37 (F := Ideal) R a b c (ix3 h i j) = BitVec.ofBool (decide (k0_pay36 (F := Ideal) R a b c (ix3 h i j) = 0)) := by
  pointwise [k0_pay37]

/-- That magnitude over the largest code. -/
theorem p38 (R : Vec Ideal S28x128x128 .f32) (h : Fin 28) (i : Fin 128) (j : Fin 1) :
    k0_pay38 (F := Ideal) R a b c (ix3 h i j) = Ideal.div (k0_pay36 (F := Ideal) R a b c (ix3 h i j)) c127 := by
  pointwise [k0_pay38]

/-- The new momentum's scale. -/
theorem p1 (R : Vec Ideal S28x128x128 .f32) (h : Fin 28) (i : Fin 128) (j : Fin 1) :
    k0_pay1 (F := Ideal) (k0_pay37 (F := Ideal) R a b c) (k0_pay38 (F := Ideal) R a b c) (k0_pay39 (F := Ideal)) (ix3 h i j)
      = scq c127 (k0_pay36 (F := Ideal) R a b c (ix3 h i j)) := by
  pointwise [k0_pay1, k0_pay39]
  rw [p37, p38]
  unfold scq
  split <;> simp_all [Scalar.select]

/-- The new momentum's scales, a row to a block. -/
theorem p4 (x : IVec S28x128x1 1) (y z : FVec Ideal S28x128x1 .f32) (h : Fin 28) (i : Fin 128) :
    k0_pay4 (F := Ideal) x y z (ix2 h i) = k0_pay1 (F := Ideal) x y z (ix3 h i 0) := by
  pointwise [k0_pay4]

/-- The new momentum's codes, in eight bits, a row to a block. -/
theorem p3 (m : FVec Ideal S28x128x128 .f32) (x : IVec S28x128x1 1) (y z : FVec Ideal S28x128x1 .f32) (h : Fin 28) (d : Fin 16384) :
    k0_pay3 (F := Ideal) m x y z (ix2 h d) = FloatOps.fptosi (F := Ideal) (φ := .f32) 8
      (cod n127 c127 (k0_pay1 (F := Ideal) x y z (ix3 h ⟨d.val / 128, by omega⟩ 0)) (m (ix3 h ⟨d.val / 128, by omega⟩ ⟨d.val % 128, by omega⟩))) := by
  pointwise [k0_pay3]
  rfl

/-- The new rotation: the old one and its change. -/
theorem p2 (R : Vec Ideal S28x128x128 .f32) (h : Fin 28) (i j : Fin 128) :
    k0_pay2 (F := Ideal) R a (ix3 h i j) = R (ix3 h i j) + a (ix3 h i j) := by
  pointwise [k0_pay2]

end Cert.ReferenceIdeal.Spin

end
-- ==== Proof.RefVal.lean ====
/- The reference's stages as functions of the arguments. -/
module

public import proofs.«01_k».proof.Proof.RVal2
public import proofs.«01_k».proof.Proof.RVal3
public import proofs.«01_k».proof.Proof.RVal4
public import proofs.«01_k».proof.Proof.RVal5
public import proofs.«01_k».proof.Proof.Results
public import Idealize.ShloMosaic.Lib.Pipeline.ValueKit

@[expose] public section

noncomputable section

namespace Cert.ReferenceIdeal.Spin

open Idealize.ShloMosaic Cert.ReferenceIdeal.Gen _root_.Spin

variable {x0 : Vec Ideal S256x3584 .bf16} {x1 : Vec Ideal S4608x3584 .bf16} {x2 : Vec Ideal S256x4608 .bf16} {x3 : Vec Ideal S28x128x128 .f32}
  {x4 : Vec Ideal S28x128x128 .i8} {x5 : Vec Ideal S28x128 .f32} {x6 : Vec Ideal S28 .f32} {A : D}

/-- The blocks hold the arguments. -/
structure Holds (A : D) (x0 : Vec Ideal S256x3584 .bf16) (x1 : Vec Ideal S4608x3584 .bf16) (x2 : Vec Ideal S256x4608 .bf16)
    (x3 : Vec Ideal S28x128x128 .f32) (x4 : Vec Ideal S28x128x128 .i8) (x5 : Vec Ideal S28x128 .f32) (x6 : Vec Ideal S28 .f32) : Prop where
  x : ∀ s d, x0 (ix2 s d) = A.x s d
  w : ∀ n d, x1 (ix2 n d) = A.w n d
  y : ∀ s n, x2 (ix2 s n) = A.y s n
  r : ∀ h i j, x3 (ix3 h i j) = A.r h i j
  mc : ∀ h i j, x4 (ix3 h i j) = A.mc h i j
  ms : ∀ h i, x5 (ix2 h i) = A.ms h i
  lr : ∀ h, x6 (ix1 h) = A.lr h

/-- Functions of one place are equal when they agree everywhere. -/
theorem fx1 {n : Nat} {α : Type} {f g : (⟨1, ![n]⟩ : Shape).Idx → α} (h : ∀ a, f (ix1 a) = g (ix1 a)) : f = g :=
  funext fun q => (congrArg f (eq_ix1 q)).trans ((h _).trans (congrArg g (eq_ix1 q)).symm)
/-- Functions of two places are equal when they agree everywhere. -/
theorem fx2 {n k : Nat} {α : Type} {f g : (⟨2, ![n, k]⟩ : Shape).Idx → α} (h : ∀ a b, f (ix2 a b) = g (ix2 a b)) : f = g :=
  funext fun q => (congrArg f (eq_ix2 q)).trans ((h _ _).trans (congrArg g (eq_ix2 q)).symm)
/-- Functions of three places are equal when they agree everywhere. -/
theorem fx3 {n k l : Nat} {α : Type} {f g : (⟨3, ![n, k, l]⟩ : Shape).Idx → α} (h : ∀ a b c, f (ix3 a b c) = g (ix3 a b c)) : f = g :=
  funext fun q => (congrArg f (eq_ix3 q)).trans ((h _ _ _).trans (congrArg g (eq_ix3 q)).symm)

/-- A load of the whole buffer is its contents. -/
theorem l0 (x : Vec Ideal S28x128x128 .f32) : View.ld x r0_0 = x := View.ld_unit_lit _ x (by decide)
/-- A load of the whole buffer is its contents. -/
theorem l0' (x : Vec Ideal S28x128x128 .i8) : View.ld x r0_0 = x := View.ld_unit_lit _ x (by decide)
/-- A load of the whole buffer is its contents. -/
theorem l1 (x : Vec Ideal S256x3584 .bf16) : View.ld x r0_1 = x := View.ld_unit_lit _ x (by decide)
/-- A load of the whole buffer is its contents. -/
theorem l2 (x : Vec Ideal S4608x3584 .bf16) : View.ld x r0_2 = x := View.ld_unit_lit _ x (by decide)
/-- A load of the whole buffer is its contents. -/
theorem l3 (x : Vec Ideal S256x4608 .bf16) : View.ld x r0_3 = x := View.ld_unit_lit _ x (by decide)
/-- A load of the whole buffer is its contents. -/
theorem l7 (x : Vec Ideal S28x128 .f32) : View.ld x r0_7 = x := View.ld_unit_lit _ x (by decide)
/-- A load of the whole buffer is its contents. -/
theorem l8 (x : Vec Ideal S28 .f32) : View.ld x r0_8 = x := View.ld_unit_lit _ x (by decide)

/-- An activation code comes back from its eight bits. -/
theorem cx_round (φ : FTy) (s d) : FloatOps.sitofp (F := Ideal) φ (FloatOps.fptosi (F := Ideal) (φ := .f32) 8 (A.cx s d)) = A.cx s d :=
  cod127_round φ _ _
/-- A weight code comes back from its eight bits. -/
theorem cw_round (φ : FTy) (s d) : FloatOps.sitofp (F := Ideal) φ (FloatOps.fptosi (F := Ideal) (φ := .f32) 8 (A.cw s d)) = A.cw s d :=
  cod7_round φ _ _

/-- The half of the program. -/
abbrev hB : Ideal .f32 := Scalar.ofBits .f32 0x3F000000#32

namespace Holds
variable (H : Holds A x0 x1 x2 x3 x4 x5 x6)
include H

/-- The rotation the reference reads is the argument's. -/
theorem fr : fR x3 = A.r := funext fun h => funext fun i => funext fun j => H.r h i j

/-- The rotated activations. -/
theorem v8 (i j) : k0_pay8 (F := Ideal) x3 x0 (ix2 i j) = A.xr i j := by
  rw [p8, H.fr]; simp only [H.x]; rfl

/-- The rotated weights. -/
theorem v9 (i j) : k0_pay9 (F := Ideal) x3 x1 (ix2 i j) = A.wr i j := by
  rw [p9, H.fr]; simp only [H.w]; rfl

/-- The activations' scales. -/
theorem v40 (i j) : (k0_pay40 (F := Ideal) x0 x1 x2 x3 x4 x5 x6) (ix2 i j) = A.sx i := by
  unfold k0_pay40; rw [l0, l1, p10]; simp only [H.v8]; rfl

/-- The activations' codes, in eight bits. -/
theorem v41 (i j) : (k0_pay41 (F := Ideal) x0 x1 x2 x3 x4 x5 x6) (ix2 i j) = FloatOps.fptosi (F := Ideal) (φ := .f32) 8 (A.cx i j) := by
  unfold k0_pay41; rw [l0, l1, p11, p10]; simp only [H.v8]; rfl

/-- The weights' scales. -/
theorem v42 (i j) : (k0_pay42 (F := Ideal) x0 x1 x2 x3 x4 x5 x6) (ix2 i j) = A.sw i := by
  unfold k0_pay42; rw [l0, l2, p12]; simp only [H.v9]; rfl

/-- The weights over their scales. -/
theorem v43 (i j) : (k0_pay43 (F := Ideal) x0 x1 x2 x3 x4 x5 x6) (ix2 i j) = Ideal.div (A.wr i j) (A.sw i) := by
  unfold k0_pay43; rw [l0, l2, p13, p12]; simp only [H.v9]; rfl

/-- The weights' codes, in eight bits. -/
theorem v14 (i j) : k0_pay14 (F := Ideal) (k0_pay43 (F := Ideal) x0 x1 x2 x3 x4 x5 x6) (ix2 i j) = FloatOps.fptosi (F := Ideal) (φ := .f32) 8 (A.cw i j) := by
  rw [p14, H.v43]; rfl

/-- The residuals. -/
theorem v19 (i j) : k0_pay19 (F := Ideal) (k0_pay40 (F := Ideal) x0 x1 x2 x3 x4 x5 x6) (k0_pay41 (F := Ideal) x0 x1 x2 x3 x4 x5 x6) (k0_pay42 (F := Ideal) x0 x1 x2 x3 x4 x5 x6) (k0_pay43 (F := Ideal) x0 x1 x2 x3 x4 x5 x6) x2 (ix2 i j) = A.e i j := by
  rw [p19]; simp only [H.v14, H.v40, H.v41, H.v42, H.y, cx_round, cw_round]; rfl

/-- The squared error of each row of codes. -/
theorem v16 (i j) : k0_pay16 (F := Ideal) (k0_pay9 (F := Ideal) x3 x1) (k0_pay42 (F := Ideal) x0 x1 x2 x3 x4 x5 x6) (k0_pay43 (F := Ideal) x0 x1 x2 x3 x4 x5 x6) (ix2 i j) = A.er i := by
  rw [p16]; simp only [H.v14, H.v9, H.v42, cw_round]; rfl

/-- The loss. -/
theorem v20 (i j) : k0_pay20 (F := Ideal) (k0_pay40 (F := Ideal) x0 x1 x2 x3 x4 x5 x6) (k0_pay41 (F := Ideal) x0 x1 x2 x3 x4 x5 x6) (k0_pay42 (F := Ideal) x0 x1 x2 x3 x4 x5 x6) (k0_pay43 (F := Ideal) x0 x1 x2 x3 x4 x5 x6) x2 (ix2 i j) = A.loss := by
  rw [p20]; simp only [H.v19]; rfl

/-- The gradient before its factor. -/
theorem v44 (h i j) : (k0_pay44 (F := Ideal) x0 x1 x2 x3 x4 x5 x6) (ix3 h i j) = (∑ s, A.x s (bk h i) * A.pp s (bk h j)) + A.gw h i j := by
  unfold k0_pay44; rw [l1, l2, l3, p21]; simp only [H.v14, H.v19, H.v40, H.v41, H.v42, H.x, H.w, cx_round, cw_round]; rfl

/-- The momentum with the new gradient. -/
theorem v45 (h i j) : (k0_pay45 (F := Ideal) x0 x1 x2 x3 x4 x5 x6) (ix3 h i j) = A.mb h i j := by
  unfold k0_pay45; rw [l0', l7, p25]; simp only [H.v44, H.mc, H.ms]; rfl

/-- The momentum with the new gradient, where it is written out again. -/
theorem v25 (h i j) : k0_pay25 (F := Ideal) (k0_pay44 (F := Ideal) x0 x1 x2 x3 x4 x5 x6) x4 x5 (ix3 h i j) = A.mb h i j := by
  rw [p25]; simp only [H.v44, H.mc, H.ms]; rfl

/-- That momentum times the transposed rotation. -/
theorem v46 (h i j) : (k0_pay46 (F := Ideal) x0 x1 x2 x3 x4 x5 x6) (ix3 h i j) = A.t1 h i j := by
  unfold k0_pay46; rw [l0, l0', l7, p26]; simp only [H.v25, H.r]; rfl

/-- The same product, where it is written out again. -/
theorem v26 (h i j) : k0_pay26 (F := Ideal) x3 (k0_pay44 (F := Ideal) x0 x1 x2 x3 x4 x5 x6) x4 x5 (ix3 h i j) = A.t1 h i j := by
  rw [p26]; simp only [H.v25, H.r]; rfl

/-- The rotation times the transposed rotation times that product. -/
theorem v47 (h i j) : (k0_pay47 (F := Ideal) x0 x1 x2 x3 x4 x5 x6) (ix3 h i j) = ∑ k, A.r h i k * ∑ l, A.r h l k * A.t1 h l j := by
  unfold k0_pay47; rw [l0, l0', l7, p27]; simp only [H.v26, H.r]

/-- The skew direction. -/
theorem v28 (h i j) : k0_pay28 (F := Ideal) (k0_pay46 (F := Ideal) x0 x1 x2 x3 x4 x5 x6) (k0_pay47 (F := Ideal) x0 x1 x2 x3 x4 x5 x6) hB (ix3 h i j) = A.sk h i j := by
  rw [p28]; simp only [H.v46, H.v47]; rfl

/-- The norms of the skew directions. -/
theorem v29 (h) : k0_pay29 (F := Ideal) (k0_pay46 (F := Ideal) x0 x1 x2 x3 x4 x5 x6) (k0_pay47 (F := Ideal) x0 x1 x2 x3 x4 x5 x6) hB (ix1 h) = A.na h := by
  rw [p29]; simp only [H.v28]; rfl

/-- The caps on the step sizes. -/
theorem v30 (h) : k0_pay30 (F := Ideal) (k0_pay46 (F := Ideal) x0 x1 x2 x3 x4 x5 x6) (k0_pay47 (F := Ideal) x0 x1 x2 x3 x4 x5 x6) hB (ix1 h) = A.am h := by
  rw [p30, H.v29]; rfl

/-- The step sizes. -/
theorem v31 (h i j) : k0_pay31 (F := Ideal) (k0_pay46 (F := Ideal) x0 x1 x2 x3 x4 x5 x6) (k0_pay47 (F := Ideal) x0 x1 x2 x3 x4 x5 x6) hB x6 (ix3 h i j) = A.al h := by
  rw [p31, H.v30, H.lr]; rfl

/-- The new momentum. -/
theorem v32 (h i j) : k0_pay32 (F := Ideal) x3 (k0_pay46 (F := Ideal) x0 x1 x2 x3 x4 x5 x6) (k0_pay47 (F := Ideal) x0 x1 x2 x3 x4 x5 x6) hB (ix3 h i j) = A.mn h i j := by
  rw [p32]; simp only [H.v28, H.r]; rfl

/-- The skew direction times the momentum. -/
theorem v33 (h i j) : k0_pay33 (F := Ideal) (k0_pay45 (F := Ideal) x0 x1 x2 x3 x4 x5 x6) (k0_pay46 (F := Ideal) x0 x1 x2 x3 x4 x5 x6) (k0_pay47 (F := Ideal) x0 x1 x2 x3 x4 x5 x6) hB (ix3 h i j) = A.c1 h i j := by
  rw [p33]; simp only [H.v28, H.v45]; rfl

/-- The skew direction times the first approximation of the change. -/
theorem v34 (h i j) : k0_pay34 (F := Ideal) x3 (k0_pay45 (F := Ideal) x0 x1 x2 x3 x4 x5 x6) (k0_pay46 (F := Ideal) x0 x1 x2 x3 x4 x5 x6) (k0_pay47 (F := Ideal) x0 x1 x2 x3 x4 x5 x6) hB x6 (ix3 h i j) = A.c2 h i j := by
  rw [p34]; simp only [H.v28, H.v31, H.v32, H.v33]; rfl

/-- The change of the rotation. -/
theorem v35 (h i j) : k0_pay35 (F := Ideal) x3 (k0_pay45 (F := Ideal) x0 x1 x2 x3 x4 x5 x6) (k0_pay46 (F := Ideal) x0 x1 x2 x3 x4 x5 x6) (k0_pay47 (F := Ideal) x0 x1 x2 x3 x4 x5 x6) hB x6 (ix3 h i j) = A.st h i j := by
  rw [p35]; simp only [H.v31, H.v32, H.v34]; rfl

/-- The same change, under its other name. -/
theorem v48 (h i j) : (k0_pay48 (F := Ideal) x0 x1 x2 x3 x4 x5 x6) (ix3 h i j) = A.st h i j := by
  unfold k0_pay48; rw [l0, l8]; exact H.v35 h i j

/-- The new momentum's scales. -/
theorem v1 (h i j) : k0_pay1 (F := Ideal) (k0_pay49 (F := Ideal) x0 x1 x2 x3 x4 x5 x6) (k0_pay50 (F := Ideal) x0 x1 x2 x3 x4 x5 x6) (k0_pay51 (F := Ideal) x0 x1 x2 x3 x4 x5 x6) (ix3 h i j) = A.sm h i := by
  unfold k0_pay49 k0_pay50 k0_pay51; rw [l0, p1, p36]; simp only [H.v32]; rfl

/-- Result 0 of the reference. -/
theorem out7 : out0_7 (F := Ideal) x0 x1 x2 x3 x4 x5 x6 = G8 A := by
  unfold out0_7
  rw [View.canon_cons_unit_lit _ _ _ (by decide)]
  refine fx3 fun a b c => ?_
  rw [l0, p2, H.r, H.v48]; rfl

/-- Result 1 of the reference. -/
theorem out8 : out0_8 (F := Ideal) x0 x1 x2 x3 x4 x5 x6 = G9 A := by
  unfold out0_8
  rw [View.canon_cons_unit_lit _ _ _ (by decide)]
  refine fx3 fun a b c => ?_
  exact H.v48 _ _ _

/-- Result 2 of the reference. -/
theorem out9 : out0_9 (F := Ideal) x0 x1 x2 x3 x4 x5 x6 = G10 A := by
  unfold out0_9
  rw [View.canon_cons_unit_lit _ _ _ (by decide)]
  refine fx3 fun a b c => ?_
  exact H.v33 _ _ _

/-- Result 3 of the reference. -/
theorem out10 : out0_10 (F := Ideal) x0 x1 x2 x3 x4 x5 x6 = G11 A := by
  unfold out0_10
  rw [View.canon_cons_unit_lit _ _ _ (by decide)]
  refine fx3 fun a b c => ?_
  rw [l0, l8]; exact H.v34 _ _ _

/-- Result 4 of the reference. -/
theorem out11 : out0_11 (F := Ideal) x0 x1 x2 x3 x4 x5 x6 = G12 A := by
  unfold out0_11
  rw [View.canon_cons_unit_lit _ _ _ (by decide)]
  refine fx1 fun a => ?_
  exact H.v29 _

/-- Result 5 of the reference. -/
theorem out12 : out0_12 (F := Ideal) x0 x1 x2 x3 x4 x5 x6 = G13 A := by
  unfold out0_12
  rw [View.canon_cons_unit_lit _ _ _ (by decide)]
  refine fx1 fun a => ?_
  exact H.v30 _

/-- Result 6 of the reference. -/
theorem out13 : out0_13 (F := Ideal) x0 x1 x2 x3 x4 x5 x6 = G14 A := by
  unfold out0_13
  rw [View.canon_cons_unit_lit _ _ _ (by decide)]
  refine fx2 fun a b => ?_
  rw [l3]; exact H.v20 _ _

/-- Result 7 of the reference. -/
theorem out14 : out0_14 (F := Ideal) x0 x1 x2 x3 x4 x5 x6 = G15 A := by
  unfold out0_14
  rw [View.canon_cons_unit_lit _ _ _ (by decide)]
  refine fx2 fun a b => ?_
  rw [l0, l2, p24]; exact H.v16 _ _

/-- Result 8 of the reference. -/
theorem out15 : out0_15 (F := Ideal) x0 x1 x2 x3 x4 x5 x6 = G16 A := by
  unfold out0_15
  rw [View.canon_cons_unit_lit _ _ _ (by decide)]
  refine fx2 fun a b => ?_
  rw [l3]; exact H.v19 _ _

/-- Result 9 of the reference. -/
theorem out16 : out0_16 (F := Ideal) x0 x1 x2 x3 x4 x5 x6 = G17 A := by
  unfold out0_16
  rw [View.canon_cons_unit_lit _ _ _ (by decide)]
  refine fx3 fun a b c => ?_
  rw [p22, H.v44]; rfl

/-- Result 10 of the reference. -/
theorem out17 : out0_17 (F := Ideal) x0 x1 x2 x3 x4 x5 x6 = G18 A := by
  unfold out0_17
  rw [View.canon_cons_unit_lit _ _ _ (by decide)]
  refine fx2 fun a b => ?_
  exact H.v41 _ _

/-- Result 11 of the reference. -/
theorem out18 : out0_18 (F := Ideal) x0 x1 x2 x3 x4 x5 x6 = G19 A := by
  unfold out0_18
  rw [View.canon_cons_unit_lit _ _ _ (by decide)]
  refine fx2 fun a b => ?_
  rw [p23]; exact H.v40 _ _

/-- Result 12 of the reference. -/
theorem out19 : out0_19 (F := Ideal) x0 x1 x2 x3 x4 x5 x6 = G20 A := by
  unfold out0_19
  rw [View.canon_cons_unit_lit _ _ _ (by decide)]
  refine fx2 fun a b => ?_
  exact H.v14 _ _

/-- Result 13 of the reference. -/
theorem out20 : out0_20 (F := Ideal) x0 x1 x2 x3 x4 x5 x6 = G21 A := by
  unfold out0_20
  rw [View.canon_cons_unit_lit _ _ _ (by decide)]
  refine fx2 fun a b => ?_
  rw [p15]; exact H.v42 _ _

/-- Result 14 of the reference. -/
theorem out21 : out0_21 (F := Ideal) x0 x1 x2 x3 x4 x5 x6 = G22 A := by
  unfold out0_21
  rw [View.canon_cons_unit_lit _ _ _ (by decide)]
  refine fx2 fun a b => ?_
  rw [p3, l0, H.v1, H.v32]; rfl

/-- Result 15 of the reference. -/
theorem out22 : out0_22 (F := Ideal) x0 x1 x2 x3 x4 x5 x6 = G23 A := by
  unfold out0_22
  rw [View.canon_cons_unit_lit _ _ _ (by decide)]
  refine fx2 fun a b => ?_
  rw [p4]; exact H.v1 _ _ _

end Holds

end Cert.ReferenceIdeal.Spin

end
-- ==== Proof.Ref.lean ====
/- The reference's results after the run. -/
module

public import proofs.«01_k».proof.Proof.RefVal
public import proofs.«01_k».proof.Proof.Gen.ReferenceIdeal.Value

@[expose] public section

set_option maxRecDepth 16384

noncomputable section

namespace Cert.ReferenceIdeal.Spin

open Idealize.ShloMosaic Idealize.ShloMosaic.TcCoe Idealize.SL.Sem Cert.ReferenceIdeal.Gen _root_.Spin
open Idealize.ShloMosaic.Pipeline (Cfg Dat)

variable (m : (ℓ : Loc nD τ sig) → Buf (Elt Ideal) ℓ) (c : Dev nD)

/-- The arguments in a memory. -/
def args : D where
  x s d := (m ((c.tc : Thread nD τ).loc main_arg0) : S1x256x3584.Idx → EReal) (ix3 0 s d)
  w n d := (m ((c.tc : Thread nD τ).loc main_arg1) : S4608x3584.Idx → EReal) (ix2 n d)
  y s n := (m ((c.tc : Thread nD τ).loc main_arg2) : S1x256x4608.Idx → EReal) (ix3 0 s n)
  r h i j := (m ((c.tc : Thread nD τ).loc main_arg3) : S28x128x128.Idx → EReal) (ix3 h i j)
  mc h i j := (m ((c.tc : Thread nD τ).loc main_arg4) : S28x128x128.Idx → BitVec 8) (ix3 h i j)
  ms h i := (m ((c.tc : Thread nD τ).loc main_arg5) : S28x128.Idx → EReal) (ix2 h i)
  lr h := (m ((c.tc : Thread nD τ).loc main_arg6) : S28.Idx → EReal) (ix1 h)

/-- At step `t` window 0 is at block `0, 0`. -/
theorem index0 : ∀ t : Fin cfg0.N, win0_0.index t = ![0, 0] := by decide
/-- At step `t` window 1 is at block `0, 0`. -/
theorem index1 : ∀ t : Fin cfg0.N, win0_1.index t = ![0, 0] := by decide
/-- At step `t` window 2 is at block `0, 0`. -/
theorem index2 : ∀ t : Fin cfg0.N, win0_2.index t = ![0, 0] := by decide
/-- At step `t` window 3 is at block `0, 0, 0`. -/
theorem index3 : ∀ t : Fin cfg0.N, win0_3.index t = ![0, 0, 0] := by decide
/-- At step `t` window 4 is at block `0, 0, 0`. -/
theorem index4 : ∀ t : Fin cfg0.N, win0_4.index t = ![0, 0, 0] := by decide
/-- At step `t` window 5 is at block `0, 0`. -/
theorem index5 : ∀ t : Fin cfg0.N, win0_5.index t = ![0, 0] := by decide
/-- At step `t` window 6 is at block `0`. -/
theorem index6 : ∀ t : Fin cfg0.N, win0_6.index t = ![0] := by decide
/-- At step `t` window 7 is at block `0, 0, 0`. -/
theorem index7 : ∀ t : Fin cfg0.N, win0_7.index t = ![0, 0, 0] := by decide
/-- At step `t` window 8 is at block `0, 0, 0`. -/
theorem index8 : ∀ t : Fin cfg0.N, win0_8.index t = ![0, 0, 0] := by decide
/-- At step `t` window 9 is at block `0, 0, 0`. -/
theorem index9 : ∀ t : Fin cfg0.N, win0_9.index t = ![0, 0, 0] := by decide
/-- At step `t` window 10 is at block `0, 0, 0`. -/
theorem index10 : ∀ t : Fin cfg0.N, win0_10.index t = ![0, 0, 0] := by decide
/-- At step `t` window 11 is at block `0`. -/
theorem index11 : ∀ t : Fin cfg0.N, win0_11.index t = ![0] := by decide
/-- At step `t` window 12 is at block `0`. -/
theorem index12 : ∀ t : Fin cfg0.N, win0_12.index t = ![0] := by decide
/-- At step `t` window 13 is at block `0, 0`. -/
theorem index13 : ∀ t : Fin cfg0.N, win0_13.index t = ![0, 0] := by decide
/-- At step `t` window 14 is at block `0, 0`. -/
theorem index14 : ∀ t : Fin cfg0.N, win0_14.index t = ![0, 0] := by decide
/-- At step `t` window 15 is at block `0, 0`. -/
theorem index15 : ∀ t : Fin cfg0.N, win0_15.index t = ![0, 0] := by decide
/-- At step `t` window 16 is at block `0, 0, 0`. -/
theorem index16 : ∀ t : Fin cfg0.N, win0_16.index t = ![0, 0, 0] := by decide
/-- At step `t` window 17 is at block `0, 0`. -/
theorem index17 : ∀ t : Fin cfg0.N, win0_17.index t = ![0, 0] := by decide
/-- At step `t` window 18 is at block `0, 0`. -/
theorem index18 : ∀ t : Fin cfg0.N, win0_18.index t = ![0, 0] := by decide
/-- At step `t` window 19 is at block `0, 0`. -/
theorem index19 : ∀ t : Fin cfg0.N, win0_19.index t = ![0, 0] := by decide
/-- At step `t` window 20 is at block `0, 0`. -/
theorem index20 : ∀ t : Fin cfg0.N, win0_20.index t = ![0, 0] := by decide
/-- At step `t` window 21 is at block `0, 0`. -/
theorem index21 : ∀ t : Fin cfg0.N, win0_21.index t = ![0, 0] := by decide
/-- At step `t` window 22 is at block `0, 0`. -/
theorem index22 : ∀ t : Fin cfg0.N, win0_22.index t = ![0, 0] := by decide

/-- The blocks of the only step are the arguments. -/
theorem holds (t : Fin cfg0.N) : Holds (args m c) (iblk m c 0 t) (iblk m c 1 t) (iblk m c 2 t) (iblk m c 3 t) (iblk m c 4 t) (iblk m c 5 t) (iblk m c 6 t) where
  x s d := by
    blk_simp [iblk]; entry_read; pointwise
    unfold args
    blk_ext [index0]
  w n d := by
    blk_simp [iblk]
    rw [V_main_arg1]
    refine congrArg (m _) (funext fun a => Fin.ext ?_)
    match a with
    | ⟨0, _⟩ => blk_simp [index1]
    | ⟨1, _⟩ => blk_simp [index1]
  y s n := by
    blk_simp [iblk]; entry_read; pointwise
    unfold args
    blk_ext [index2]
  r h i j := by
    blk_simp [iblk]
    rw [V_main_arg3]
    refine congrArg (m _) (funext fun a => Fin.ext ?_)
    match a with
    | ⟨0, _⟩ => blk_simp [index3]
    | ⟨1, _⟩ => blk_simp [index3]
    | ⟨2, _⟩ => blk_simp [index3]
  mc h i j := by
    blk_simp [iblk]
    rw [V_main_arg4]
    refine congrArg (m _) (funext fun a => Fin.ext ?_)
    match a with
    | ⟨0, _⟩ => blk_simp [index4]
    | ⟨1, _⟩ => blk_simp [index4]
    | ⟨2, _⟩ => blk_simp [index4]
  ms h i := by
    blk_simp [iblk]
    rw [V_main_arg5]
    refine congrArg (m _) (funext fun a => Fin.ext ?_)
    match a with
    | ⟨0, _⟩ => blk_simp [index5]
    | ⟨1, _⟩ => blk_simp [index5]
  lr h := by
    blk_simp [iblk]
    rw [V_main_arg6]
    refine congrArg (m _) (funext fun a => Fin.ext ?_)
    match a with
    | ⟨0, _⟩ => blk_simp [index6]

/-- Result 0 after the run. -/
theorem fin8 : (dats m 0 c).arrAt 7 cfg0.N = G8 (args m c) := by
  refine Dat.arrAt_eq_of_covers _ 7 _ (by decide +kernel) fun t hf y => ?_
  · have hQ : (dats m 0 c).after 7 t = G8 (args m c) := (after0_7 m c t).trans (holds m c t).out7
    rw [hQ]
    blk_simp
    refine congrArg (G8 (args m c)) (funext fun a => Fin.ext ?_)
    match a with
    | ⟨0, _⟩ => blk_simp [index7]
    | ⟨1, _⟩ => blk_simp [index7]
    | ⟨2, _⟩ => blk_simp [index7]

/-- Result 1 after the run. -/
theorem fin9 : (dats m 0 c).arrAt 8 cfg0.N = G9 (args m c) := by
  refine Dat.arrAt_eq_of_covers _ 8 _ (by decide +kernel) fun t hf y => ?_
  · have hQ : (dats m 0 c).after 8 t = G9 (args m c) := (after0_8 m c t).trans (holds m c t).out8
    rw [hQ]
    blk_simp
    refine congrArg (G9 (args m c)) (funext fun a => Fin.ext ?_)
    match a with
    | ⟨0, _⟩ => blk_simp [index8]
    | ⟨1, _⟩ => blk_simp [index8]
    | ⟨2, _⟩ => blk_simp [index8]

/-- Result 2 after the run. -/
theorem fin10 : (dats m 0 c).arrAt 9 cfg0.N = G10 (args m c) := by
  refine Dat.arrAt_eq_of_covers _ 9 _ (by decide +kernel) fun t hf y => ?_
  · have hQ : (dats m 0 c).after 9 t = G10 (args m c) := (after0_9 m c t).trans (holds m c t).out9
    rw [hQ]
    blk_simp
    refine congrArg (G10 (args m c)) (funext fun a => Fin.ext ?_)
    match a with
    | ⟨0, _⟩ => blk_simp [index9]
    | ⟨1, _⟩ => blk_simp [index9]
    | ⟨2, _⟩ => blk_simp [index9]

/-- Result 3 after the run. -/
theorem fin11 : (dats m 0 c).arrAt 10 cfg0.N = G11 (args m c) := by
  refine Dat.arrAt_eq_of_covers _ 10 _ (by decide +kernel) fun t hf y => ?_
  · have hQ : (dats m 0 c).after 10 t = G11 (args m c) := (after0_10 m c t).trans (holds m c t).out10
    rw [hQ]
    blk_simp
    refine congrArg (G11 (args m c)) (funext fun a => Fin.ext ?_)
    match a with
    | ⟨0, _⟩ => blk_simp [index10]
    | ⟨1, _⟩ => blk_simp [index10]
    | ⟨2, _⟩ => blk_simp [index10]

/-- Result 4 after the run. -/
theorem fin12 : (dats m 0 c).arrAt 11 cfg0.N = G12 (args m c) := by
  refine Dat.arrAt_eq_of_covers _ 11 _ (by decide +kernel) fun t hf y => ?_
  · have hQ : (dats m 0 c).after 11 t = G12 (args m c) := (after0_11 m c t).trans (holds m c t).out11
    rw [hQ]
    blk_simp
    refine congrArg (G12 (args m c)) (funext fun a => Fin.ext ?_)
    match a with
    | ⟨0, _⟩ => blk_simp [index11]

/-- Result 5 after the run. -/
theorem fin13 : (dats m 0 c).arrAt 12 cfg0.N = G13 (args m c) := by
  refine Dat.arrAt_eq_of_covers _ 12 _ (by decide +kernel) fun t hf y => ?_
  · have hQ : (dats m 0 c).after 12 t = G13 (args m c) := (after0_12 m c t).trans (holds m c t).out12
    rw [hQ]
    blk_simp
    refine congrArg (G13 (args m c)) (funext fun a => Fin.ext ?_)
    match a with
    | ⟨0, _⟩ => blk_simp [index12]

/-- Result 6 after the run. -/
theorem fin14 : (dats m 0 c).arrAt 13 cfg0.N = G14 (args m c) := by
  refine Dat.arrAt_eq_of_covers _ 13 _ (by decide +kernel) fun t hf y => ?_
  · have hQ : (dats m 0 c).after 13 t = G14 (args m c) := (after0_13 m c t).trans (holds m c t).out13
    rw [hQ]
    blk_simp
    refine congrArg (G14 (args m c)) (funext fun a => Fin.ext ?_)
    match a with
    | ⟨0, _⟩ => blk_simp [index13]
    | ⟨1, _⟩ => blk_simp [index13]

/-- Result 7 after the run. -/
theorem fin15 : (dats m 0 c).arrAt 14 cfg0.N = G15 (args m c) := by
  refine Dat.arrAt_eq_of_covers _ 14 _ (by decide +kernel) fun t hf y => ?_
  · have hQ : (dats m 0 c).after 14 t = G15 (args m c) := (after0_14 m c t).trans (holds m c t).out14
    rw [hQ]
    blk_simp
    refine congrArg (G15 (args m c)) (funext fun a => Fin.ext ?_)
    match a with
    | ⟨0, _⟩ => blk_simp [index14]
    | ⟨1, _⟩ => blk_simp [index14]

/-- Result 8 after the run. -/
theorem fin16 : (dats m 0 c).arrAt 15 cfg0.N = G16 (args m c) := by
  refine Dat.arrAt_eq_of_covers _ 15 _ (by decide +kernel) fun t hf y => ?_
  · have hQ : (dats m 0 c).after 15 t = G16 (args m c) := (after0_15 m c t).trans (holds m c t).out15
    rw [hQ]
    blk_simp
    refine congrArg (G16 (args m c)) (funext fun a => Fin.ext ?_)
    match a with
    | ⟨0, _⟩ => blk_simp [index15]
    | ⟨1, _⟩ => blk_simp [index15]

/-- Result 9 after the run. -/
theorem fin17 : (dats m 0 c).arrAt 16 cfg0.N = G17 (args m c) := by
  refine Dat.arrAt_eq_of_covers _ 16 _ (by decide +kernel) fun t hf y => ?_
  · have hQ : (dats m 0 c).after 16 t = G17 (args m c) := (after0_16 m c t).trans (holds m c t).out16
    rw [hQ]
    blk_simp
    refine congrArg (G17 (args m c)) (funext fun a => Fin.ext ?_)
    match a with
    | ⟨0, _⟩ => blk_simp [index16]
    | ⟨1, _⟩ => blk_simp [index16]
    | ⟨2, _⟩ => blk_simp [index16]

/-- Result 10 after the run. -/
theorem fin18 : (dats m 0 c).arrAt 17 cfg0.N = G18 (args m c) := by
  refine Dat.arrAt_eq_of_covers _ 17 _ (by decide +kernel) fun t hf y => ?_
  · have hQ : (dats m 0 c).after 17 t = G18 (args m c) := (after0_17 m c t).trans (holds m c t).out17
    rw [hQ]
    blk_simp
    refine congrArg (G18 (args m c)) (funext fun a => Fin.ext ?_)
    match a with
    | ⟨0, _⟩ => blk_simp [index17]
    | ⟨1, _⟩ => blk_simp [index17]

/-- Result 11 after the run. -/
theorem fin19 : (dats m 0 c).arrAt 18 cfg0.N = G19 (args m c) := by
  refine Dat.arrAt_eq_of_covers _ 18 _ (by decide +kernel) fun t hf y => ?_
  · have hQ : (dats m 0 c).after 18 t = G19 (args m c) := (after0_18 m c t).trans (holds m c t).out18
    rw [hQ]
    blk_simp
    refine congrArg (G19 (args m c)) (funext fun a => Fin.ext ?_)
    match a with
    | ⟨0, _⟩ => blk_simp [index18]
    | ⟨1, _⟩ => blk_simp [index18]

/-- Result 12 after the run. -/
theorem fin20 : (dats m 0 c).arrAt 19 cfg0.N = G20 (args m c) := by
  refine Dat.arrAt_eq_of_covers _ 19 _ (by decide +kernel) fun t hf y => ?_
  · have hQ : (dats m 0 c).after 19 t = G20 (args m c) := (after0_19 m c t).trans (holds m c t).out19
    rw [hQ]
    blk_simp
    refine congrArg (G20 (args m c)) (funext fun a => Fin.ext ?_)
    match a with
    | ⟨0, _⟩ => blk_simp [index19]
    | ⟨1, _⟩ => blk_simp [index19]

/-- Result 13 after the run. -/
theorem fin21 : (dats m 0 c).arrAt 20 cfg0.N = G21 (args m c) := by
  refine Dat.arrAt_eq_of_covers _ 20 _ (by decide +kernel) fun t hf y => ?_
  · have hQ : (dats m 0 c).after 20 t = G21 (args m c) := (after0_20 m c t).trans (holds m c t).out20
    rw [hQ]
    blk_simp
    refine congrArg (G21 (args m c)) (funext fun a => Fin.ext ?_)
    match a with
    | ⟨0, _⟩ => blk_simp [index20]
    | ⟨1, _⟩ => blk_simp [index20]

/-- Result 14 after the run. -/
theorem fin22 : (dats m 0 c).arrAt 21 cfg0.N = G22 (args m c) := by
  refine Dat.arrAt_eq_of_covers _ 21 _ (by decide +kernel) fun t hf y => ?_
  · have hQ : (dats m 0 c).after 21 t = G22 (args m c) := (after0_21 m c t).trans (holds m c t).out21
    rw [hQ]
    blk_simp
    refine congrArg (G22 (args m c)) (funext fun a => Fin.ext ?_)
    match a with
    | ⟨0, _⟩ => blk_simp [index21]
    | ⟨1, _⟩ => blk_simp [index21]

/-- Result 15 after the run. -/
theorem fin23 : (dats m 0 c).arrAt 22 cfg0.N = G23 (args m c) := by
  refine Dat.arrAt_eq_of_covers _ 22 _ (by decide +kernel) fun t hf y => ?_
  · have hQ : (dats m 0 c).after 22 t = G23 (args m c) := (after0_22 m c t).trans (holds m c t).out22
    rw [hQ]
    blk_simp
    refine congrArg (G23 (args m c)) (funext fun a => Fin.ext ?_)
    match a with
    | ⟨0, _⟩ => blk_simp [index22]
    | ⟨1, _⟩ => blk_simp [index22]

end Cert.ReferenceIdeal.Spin

end
-- ==== Proof.Alg.lean ====
/- The two programs agree over the extended reals. -/
module

public import proofs.«01_k».proof.Defs
public import proofs.«01_k».proof.Proof.Fin
public import proofs.«01_k».proof.Proof.FrameRun
public import proofs.«01_k».proof.Proof.Ref

@[expose] public section

noncomputable section

namespace Cert.Spin

open Idealize.ShloMosaic Idealize.SL.Sem _root_.Spin

/-- The arguments from their arrays. -/
def mkD (a0 : (⟨3, ![1, 256, 3584]⟩ : Shape).Idx → EReal) (a1 : (⟨2, ![4608, 3584]⟩ : Shape).Idx → EReal)
    (a2 : (⟨3, ![1, 256, 4608]⟩ : Shape).Idx → EReal) (a3 : (⟨3, ![28, 128, 128]⟩ : Shape).Idx → EReal)
    (a4 : (⟨3, ![28, 128, 128]⟩ : Shape).Idx → BitVec 8) (a5 : (⟨2, ![28, 128]⟩ : Shape).Idx → EReal)
    (a6 : (⟨1, ![28]⟩ : Shape).Idx → EReal) : D where
  x s d := a0 (ix3 0 s d)
  w n d := a1 (ix2 n d)
  y s n := a2 (ix3 0 s n)
  r h i j := a3 (ix3 h i j)
  mc h i j := a4 (ix3 h i j)
  ms h i := a5 (ix2 h i)
  lr h := a6 (ix1 h)

/-- Equal arrays give equal arguments. -/
theorem mkD_congr {a0 b0 a1 b1 a2 b2 a3 b3 a4 b4 a5 b5 a6 b6} (h0 : a0 = b0) (h1 : a1 = b1) (h2 : a2 = b2) (h3 : a3 = b3)
    (h4 : a4 = b4) (h5 : a5 = b5) (h6 : a6 = b6) : mkD a0 a1 a2 a3 a4 a5 a6 = mkD b0 b1 b2 b3 b4 b5 b6 := by
  subst h0 h1 h2 h3 h4 h5 h6; rfl

/-- The kernel's run: its results as functions of the arguments, the arguments unchanged. -/
theorem kernel_all (m : KernelIdeal.Spin.MemT) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v2_0) = G8 (KernelIdeal.Spin.args m c)
      ∧ r.2.mem ((c.tc : Thread KernelIdeal.nD KernelIdeal.τ).loc KernelIdeal.main_v2_1) = G9 (KernelIdeal.Spin.args m c)
      ∧ r.2.mem ((c.tc : Thread KernelIdeal.nD KernelIdeal.τ).loc KernelIdeal.main_v2_2) = G10 (KernelIdeal.Spin.args m c)
      ∧ r.2.mem ((c.tc : Thread KernelIdeal.nD KernelIdeal.τ).loc KernelIdeal.main_v2_3) = G11 (KernelIdeal.Spin.args m c)
      ∧ r.2.mem ((c.tc : Thread KernelIdeal.nD KernelIdeal.τ).loc KernelIdeal.main_v2_4) = G12 (KernelIdeal.Spin.args m c)
      ∧ r.2.mem ((c.tc : Thread KernelIdeal.nD KernelIdeal.τ).loc KernelIdeal.main_v2_5) = G13 (KernelIdeal.Spin.args m c)
      ∧ r.2.mem ((c.tc : Thread KernelIdeal.nD KernelIdeal.τ).loc KernelIdeal.main_v2_6) = G14 (KernelIdeal.Spin.args m c)
      ∧ r.2.mem ((c.tc : Thread KernelIdeal.nD KernelIdeal.τ).loc KernelIdeal.main_v2_7) = G15 (KernelIdeal.Spin.args m c)
      ∧ r.2.mem ((c.tc : Thread KernelIdeal.nD KernelIdeal.τ).loc KernelIdeal.main_v2_8) = G16 (KernelIdeal.Spin.args m c)
      ∧ r.2.mem ((c.tc : Thread KernelIdeal.nD KernelIdeal.τ).loc KernelIdeal.main_v2_9) = G17 (KernelIdeal.Spin.args m c)
      ∧ r.2.mem ((c.tc : Thread KernelIdeal.nD KernelIdeal.τ).loc KernelIdeal.main_v2_10) = G18 (KernelIdeal.Spin.args m c)
      ∧ r.2.mem ((c.tc : Thread KernelIdeal.nD KernelIdeal.τ).loc KernelIdeal.main_v2_11) = G19 (KernelIdeal.Spin.args m c)
      ∧ r.2.mem ((c.tc : Thread KernelIdeal.nD KernelIdeal.τ).loc KernelIdeal.main_v2_12) = G20 (KernelIdeal.Spin.args m c)
      ∧ r.2.mem ((c.tc : Thread KernelIdeal.nD KernelIdeal.τ).loc KernelIdeal.main_v2_13) = G21 (KernelIdeal.Spin.args m c)
      ∧ r.2.mem ((c.tc : Thread KernelIdeal.nD KernelIdeal.τ).loc KernelIdeal.main_v2_14) = G22 (KernelIdeal.Spin.args m c)
      ∧ r.2.mem ((c.tc : Thread KernelIdeal.nD KernelIdeal.τ).loc KernelIdeal.main_v2_15) = G23 (KernelIdeal.Spin.args m c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)) :=
  (θ_run _ _ _).mono (fun r h c => by
      obtain ⟨h8, h9, h10, h11, h12, h13, h14, h15, h16, h17, h18, h19, h20, h21, h22, h23⟩ := h.1 c
      obtain ⟨k0, k1, k2, k3, k4, k5, k6⟩ := h.2.1 c
      exact ⟨h8, h9, h10, h11, h12, h13, h14, h15, h16, h17, h18, h19, h20, h21, h22, h23, k0, k1, k2, k3, k4, k5, k6⟩)
    (θ_run_and (KernelIdeal.Spin.kernel_run m g) (KernelIdeal.Spin.frame_run (F := Ideal) m g))

/-- The reference's run: its results as functions of the arguments, the arguments unchanged. -/
theorem reference_all (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v2_0) = G8 (ReferenceIdeal.Spin.args m c)
      ∧ r.2.mem ((c.tc : Thread ReferenceIdeal.nD ReferenceIdeal.τ).loc ReferenceIdeal.main_v2_1) = G9 (ReferenceIdeal.Spin.args m c)
      ∧ r.2.mem ((c.tc : Thread ReferenceIdeal.nD ReferenceIdeal.τ).loc ReferenceIdeal.main_v2_2) = G10 (ReferenceIdeal.Spin.args m c)
      ∧ r.2.mem ((c.tc : Thread ReferenceIdeal.nD ReferenceIdeal.τ).loc ReferenceIdeal.main_v2_3) = G11 (ReferenceIdeal.Spin.args m c)
      ∧ r.2.mem ((c.tc : Thread ReferenceIdeal.nD ReferenceIdeal.τ).loc ReferenceIdeal.main_v2_4) = G12 (ReferenceIdeal.Spin.args m c)
      ∧ r.2.mem ((c.tc : Thread ReferenceIdeal.nD ReferenceIdeal.τ).loc ReferenceIdeal.main_v2_5) = G13 (ReferenceIdeal.Spin.args m c)
      ∧ r.2.mem ((c.tc : Thread ReferenceIdeal.nD ReferenceIdeal.τ).loc ReferenceIdeal.main_v2_6) = G14 (ReferenceIdeal.Spin.args m c)
      ∧ r.2.mem ((c.tc : Thread ReferenceIdeal.nD ReferenceIdeal.τ).loc ReferenceIdeal.main_v2_7) = G15 (ReferenceIdeal.Spin.args m c)
      ∧ r.2.mem ((c.tc : Thread ReferenceIdeal.nD ReferenceIdeal.τ).loc ReferenceIdeal.main_v2_8) = G16 (ReferenceIdeal.Spin.args m c)
      ∧ r.2.mem ((c.tc : Thread ReferenceIdeal.nD ReferenceIdeal.τ).loc ReferenceIdeal.main_v2_9) = G17 (ReferenceIdeal.Spin.args m c)
      ∧ r.2.mem ((c.tc : Thread ReferenceIdeal.nD ReferenceIdeal.τ).loc ReferenceIdeal.main_v2_10) = G18 (ReferenceIdeal.Spin.args m c)
      ∧ r.2.mem ((c.tc : Thread ReferenceIdeal.nD ReferenceIdeal.τ).loc ReferenceIdeal.main_v2_11) = G19 (ReferenceIdeal.Spin.args m c)
      ∧ r.2.mem ((c.tc : Thread ReferenceIdeal.nD ReferenceIdeal.τ).loc ReferenceIdeal.main_v2_12) = G20 (ReferenceIdeal.Spin.args m c)
      ∧ r.2.mem ((c.tc : Thread ReferenceIdeal.nD ReferenceIdeal.τ).loc ReferenceIdeal.main_v2_13) = G21 (ReferenceIdeal.Spin.args m c)
      ∧ r.2.mem ((c.tc : Thread ReferenceIdeal.nD ReferenceIdeal.τ).loc ReferenceIdeal.main_v2_14) = G22 (ReferenceIdeal.Spin.args m c)
      ∧ r.2.mem ((c.tc : Thread ReferenceIdeal.nD ReferenceIdeal.τ).loc ReferenceIdeal.main_v2_15) = G23 (ReferenceIdeal.Spin.args m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)) :=
  (θ_run _ _ _).mono (fun r h c => by
      obtain ⟨h8, h9, h10, h11, h12, h13, h14, h15, h16, h17, h18, h19, h20, h21, h22, h23, k0, k1, k2, k3, k4, k5, k6⟩ := h c
      exact ⟨h8.trans (ReferenceIdeal.Spin.fin8 m c), h9.trans (ReferenceIdeal.Spin.fin9 m c), h10.trans (ReferenceIdeal.Spin.fin10 m c), h11.trans (ReferenceIdeal.Spin.fin11 m c), h12.trans (ReferenceIdeal.Spin.fin12 m c), h13.trans (ReferenceIdeal.Spin.fin13 m c), h14.trans (ReferenceIdeal.Spin.fin14 m c), h15.trans (ReferenceIdeal.Spin.fin15 m c), h16.trans (ReferenceIdeal.Spin.fin16 m c), h17.trans (ReferenceIdeal.Spin.fin17 m c), h18.trans (ReferenceIdeal.Spin.fin18 m c), h19.trans (ReferenceIdeal.Spin.fin19 m c), h20.trans (ReferenceIdeal.Spin.fin20 m c), h21.trans (ReferenceIdeal.Spin.fin21 m c), h22.trans (ReferenceIdeal.Spin.fin22 m c), h23.trans (ReferenceIdeal.Spin.fin23 m c), k0, k1, k2, k3, k4, k5, k6⟩)
    (ReferenceIdeal.Value.run_blocks (F := Ideal) m g)

/-- From equal arguments both programs end with equal results, all sixteen of them, and unchanged arguments. -/
theorem algebraic [KernelIdeal.Facts] [ReferenceIdeal.Facts] : algebraic_KernelIdeal_ReferenceIdeal := by
  intro m g m' g' _ hm
  have e : ∀ c : Dev KernelIdeal.nD, ReferenceIdeal.Spin.args m' c = KernelIdeal.Spin.args m c := fun c => by
    obtain ⟨k0, k1, k2, k3, k4, k5, k6⟩ := hm c
    exact mkD_congr k0 k1 k2 k3 k4 k5 k6
  refine ⟨fun c => G8 (KernelIdeal.Spin.args m c), fun c => G9 (KernelIdeal.Spin.args m c), fun c => G10 (KernelIdeal.Spin.args m c), fun c => G11 (KernelIdeal.Spin.args m c), fun c => G12 (KernelIdeal.Spin.args m c), fun c => G13 (KernelIdeal.Spin.args m c), fun c => G14 (KernelIdeal.Spin.args m c), fun c => G15 (KernelIdeal.Spin.args m c), fun c => G16 (KernelIdeal.Spin.args m c), fun c => G17 (KernelIdeal.Spin.args m c), fun c => G18 (KernelIdeal.Spin.args m c), fun c => G19 (KernelIdeal.Spin.args m c), fun c => G20 (KernelIdeal.Spin.args m c), fun c => G21 (KernelIdeal.Spin.args m c), fun c => G22 (KernelIdeal.Spin.args m c), fun c => G23 (KernelIdeal.Spin.args m c), kernel_all m g, ?_⟩
  refine (θ_run _ _ _).mono (fun r h c => ?_) (reference_all m' g')
  have h' := h c
  rw [e c] at h'
  exact h'

end Cert.Spin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.FrameRun
public import proofs.«01_k».proof.Proof.AsPrinted.FrameRun
public import proofs.«01_k».proof.Proof.Alg
public import proofs.«01_k».proof.Proof.Gen.ReferenceIdeal
public import proofs.«01_k».proof.Proof.Gen.ReferenceIdeal.Value
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Spin.frame_run (F := Bits) m g,
  fun m g _ => Cert.KernelIdeal.Spin.frame_run (F := Ideal) m g,
  fun m g _ => Cert.ReferenceIdeal.Gen.frame (F := Ideal) m g,
  trivial,
  Cert.Spin.algebraic⟩

end Cert.Proof

end
